-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite_diff [hPre_finite_diff : Cert.Pre_finite_diff.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite_diff.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def quiescent_DiffRefIdeal_pre_finite_diff [hDiffRefIdeal : Cert.DiffRefIdeal.Facts] [hPre_finite_diff : Cert.Pre_finite_diff.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite_diff m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3))
      ∧ r.2.sem = fun _ => 0)

def preserves_Fox_FoxIdeal : Prop :=
  IdealRules.named_const.Statement Cert.FoxIdeal.κ "mask" .f32 0xF149F2CA#32 ⊥

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v3)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v3) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v42) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v21) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v17)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v17) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v51) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11))

def preserves_Diff_DiffIdeal : Prop :=
  IdealRules.named_const.Statement Cert.DiffIdeal.κ "mask" .f32 0xF149F2CA#32 ⊥

def algebraic_DiffIdeal_DiffRefIdeal_pre_finite_diff [hDiffIdeal : Cert.DiffIdeal.Facts] [hDiffRefIdeal : Cert.DiffRefIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffIdeal_finite_diff m →
    (∀ c : Dev Cert.DiffIdeal.nD,
      m' ((c.tc : Thread Cert.DiffRefIdeal.nD Cert.DiffRefIdeal.τ).loc Cert.DiffRefIdeal.main_arg0) = m ((c.tc : Thread Cert.DiffIdeal.nD Cert.DiffIdeal.τ).loc Cert.DiffIdeal.main_arg0)
      ∧ m' ((c.tc : Thread Cert.DiffRefIdeal.nD Cert.DiffRefIdeal.τ).loc Cert.DiffRefIdeal.main_arg1) = m ((c.tc : Thread Cert.DiffIdeal.nD Cert.DiffIdeal.τ).loc Cert.DiffIdeal.main_arg1)
      ∧ m' ((c.tc : Thread Cert.DiffRefIdeal.nD Cert.DiffRefIdeal.τ).loc Cert.DiffRefIdeal.main_arg2) = m ((c.tc : Thread Cert.DiffIdeal.nD Cert.DiffIdeal.τ).loc Cert.DiffIdeal.main_arg2)
      ∧ m' ((c.tc : Thread Cert.DiffRefIdeal.nD Cert.DiffRefIdeal.τ).loc Cert.DiffRefIdeal.main_arg3) = m ((c.tc : Thread Cert.DiffIdeal.nD Cert.DiffIdeal.τ).loc Cert.DiffIdeal.main_arg3)) →
    ∃ (v0 : (c : Dev Cert.DiffIdeal.nD) → Buf (Elt Ideal) ((c.tc : Thread Cert.DiffIdeal.nD Cert.DiffIdeal.τ).loc Cert.DiffIdeal.main_v13)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v13) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v67) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3))

def Claim : Prop :=
  ∃ (hFox : Cert.Fox.Facts) (hFoxIdeal : Cert.FoxIdeal.Facts) (hFoxRefIdeal : Cert.FoxRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hDiff : Cert.Diff.Facts) (hDiffIdeal : Cert.DiffIdeal.Facts) (hDiffRefIdeal : Cert.DiffRefIdeal.Facts) (hPre_finite_diff : Cert.Pre_finite_diff.Facts),
    quiescent_Fox (hFox := hFox)
    ∧ quiescent_FoxIdeal (hFoxIdeal := hFoxIdeal)
    ∧ quiescent_FoxRefIdeal (hFoxRefIdeal := hFoxRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffRefIdeal (hDiffRefIdeal := hDiffRefIdeal)
    ∧ quiescent_DiffRefIdeal_pre_finite_diff (hDiffRefIdeal := hDiffRefIdeal) (hPre_finite_diff := hPre_finite_diff)
    ∧ preserves_Fox_FoxIdeal
    ∧ algebraic_FoxIdeal_FoxRefIdeal (hFoxIdeal := hFoxIdeal) (hFoxRefIdeal := hFoxRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Diff_DiffIdeal
    ∧ algebraic_DiffIdeal_DiffRefIdeal_pre_finite_diff (hDiffIdeal := hDiffIdeal) (hDiffRefIdeal := hDiffRefIdeal) (hPre_finite_diff := hPre_finite_diff)
-- ==== Pre_finite_diff.lean ====
abbrev S16384x256 : Shape := ⟨2, ![16384, 256]⟩
abbrev S2x256x8192 : Shape := ⟨3, ![2, 256, 8192]⟩
abbrev S4x32 : Shape := ⟨2, ![4, 32]⟩
abbrev S_ : Shape := ⟨0, ![]⟩

class Facts : Prop where
  bitsLt_bf16_f32 : FTy.bits .bf16 < FTy.bits .f32
  bcast_S_S16384x256 : S_.BroadcastsInDim S16384x256 (![] : Fin 0 → Fin S16384x256.rank)
  reducesTo_S16384x256_S_d0_1 : S16384x256.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_

variable [Facts]

def fn {F : FTy → Type} [FloatOps F] (main_arg0 : FVec F S16384x256 .bf16) (main_arg1 : FVec F S2x256x8192 .bf16) (main_arg2 : FVec F S16384x256 .bf16) (main_arg3 : FVec F S4x32 .f32) : IVec S_ 1 :=
  let main_v0 : FVec F S16384x256 .f32 := (extf .f32 · bitsLt_bf16_f32) main_arg2
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_c : IVec S_ 1 := constantI S_ 1 1#1
  let main_v4 : IVec S_ 1 := (fun x v => Host.reduce IntOp.andi x v reducesTo_S16384x256_S_d0_1 h_S_) main_v3 main_c
  let main_v5 : FVec F S4x32 .f32 := Host.absf main_arg3
  let main_cst_0 : FVec F S_ .f32 := constant S_ .f32 0x7F800000#32
  let main_v6 : FVec F S4x32 .f32 := broadcastInDim S4x32 ![] bcast_S_S4x32 main_cst_0
  let main_v7 : IVec S4x32 1 := cmpf .olt main_v5 main_v6
  let main_c_1 : IVec S_ 1 := constantI S_ 1 1#1
  let main_v8 : IVec S_ 1 := (fun x v => Host.reduce IntOp.andi x v reducesTo_S4x32_S_d0_1 h_S_) main_v7 main_c_1
  let main_v9 : IVec S_ 1 := andi main_v4 main_v8
  main_v9
-- ==== Fox.lean ====
abbrev S16384x256 : Shape := ⟨2, ![16384, 256]⟩
abbrev S2x256x8192 : Shape := ⟨3, ![2, 256, 8192]⟩
abbrev S16384x128 : Shape := ⟨2, ![16384, 128]⟩
abbrev S2x8x8192 : Shape := ⟨3, ![2, 8, 8192]⟩
abbrev S2x8192x256 : Shape := ⟨3, ![2, 8192, 256]⟩
abbrev S2x8192x128 : Shape := ⟨3, ![2, 8192, 128]⟩
abbrev S1x512x128 : Shape := ⟨3, ![1, 512, 128]⟩
abbrev S1x128x8192 : Shape := ⟨3, ![1, 128, 8192]⟩
abbrev S1x8192x128 : Shape := ⟨3, ![1, 8192, 128]⟩
abbrev S1x8x8192 : Shape := ⟨3, ![1, 8, 8192]⟩
abbrev S1024x128 : Shape := ⟨2, ![1024, 128]⟩
abbrev S1024x1 : Shape := ⟨2, ![1024, 1]⟩
abbrev S512x128 : Shape := ⟨2, ![512, 128]⟩
abbrev S512x1 : Shape := ⟨2, ![512, 1]⟩
abbrev S1x128x512 : Shape := ⟨3, ![1, 128, 512]⟩
abbrev S128x512 : Shape := ⟨2, ![128, 512]⟩
abbrev S1024x512 : Shape := ⟨2, ![1024, 512]⟩
abbrev S1x1x512 : Shape := ⟨3, ![1, 1, 512]⟩
abbrev S1x512 : Shape := ⟨2, ![1, 512]⟩
abbrev S512x512 : Shape := ⟨2, ![512, 512]⟩
abbrev S1024 : Shape := ⟨1, ![1024]⟩

abbrev nBuf : Space → Nat
  | .hbm => 9
  | .vmem => 16
  | .smem => 0
  | _ => 0

abbrev bufTy : (tb : Table) → Fin (tcTables nBuf tb) → BufTy
  | .hbm, ⟨0, _⟩ => ⟨S16384x256, .bf16⟩
  | .hbm, ⟨1, _⟩ => ⟨S2x256x8192, .bf16⟩
  | .hbm, ⟨2, _⟩ => ⟨S16384x256, .bf16⟩
  | .hbm, ⟨3, _⟩ => ⟨S16384x128, .f32⟩
  | .hbm, ⟨4, _⟩ => ⟨S2x8x8192, .f32⟩
  | .hbm, ⟨5, _⟩ => ⟨S2x8192x256, .bf16⟩
  | .hbm, ⟨6, _⟩ => ⟨S2x8192x256, .bf16⟩
  | .hbm, ⟨7, _⟩ => ⟨S2x8192x128, .f32⟩
  | .hbm, ⟨8, _⟩ => ⟨S2x8192x256, .bf16⟩
  | .local _ .vmem, ⟨0, _⟩ => ⟨S1x512x128, .bf16⟩
  | .local _ .vmem, ⟨1, _⟩ => ⟨S1x512x128, .bf16⟩
  | .local _ .vmem, ⟨2, _⟩ => ⟨S1x128x8192, .bf16⟩
  | .local _ .vmem, ⟨3, _⟩ => ⟨S1x128x8192, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | .local _ .vmem, ⟨8, _⟩ => ⟨S1x8x8192, .f32⟩
  | .local _ .vmem, ⟨9, _⟩ => ⟨S1x8x8192, .f32⟩
  | .local _ .vmem, ⟨10, _⟩ => ⟨S1x512x128, .bf16⟩
  | .local _ .vmem, ⟨11, _⟩ => ⟨S1x512x128, .bf16⟩
  | .local _ .vmem, ⟨12, _⟩ => ⟨S1024x128, .bf16⟩
  | .local _ .vmem, ⟨13, _⟩ => ⟨S1024x1, .f32⟩
  | .local _ .vmem, ⟨14, _⟩ => ⟨S1024x1, .f32⟩
  | .local _ .vmem, ⟨15, _⟩ => ⟨S1024x128, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 16], ![false, false, false]⟩

@[reducible] def k0_t1_loop (i : grid0.Coords) : Scf.Loop 32 :=
  let c0_i32_27 : BitVec 32 := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_29 : BitVec 32 := 1#32
  ⟨c0_i32_27, v66, c1_i32_29⟩
def k0_mult1 (i : grid0.Coords) (k0_t1 : Fin (k0_t1_loop i).trips) : BitVec 32 :=
  let c0_i32_27 : BitVec 32 := 0#32
  let c1_i32_29 : BitVec 32 := 1#32
  let arg13 : BitVec 32 := Scf.iv c0_i32_27 c1_i32_29 k0_t1
  let c512_i32_68 : BitVec 32 := 512#32
  let v151 : BitVec 32 := Scalar.muli arg13 c512_i32_68
  v151
def k0_off1 (i : grid0.Coords) (k0_t1 : Fin (k0_t1_loop i).trips) : Fin 3 → Nat :=
  let c0_69 : Index := 0#32
  let c0_70 : Index := 0#32
  let c0_i32_27 : BitVec 32 := 0#32
  let c1_i32_29 : BitVec 32 := 1#32
  let arg13 : BitVec 32 := Scf.iv c0_i32_27 c1_i32_29 k0_t1
  let c512_i32_68 : BitVec 32 := 512#32
  let v151 : BitVec 32 := Scalar.muli arg13 c512_i32_68
  let v152 : BitVec 32 := v151
  let v153 : Index := Scalar.indexCast v152
  ![0, 0, v153.toNat]
def k0_off2 (i : grid0.Coords) (k0_t1 : Fin (k0_t1_loop i).trips) : Fin 3 → Nat :=
  let c0_71 : Index := 0#32
  let c0_i32_27 : BitVec 32 := 0#32
  let c1_i32_29 : BitVec 32 := 1#32
  let arg13 : BitVec 32 := Scf.iv c0_i32_27 c1_i32_29 k0_t1
  let c512_i32_68 : BitVec 32 := 512#32
  let v151 : BitVec 32 := Scalar.muli arg13 c512_i32_68
  let v152 : BitVec 32 := v151
  let v156 : Index := Scalar.indexCast v152
  let c0_72 : Index := 0#32
  ![0, v156.toNat, 0]
def k0_off3 (i : grid0.Coords) (k0_t1 : Fin (k0_t1_loop i).trips) : Fin 3 → Nat :=
  let c0_77 : Index := 0#32
  let c2_i32_76 : BitVec 32 := 2#32
  let arg1 : BitVec 32 := BitVec.ofNat 32 (i 1).val
  let v161 : BitVec 32 := Scalar.muli c2_i32_76 arg1
  let v162 : Index := Scalar.indexCast v161
  let c0_i32_27 : BitVec 32 := 0#32
  let c1_i32_29 : BitVec 32 := 1#32
  let arg13 : BitVec 32 := Scf.iv c0_i32_27 c1_i32_29 k0_t1
  let c512_i32_68 : BitVec 32 := 512#32
  let v151 : BitVec 32 := Scalar.muli arg13 c512_i32_68
  let v152 : BitVec 32 := v151
  let v163 : Index := Scalar.indexCast v152
  ![0, v162.toNat, v163.toNat]
def k0_off4 (i : grid0.Coords) (k0_t1 : Fin (k0_t1_loop i).trips) : Fin 3 → Nat :=
  let c0_80 : Index := 0#32
  let c2_i32_78 : BitVec 32 := 2#32
  let arg1 : BitVec 32 := BitVec.ofNat 32 (i 1).val
  let v166 : BitVec 32 := Scalar.muli c2_i32_78 arg1
  let c1_i32_79 : BitVec 32 := 1#32
  let v167 : BitVec 32 := Scalar.addi v166 c1_i32_79
  let v168 : Index := Scalar.indexCast v167
  let c0_i32_27 : BitVec 32 := 0#32
  let c1_i32_29 : BitVec 32 := 1#32
  let arg13 : BitVec 32 := Scf.iv c0_i32_27 c1_i32_29 k0_t1
  let c512_i32_68 : BitVec 32 := 512#32
  let v151 : BitVec 32 := Scalar.muli arg13 c512_i32_68
  let v152 : BitVec 32 := v151
  let v169 : Index := Scalar.indexCast v152
  ![0, v168.toNat, v169.toNat]
@[reducible] def k0_t2_loop (i : grid0.Coords) : Scf.Loop 32 :=
  let c0_i32_27 : BitVec 32 := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let v63 : BitVec 32 := Scalar.addi c0_i32_27 v62
  let c1_i32_30 : BitVec 32 := 1#32
  ⟨v66, v63, c1_i32_30⟩
def k0_mult2 (i : grid0.Coords) (k0_t2 : Fin (k0_t2_loop i).trips) : BitVec 32 :=
  let c0_i32_27 : BitVec 32 := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg13 : BitVec 32 := Scf.iv v66 c1_i32_30 k0_t2
  let c512_i32_68 : BitVec 32 := 512#32
  let v151 : BitVec 32 := Scalar.muli arg13 c512_i32_68
  v151
def k0_off5 (i : grid0.Coords) (k0_t2 : Fin (k0_t2_loop i).trips) : Fin 3 → Nat :=
  let c0_69 : Index := 0#32
  let c0_70 : Index := 0#32
  let c0_i32_27 : BitVec 32 := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg13 : BitVec 32 := Scf.iv v66 c1_i32_30 k0_t2
  let c512_i32_68 : BitVec 32 := 512#32
  let v151 : BitVec 32 := Scalar.muli arg13 c512_i32_68
  let v152 : BitVec 32 := v151
  let v153 : Index := Scalar.indexCast v152
  ![0, 0, v153.toNat]
def k0_off6 (i : grid0.Coords) (k0_t2 : Fin (k0_t2_loop i).trips) : Fin 3 → Nat :=
  let c0_71 : Index := 0#32
  let c0_i32_27 : BitVec 32 := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg13 : BitVec 32 := Scf.iv v66 c1_i32_30 k0_t2
  let c512_i32_68 : BitVec 32 := 512#32
  let v151 : BitVec 32 := Scalar.muli arg13 c512_i32_68
  let v152 : BitVec 32 := v151
  let v156 : Index := Scalar.indexCast v152
  let c0_72 : Index := 0#32
  ![0, v156.toNat, 0]
def k0_off7 (i : grid0.Coords) (k0_t2 : Fin (k0_t2_loop i).trips) : Fin 3 → Nat :=
  let c0_77 : Index := 0#32
  let c2_i32_76 : BitVec 32 := 2#32
  let arg1 : BitVec 32 := BitVec.ofNat 32 (i 1).val
  let v161 : BitVec 32 := Scalar.muli c2_i32_76 arg1
  let v162 : Index := Scalar.indexCast v161
  let c0_i32_27 : BitVec 32 := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg13 : BitVec 32 := Scf.iv v66 c1_i32_30 k0_t2
  let c512_i32_68 : BitVec 32 := 512#32
  let v151 : BitVec 32 := Scalar.muli arg13 c512_i32_68
  let v152 : BitVec 32 := v151
  let v163 : Index := Scalar.indexCast v152
  ![0, v162.toNat, v163.toNat]
def k0_off8 (i : grid0.Coords) (k0_t2 : Fin (k0_t2_loop i).trips) : Fin 3 → Nat :=
  let c0_80 : Index := 0#32
  let c2_i32_78 : BitVec 32 := 2#32
  let arg1 : BitVec 32 := BitVec.ofNat 32 (i 1).val
  let v166 : BitVec 32 := Scalar.muli c2_i32_78 arg1
  let c1_i32_79 : BitVec 32 := 1#32
  let v167 : BitVec 32 := Scalar.addi v166 c1_i32_79
  let v168 : Index := Scalar.indexCast v167
  let c0_i32_27 : BitVec 32 := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let v62 : BitVec 32 := Scalar.subi v61 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg13 : BitVec 32 := Scf.iv v66 c1_i32_30 k0_t2
  let c512_i32_68 : BitVec 32 := 512#32
  let v151 : BitVec 32 := Scalar.muli arg13 c512_i32_68
  let v152 : BitVec 32 := v151
  let v169 : Index := Scalar.indexCast v152
  ![0, v168.toNat, v169.toNat]
def k0_mult3 (i : grid0.Coords) : BitVec 32 :=
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let c512_i32_31 : BitVec 32 := 512#32
  let v67 : BitVec 32 := Scalar.muli v61 c512_i32_31
  v67
def k0_off9 (i : grid0.Coords) : Fin 3 → Nat :=
  let c0_32 : Index := 0#32
  let c0_33 : Index := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let c512_i32_31 : BitVec 32 := 512#32
  let v67 : BitVec 32 := Scalar.muli v61 c512_i32_31
  let v68 : BitVec 32 := v67
  let v69 : Index := Scalar.indexCast v68
  ![0, 0, v69.toNat]
def k0_off10 (i : grid0.Coords) : Fin 3 → Nat :=
  let c0_34 : Index := 0#32
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let c512_i32_31 : BitVec 32 := 512#32
  let v67 : BitVec 32 := Scalar.muli v61 c512_i32_31
  let v68 : BitVec 32 := v67
  let v72 : Index := Scalar.indexCast v68
  let c0_35 : Index := 0#32
  ![0, v72.toNat, 0]
def k0_off11 (i : grid0.Coords) : Fin 3 → Nat :=
  let c0_39 : Index := 0#32
  let c2_i32 : BitVec 32 := 2#32
  let arg1 : BitVec 32 := BitVec.ofNat 32 (i 1).val
  let v77 : BitVec 32 := Scalar.muli c2_i32 arg1
  let v78 : Index := Scalar.indexCast v77
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let c512_i32_31 : BitVec 32 := 512#32
  let v67 : BitVec 32 := Scalar.muli v61 c512_i32_31
  let v68 : BitVec 32 := v67
  let v79 : Index := Scalar.indexCast v68
  ![0, v78.toNat, v79.toNat]
def k0_off12 (i : grid0.Coords) : Fin 3 → Nat :=
  let c0_42 : Index := 0#32
  let c2_i32_40 : BitVec 32 := 2#32
  let arg1 : BitVec 32 := BitVec.ofNat 32 (i 1).val
  let v82 : BitVec 32 := Scalar.muli c2_i32_40 arg1
  let c1_i32_41 : BitVec 32 := 1#32
  let v83 : BitVec 32 := Scalar.addi v82 c1_i32_41
  let v84 : Index := Scalar.indexCast v83
  let arg2 : BitVec 32 := BitVec.ofNat 32 (i 2).val
  let c512_i32 : BitVec 32 := 512#32
  let v0 : BitVec 32 := Scalar.muli arg2 c512_i32
  let c0_i32_21 : BitVec 32 := 0#32
  let v46 : BitVec 1 := Scalar.cmpi .sgt v0 c0_i32_21
  let v47 : BitVec 32 := Scalar.extui v46
  let c0_i32_22 : BitVec 32 := 0#32
  let v48 : BitVec 1 := Scalar.cmpi .slt v0 c0_i32_22
  let v49 : BitVec 32 := Scalar.extui v48
  let v50 : BitVec 32 := Scalar.subi v47 v49
  let c512_i32_20 : BitVec 32 := 512#32
  let c0_i32_23 : BitVec 32 := 0#32
  let v51 : BitVec 1 := Scalar.cmpi .sgt c512_i32_20 c0_i32_23
  let v52 : BitVec 32 := Scalar.extui v51
  let c0_i32_24 : BitVec 32 := 0#32
  let v53 : BitVec 1 := Scalar.cmpi .slt c512_i32_20 c0_i32_24
  let v54 : BitVec 32 := Scalar.extui v53
  let v55 : BitVec 32 := Scalar.subi v52 v54
  let v56 : BitVec 1 := Scalar.cmpi .ne v50 v55
  let v57 : BitVec 32 := Scalar.remsi v0 c512_i32_20
  let c0_i32_25 : BitVec 32 := 0#32
  let v58 : BitVec 1 := Scalar.cmpi .ne v57 c0_i32_25
  let v59 : BitVec 1 := Scalar.andi v56 v58
  let v45 : BitVec 32 := Scalar.divsi v0 c512_i32_20
  let c1_i32 : BitVec 32 := 1#32
  let v60 : BitVec 32 := Scalar.subi v45 c1_i32
  let v61 : BitVec 32 := Scalar.select v59 v60 v45
  let c512_i32_31 : BitVec 32 := 512#32
  let v67 : BitVec 32 := Scalar.muli v61 c512_i32_31
  let v68 : BitVec 32 := v67
  let v85 : Index := Scalar.indexCast v68
  ![0, v84.toNat, v85.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S16384x256 : Shape := ⟨2, ![16384, 256]⟩
abbrev S2x256x8192 : Shape := ⟨3, ![2, 256, 8192]⟩
abbrev S16384x128 : Shape := ⟨2, ![16384, 128]⟩
abbrev S2x8x8192 : Shape := ⟨3, ![2, 8, 8192]⟩
abbrev S2x8192x4x64 : Shape := ⟨4, ![2, 8192, 4, 64]⟩
abbrev S2x4x64x8192 : Shape := ⟨4, ![2, 4, 64, 8192]⟩
abbrev S2x8192x128 : Shape := ⟨3, ![2, 8192, 128]⟩
abbrev S2x8192x4 : Shape := ⟨3, ![2, 8192, 4]⟩
abbrev S2x4x8192 : Shape := ⟨3, ![2, 4, 8192]⟩
abbrev S2x4x8192x8192 : Shape := ⟨4, ![2, 4, 8192, 8192]⟩
abbrev S2x4x8192x1 : Shape := ⟨4, ![2, 4, 8192, 1]⟩
abbrev S2x4x1x8192 : Shape := ⟨4, ![2, 4, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S2x8192x256 : Shape := ⟨3, ![2, 8192, 256]⟩

abbrev nBuf : Space → Nat
  | .hbm => 59
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S2x256x8192, .bf16⟩
  | .hbm, ⟨2, _⟩ => ⟨S16384x256, .bf16⟩
  | .hbm, ⟨3, _⟩ => ⟨S16384x128, .f32⟩
  | .hbm, ⟨4, _⟩ => ⟨S2x8x8192, .f32⟩
  | .hbm, ⟨5, _⟩ => ⟨S16384x256, .f32⟩
  | .hbm, ⟨6, _⟩ => ⟨S2x8192x4x64, .f32⟩
  | .hbm, ⟨7, _⟩ => ⟨S2x256x8192, .f32⟩
  | .hbm, ⟨8, _⟩ => ⟨S2x4x64x8192, .f32⟩
  | .hbm, ⟨9, _⟩ => ⟨S16384x256, .f32⟩
  | .hbm, ⟨10, _⟩ => ⟨S2x8192x4x64, .f32⟩
  | .hbm, ⟨11, _⟩ => ⟨S2x8192x128, .f32⟩
  | .hbm, ⟨12, _⟩ => ⟨S2x8192x4, .f32⟩
  | .hbm, ⟨13, _⟩ => ⟨S2x4x8192, .f32⟩
  | .hbm, ⟨14, _⟩ => ⟨S2x4x8192, .f32⟩
  | .hbm, ⟨15, _⟩ => ⟨S2x4x8192x8192, .f32⟩
  | .hbm, ⟨16, _⟩ => ⟨S2x4x8192x1, .f32⟩
  | .hbm, ⟨17, _⟩ => ⟨S2x4x8192x8192, .f32⟩
  | .hbm, ⟨18, _⟩ => ⟨S2x4x8192x8192, .f32⟩
  | .hbm, ⟨19, _⟩ => ⟨S2x4x1x8192, .f32⟩
  | .hbm, ⟨20, _⟩ => ⟨S2x4x8192x8192, .f32⟩
  | .hbm, ⟨21, _⟩ => ⟨S2x4x8192x8192, .f32⟩
  | .hbm, ⟨22, _⟩ => ⟨S8192, .i32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x4x8192x8192, .i1⟩
  | .hbm, ⟨31, _⟩ => ⟨S2x4x8192x8192, .f32⟩
  | .hbm, ⟨32, _⟩ => ⟨S2x4x8192x8192, .f32⟩
  | .hbm, ⟨33, _⟩ => ⟨S_, .f32⟩
  | .hbm, ⟨34, _⟩ => ⟨S2x4x8192, .f32⟩
  | .hbm, ⟨35, _⟩ => ⟨S2x4x8192x1, .f32⟩
  | .hbm, ⟨36, _⟩ => ⟨S2x4x8192x1, .f32⟩
  | .hbm, ⟨37, _⟩ => ⟨S_, .f32⟩
  | .hbm, ⟨38, _⟩ => ⟨S2x4x8192x1, .f32⟩
  | .hbm, ⟨39, _⟩ => ⟨S2x4x8192x1, .i1⟩
  | .hbm, ⟨40, _⟩ => ⟨S_, .f32⟩
  | .hbm, ⟨41, _⟩ => ⟨S_, .f32⟩
  | .hbm, ⟨42, _⟩ => ⟨S2x4x8192x1, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x4x8192x8192, .f32⟩
  | .hbm, ⟨47, _⟩ => ⟨S_, .f32⟩
  | .hbm, ⟨48, _⟩ => ⟨S2x4x8192, .f32⟩
  | .hbm, ⟨49, _⟩ => ⟨S2x4x8192x1, .f32⟩
  | .hbm, ⟨50, _⟩ => ⟨S_, .f32⟩
  | .hbm, ⟨51, _⟩ => ⟨S2x4x8192x1, .f32⟩
  | .hbm, ⟨52, _⟩ => ⟨S2x4x8192x1, .f32⟩
  | .hbm, ⟨53, _⟩ => ⟨S2x4x8192x8192, .f32⟩
  | .hbm, ⟨54, _⟩ => ⟨S2x4x8192x8192, .f32⟩
  | .hbm, ⟨55, _⟩ => ⟨S2x4x64x8192, .f32⟩
  | .hbm, ⟨56, _⟩ => ⟨S2x8192x4x64, .f32⟩
  | .hbm, ⟨57, _⟩ => ⟨S2x8192x256, .f32⟩
  | .hbm, ⟨58, _⟩ => ⟨S2x8192x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x2816, .f32⟩
  | .hbm, ⟨5, _⟩ => ⟨S1024x2816, .bf16⟩
  | .hbm, ⟨6, _⟩ => ⟨S1024x2816, .f32⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x5632, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S16384x256 : Shape := ⟨2, ![16384, 256]⟩
abbrev S4x128x128 : Shape := ⟨3, ![4, 128, 128]⟩
abbrev S4x128 : Shape := ⟨2, ![4, 128]⟩
abbrev S1024x6800 : Shape := ⟨2, ![1024, 6800]⟩
abbrev S4x256x1024 : Shape := ⟨3, ![4, 256, 1024]⟩
abbrev S1024x1024 : Shape := ⟨2, ![1024, 1024]⟩
abbrev S1024x4096 : Shape := ⟨2, ![1024, 4096]⟩
abbrev S128x4 : Shape := ⟨2, ![128, 4]⟩
abbrev S128x4x64 : Shape := ⟨3, ![128, 4, 64]⟩
abbrev S128x256 : Shape := ⟨2, ![128, 256]⟩
abbrev S1x1024x1024 : Shape := ⟨3, ![1, 1024, 1024]⟩
abbrev S4x1024x1024 : Shape := ⟨3, ![4, 1024, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S1x256x1024 : Shape := ⟨3, ![1, 256, 1024]⟩
abbrev S256x1024 : Shape := ⟨2, ![256, 1024]⟩

abbrev nBuf : Space → Nat
  | .hbm => 30
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S16384x256, .bf16⟩
  | .hbm, ⟨7, _⟩ => ⟨S4x128x128, .f32⟩
  | .hbm, ⟨8, _⟩ => ⟨S4x128, .f32⟩
  | .hbm, ⟨9, _⟩ => ⟨S1024x6800, .f32⟩
  | .hbm, ⟨10, _⟩ => ⟨S4x256x1024, .f32⟩
  | .hbm, ⟨11, _⟩ => ⟨S1024x1024, .f32⟩
  | .hbm, ⟨12, _⟩ => ⟨S1024x4096, .f32⟩
  | .hbm, ⟨13, _⟩ => ⟨S128x4, .f32⟩
  | .hbm, ⟨14, _⟩ => ⟨S128x4x64, .f32⟩
  | .hbm, ⟨15, _⟩ => ⟨S128x256, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S1x1024x1024, .f32⟩
  | .hbm, ⟨24, _⟩ => ⟨S4x1024x1024, .f32⟩
  | .hbm, ⟨25, _⟩ => ⟨S4x1024x1024, .bf16⟩
  | .hbm, ⟨26, _⟩ => ⟨S4x256x1024, .bf16⟩
  | .hbm, ⟨27, _⟩ => ⟨S1024x1024, .bf16⟩
  | .hbm, ⟨28, _⟩ => ⟨S1x1024, .f32⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .f32⟩
  | .local _ .vmem, ⟨10, _⟩ => ⟨S512x256, .f32⟩
  | .local _ .vmem, ⟨11, _⟩ => ⟨S512x256, .bf16⟩
  | .local _ .vmem, ⟨12, _⟩ => ⟨S512x256, .bf16⟩
  | .local _ .vmem, ⟨13, _⟩ => ⟨S4x128x128, .f32⟩
  | .local _ .vmem, ⟨14, _⟩ => ⟨S128x256, .f32⟩
  | .local _ .vmem, ⟨15, _⟩ => ⟨S4x1024x1024, .bf16⟩
  | .local _ .vmem, ⟨16, _⟩ => ⟨S4x256x1024, .bf16⟩
  | .local _ .vmem, ⟨17, _⟩ => ⟨S1024x1024, .bf16⟩
  | .local _ .vmem, ⟨18, _⟩ => ⟨S512x1024, .f32⟩
  | .local _ .vmem, ⟨19, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S1024 : Shape := ⟨1, ![1024]⟩
abbrev S16384x256 : Shape := ⟨2, ![16384, 256]⟩
abbrev S4x128x128 : Shape := ⟨3, ![4, 128, 128]⟩
abbrev S4x128 : Shape := ⟨2, ![4, 128]⟩
abbrev S1024x6800 : Shape := ⟨2, ![1024, 6800]⟩
abbrev S4x256x1024 : Shape := ⟨3, ![4, 256, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6800 : Shape := ⟨2, ![16384, 6800]⟩
abbrev S16384x4096 : Shape := ⟨2, ![16384, 4096]⟩
abbrev S128x128x4x64 : Shape := ⟨4, ![128, 128, 4, 64]⟩
abbrev S128x128 : Shape := ⟨2, ![128, 128]⟩
abbrev S1x128x128 : Shape := ⟨3, ![1, 128, 128]⟩
abbrev S4x128x64x128 : Shape := ⟨4, ![4, 128, 64, 128]⟩
abbrev S128x4 : Shape := ⟨2, ![128, 4]⟩
abbrev S128x4x1 : Shape := ⟨3, ![128, 4, 1]⟩
abbrev S1x128x4x1 : Shape := ⟨4, ![1, 128, 4, 1]⟩
abbrev S16384x1x256 : Shape := ⟨3, ![16384, 1, 256]⟩
abbrev S16384x4x256 : Shape := ⟨3, ![16384, 4, 256]⟩
abbrev S4x1024x16384 : Shape := ⟨3, ![4, 1024, 16384]⟩
abbrev S16384x4x1024 : Shape := ⟨3, ![16384, 4, 1024]⟩

abbrev nBuf : Space → Nat
  | .hbm => 79
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x256, .bf16⟩
  | .hbm, ⟨3, _⟩ => ⟨S16384x256, .bf16⟩
  | .hbm, ⟨4, _⟩ => ⟨S16384x256, .bf16⟩
  | .hbm, ⟨5, _⟩ => ⟨S16384x256, .f32⟩
  | .hbm, ⟨6, _⟩ => ⟨S16384x256, .bf16⟩
  | .hbm, ⟨7, _⟩ => ⟨S4x128x128, .f32⟩
  | .hbm, ⟨8, _⟩ => ⟨S4x128, .f32⟩
  | .hbm, ⟨9, _⟩ => ⟨S1024x6800, .f32⟩
  | .hbm, ⟨10, _⟩ => ⟨S4x256x1024, .f32⟩
  | .hbm, ⟨11, _⟩ => ⟨S1024x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x6800, .f32⟩
  | .hbm, ⟨29, _⟩ => ⟨S16384x4096, .f32⟩
  | .hbm, ⟨30, _⟩ => ⟨S16384x256, .f32⟩
  | .hbm, ⟨31, _⟩ => ⟨S128x128x4x64, .f32⟩
  | .hbm, ⟨32, _⟩ => ⟨S_, .f32⟩
  | .hbm, ⟨33, _⟩ => ⟨S128x128, .f32⟩
  | .hbm, ⟨34, _⟩ => ⟨S128x128, .i32⟩
  | .hbm, ⟨35, _⟩ => ⟨S_, .i32⟩
  | .hbm, ⟨36, _⟩ => ⟨S128x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S_, .f32⟩
  | .hbm, ⟨41, _⟩ => ⟨S128x128, .f32⟩
  | .hbm, ⟨42, _⟩ => ⟨S128x128, .f32⟩
  | .hbm, ⟨43, _⟩ => ⟨S1x128x128, .f32⟩
  | .hbm, ⟨44, _⟩ => ⟨S4x128x128, .f32⟩
  | .hbm, ⟨45, _⟩ => ⟨S4x128x128, .f32⟩
  | .hbm, ⟨46, _⟩ => ⟨S4x128x64x128, .f32⟩
  | .hbm, ⟨47, _⟩ => ⟨S128x128x4x64, .f32⟩
  | .hbm, ⟨48, _⟩ => ⟨S128x4, .f32⟩
  | .hbm, ⟨49, _⟩ => ⟨S128x4x1, .f32⟩
  | .hbm, ⟨50, _⟩ => ⟨S1x128x4x1, .f32⟩
  | .hbm, ⟨51, _⟩ => ⟨S128x128x4x64, .f32⟩
  | .hbm, ⟨52, _⟩ => ⟨S128x128x4x64, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x1x256, .f32⟩
  | .hbm, ⟨59, _⟩ => ⟨S16384x1x256, .f32⟩
  | .hbm, ⟨60, _⟩ => ⟨S16384x1x256, .f32⟩
  | .hbm, ⟨61, _⟩ => ⟨S16384x1x256, .f32⟩
  | .hbm, ⟨62, _⟩ => ⟨S16384x4x256, .f32⟩
  | .hbm, ⟨63, _⟩ => ⟨S4x1024x16384, .f32⟩
  | .hbm, ⟨64, _⟩ => ⟨S16384x4x1024, .f32⟩
  | .hbm, ⟨65, _⟩ => ⟨S16384x4x1024, .f32⟩
  | .hbm, ⟨66, _⟩ => ⟨S16384x4x1024, .f32⟩
  | .hbm, ⟨67, _⟩ => ⟨S16384x4x1024, .f32⟩
  | .hbm, ⟨68, _⟩ => ⟨S_, .f32⟩
  | .hbm, ⟨69, _⟩ => ⟨S16384x4x1024, .f32⟩
  | .hbm, ⟨70, _⟩ => ⟨S16384x4x1024, .f32⟩
  | .hbm, ⟨71, _⟩ => ⟨S_, .f32⟩
  | .hbm, ⟨72, _⟩ => ⟨S16384x4x1024, .f32⟩
  | .hbm, ⟨73, _⟩ => ⟨S16384x4x1024, .f32⟩
  | .hbm, ⟨74, _⟩ => ⟨S16384x4x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_call0_v0 : Ref sig .tc := ⟨.hbm, 34, rfl⟩
abbrev main_call0_c : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_cst : Ref sig .tc := ⟨.hbm, 40, rfl⟩
abbrev main_call0_v5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_3 : Ref sig .tc := ⟨.hbm, 68, rfl⟩
abbrev main_v44 : Ref sig .tc := ⟨.hbm, 69, rfl⟩
abbrev main_v45 : Ref sig .tc := ⟨.hbm, 70, rfl⟩
abbrev main_cst_4 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]
-- ==== Diff.lean ====
abbrev S16384x256 : Shape := ⟨2, ![16384, 256]⟩
abbrev S2x256x8192 : Shape := ⟨3, ![2, 256, 8192]⟩
abbrev S4x32 : Shape := ⟨2, ![4, 32]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S128x128 : Shape := ⟨2, ![128, 128]⟩
abbrev S2x8192x256 : Shape := ⟨3, ![2, 8192, 256]⟩
abbrev S1x256x128 : Shape := ⟨3, ![1, 256, 128]⟩
abbrev S1x128x8192 : Shape := ⟨3, ![1, 128, 8192]⟩
abbrev S1x8192x128 : Shape := ⟨3, ![1, 8192, 128]⟩
abbrev S1024x128 : Shape := ⟨2, ![1024, 128]⟩
abbrev S1024x1 : Shape := ⟨2, ![1024, 1]⟩
abbrev S256x128 : Shape := ⟨2, ![256, 128]⟩
abbrev S1x128x512 : Shape := ⟨3, ![1, 128, 512]⟩
abbrev S128x512 : Shape := ⟨2, ![128, 512]⟩
abbrev S1x512x128 : Shape := ⟨3, ![1, 512, 128]⟩
abbrev S512x128 : Shape := ⟨2, ![512, 128]⟩
abbrev S1024x512 : Shape := ⟨2, ![1024, 512]⟩
abbrev S1024 : Shape := ⟨1, ![1024]⟩
abbrev S1x32 : Shape := ⟨2, ![1, 32]⟩
abbrev S1 : Shape := ⟨1, ![1]⟩
abbrev S1x1 : Shape := ⟨2, ![1, 1]⟩

abbrev nBuf : Space → Nat
  | .hbm => 36
  | .vmem => 14
  | .smem => 0
  | _ => 0

abbrev bufTy : (tb : Table) → Fin (tcTables nBuf tb) → BufTy
  | .hbm, ⟨0, _⟩ => ⟨S16384x256, .bf16⟩
  | .hbm, ⟨1, _⟩ => ⟨S2x256x8192, .bf16⟩
  | .hbm, ⟨2, _⟩ => ⟨S16384x256, .bf16⟩
  | .hbm, ⟨3, _⟩ => ⟨S4x32, .f32⟩
  | .hbm, ⟨4, _⟩ => ⟨S256, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S256, .i32⟩
  | .hbm, ⟨10, _⟩ => ⟨S_, .i32⟩
  | .hbm, ⟨11, _⟩ => ⟨S256, .i32⟩
  | .hbm, ⟨12, _⟩ => ⟨S256, .i1⟩
  | .hbm, ⟨13, _⟩ => ⟨S256, .i32⟩
  | .hbm, ⟨14, _⟩ => ⟨S256, .i32⟩
  | .hbm, ⟨15, _⟩ => ⟨S_, .i32⟩
  | .hbm, ⟨16, _⟩ => ⟨S256, .i32⟩
  | .hbm, ⟨17, _⟩ => ⟨S256, .i1⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S128x128, .f32⟩
  | .hbm, ⟨33, _⟩ => ⟨S2x8192x256, .bf16⟩
  | .hbm, ⟨34, _⟩ => ⟨S2x8192x256, .bf16⟩
  | .hbm, ⟨35, _⟩ => ⟨S2x8192x256, .bf16⟩
  | .local _ .vmem, ⟨0, _⟩ => ⟨S1x256x128, .bf16⟩
  | .local _ .vmem, ⟨1, _⟩ => ⟨S1x256x128, .bf16⟩
  | .local _ .vmem, ⟨2, _⟩ => ⟨S1x128x8192, .bf16⟩
  | .local _ .vmem, ⟨3, _⟩ => ⟨S1x128x8192, .bf16⟩
  | .local _ .vmem, ⟨4, _⟩ => ⟨S1x8192x128, .bf16⟩
  | .local _ .vmem, ⟨5, _⟩ => ⟨S1x8192x128, .bf16⟩
  | .local _ .vmem, ⟨6, _⟩ => ⟨S4x32, .f32⟩
  | .local _ .vmem, ⟨7, _⟩ => ⟨S128x128, .f32⟩
  | .local _ .vmem, ⟨8, _⟩ => ⟨S1x256x128, .bf16⟩
  | .local _ .vmem, ⟨9, _⟩ => ⟨S1x256x128, .bf16⟩
  | .local _ .vmem, ⟨10, _⟩ => ⟨S1024x128, .bf16⟩
  | .local _ .vmem, ⟨11, _⟩ => ⟨S1024x1, .f32⟩
  | .local _ .vmem, ⟨12, _⟩ => ⟨S1024x1, .f32⟩
  | .local _ .vmem, ⟨13, _⟩ => ⟨S1024x128, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 32], ![false, false, false]⟩

@[reducible] def k0_t1_loop (i : grid0.Coords) : Scf.Loop 32 :=
  let c0_i32_25 : BitVec 32 := 0#32
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let v70 : BitVec 32 := Scalar.subi v69 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_27 : BitVec 32 := 1#32
  ⟨c0_i32_25, v74, c1_i32_27⟩
def k0_mult1 (i : grid0.Coords) (k0_t1 : Fin (k0_t1_loop i).trips) : BitVec 32 :=
  let c0_i32_25 : BitVec 32 := 0#32
  let c1_i32_27 : BitVec 32 := 1#32
  let arg13 : BitVec 32 := Scf.iv c0_i32_25 c1_i32_27 k0_t1
  let c512_i32_72 : BitVec 32 := 512#32
  let v174 : BitVec 32 := Scalar.muli arg13 c512_i32_72
  v174
def k0_off1 (i : grid0.Coords) (k0_t1 : Fin (k0_t1_loop i).trips) : Fin 3 → Nat :=
  let c0_73 : Index := 0#32
  let c0_74 : Index := 0#32
  let c0_i32_25 : BitVec 32 := 0#32
  let c1_i32_27 : BitVec 32 := 1#32
  let arg13 : BitVec 32 := Scf.iv c0_i32_25 c1_i32_27 k0_t1
  let c512_i32_72 : BitVec 32 := 512#32
  let v174 : BitVec 32 := Scalar.muli arg13 c512_i32_72
  let v175 : BitVec 32 := v174
  let v176 : Index := Scalar.indexCast v175
  ![0, 0, v176.toNat]
def k0_off2 (i : grid0.Coords) (k0_t1 : Fin (k0_t1_loop i).trips) : Fin 3 → Nat :=
  let c0_75 : Index := 0#32
  let c0_i32_25 : BitVec 32 := 0#32
  let c1_i32_27 : BitVec 32 := 1#32
  let arg13 : BitVec 32 := Scf.iv c0_i32_25 c1_i32_27 k0_t1
  let c512_i32_72 : BitVec 32 := 512#32
  let v174 : BitVec 32 := Scalar.muli arg13 c512_i32_72
  let v175 : BitVec 32 := v174
  let v179 : Index := Scalar.indexCast v175
  let c0_76 : Index := 0#32
  ![0, v179.toNat, 0]
@[reducible] def k0_t2_loop (i : grid0.Coords) : Scf.Loop 32 :=
  let c0_i32_25 : BitVec 32 := 0#32
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let v70 : BitVec 32 := Scalar.subi v69 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let v71 : BitVec 32 := Scalar.addi c0_i32_25 v70
  let c1_i32_28 : BitVec 32 := 1#32
  ⟨v74, v71, c1_i32_28⟩
def k0_mult2 (i : grid0.Coords) (k0_t2 : Fin (k0_t2_loop i).trips) : BitVec 32 :=
  let c0_i32_25 : BitVec 32 := 0#32
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let v70 : BitVec 32 := Scalar.subi v69 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg13 : BitVec 32 := Scf.iv v74 c1_i32_28 k0_t2
  let c512_i32_72 : BitVec 32 := 512#32
  let v174 : BitVec 32 := Scalar.muli arg13 c512_i32_72
  v174
def k0_off3 (i : grid0.Coords) (k0_t2 : Fin (k0_t2_loop i).trips) : Fin 3 → Nat :=
  let c0_73 : Index := 0#32
  let c0_74 : Index := 0#32
  let c0_i32_25 : BitVec 32 := 0#32
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let v70 : BitVec 32 := Scalar.subi v69 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg13 : BitVec 32 := Scf.iv v74 c1_i32_28 k0_t2
  let c512_i32_72 : BitVec 32 := 512#32
  let v174 : BitVec 32 := Scalar.muli arg13 c512_i32_72
  let v175 : BitVec 32 := v174
  let v176 : Index := Scalar.indexCast v175
  ![0, 0, v176.toNat]
def k0_off4 (i : grid0.Coords) (k0_t2 : Fin (k0_t2_loop i).trips) : Fin 3 → Nat :=
  let c0_75 : Index := 0#32
  let c0_i32_25 : BitVec 32 := 0#32
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let v70 : BitVec 32 := Scalar.subi v69 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg13 : BitVec 32 := Scf.iv v74 c1_i32_28 k0_t2
  let c512_i32_72 : BitVec 32 := 512#32
  let v174 : BitVec 32 := Scalar.muli arg13 c512_i32_72
  let v175 : BitVec 32 := v174
  let v179 : Index := Scalar.indexCast v175
  let c0_76 : Index := 0#32
  ![0, v179.toNat, 0]
def k0_mult3 (i : grid0.Coords) : BitVec 32 :=
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let c512_i32_29 : BitVec 32 := 512#32
  let v75 : BitVec 32 := Scalar.muli v69 c512_i32_29
  v75
def k0_off5 (i : grid0.Coords) : Fin 3 → Nat :=
  let c0_30 : Index := 0#32
  let c0_31 : Index := 0#32
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let c512_i32_29 : BitVec 32 := 512#32
  let v75 : BitVec 32 := Scalar.muli v69 c512_i32_29
  let v76 : BitVec 32 := v75
  let v77 : Index := Scalar.indexCast v76
  ![0, 0, v77.toNat]
def k0_off6 (i : grid0.Coords) : Fin 3 → Nat :=
  let c0_32 : Index := 0#32
  let arg2 : BitVec 32 := BitVec.ofNat 32 (i 2).val
  let c256_i32 : BitVec 32 := 256#32
  let v0 : BitVec 32 := Scalar.muli arg2 c256_i32
  let c0_i32_19 : BitVec 32 := 0#32
  let v54 : BitVec 1 := Scalar.cmpi .sgt v0 c0_i32_19
  let v55 : BitVec 32 := Scalar.extui v54
  let c0_i32_20 : BitVec 32 := 0#32
  let v56 : BitVec 1 := Scalar.cmpi .slt v0 c0_i32_20
  let v57 : BitVec 32 := Scalar.extui v56
  let v58 : BitVec 32 := Scalar.subi v55 v57
  let c512_i32 : BitVec 32 := 512#32
  let c0_i32_21 : BitVec 32 := 0#32
  let v59 : BitVec 1 := Scalar.cmpi .sgt c512_i32 c0_i32_21
  let v60 : BitVec 32 := Scalar.extui v59
  let c0_i32_22 : BitVec 32 := 0#32
  let v61 : BitVec 1 := Scalar.cmpi .slt c512_i32 c0_i32_22
  let v62 : BitVec 32 := Scalar.extui v61
  let v63 : BitVec 32 := Scalar.subi v60 v62
  let v64 : BitVec 1 := Scalar.cmpi .ne v58 v63
  let v65 : BitVec 32 := Scalar.remsi v0 c512_i32
  let c0_i32_23 : BitVec 32 := 0#32
  let v66 : BitVec 1 := Scalar.cmpi .ne v65 c0_i32_23
  let v67 : BitVec 1 := Scalar.andi v64 v66
  let v53 : BitVec 32 := Scalar.divsi v0 c512_i32
  let c1_i32 : BitVec 32 := 1#32
  let v68 : BitVec 32 := Scalar.subi v53 c1_i32
  let v69 : BitVec 32 := Scalar.select v67 v68 v53
  let c512_i32_29 : BitVec 32 := 512#32
  let v75 : BitVec 32 := Scalar.muli v69 c512_i32_29
  let v76 : BitVec 32 := v75
  let v80 : Index := Scalar.indexCast v76
  let c0_33 : Index := 0#32
  ![0, v80.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffIdeal.lean ====
variable {F : FTy → Type} [FloatOps F] [Named F]
def κ : String → Option EReal := fun
  | "mask" => some ⊥
  | _ => none
-- ==== DiffRefIdeal.lean ====
abbrev S16384x256 : Shape := ⟨2, ![16384, 256]⟩
abbrev S2x256x8192 : Shape := ⟨3, ![2, 256, 8192]⟩
abbrev S4x32 : Shape := ⟨2, ![4, 32]⟩
abbrev S2x8192x4x2x32 : Shape := ⟨5, ![2, 8192, 4, 2, 32]⟩
abbrev S2x4x2x32x8192 : Shape := ⟨5, ![2, 4, 2, 32, 8192]⟩
abbrev S2x8192x4x64 : Shape := ⟨4, ![2, 8192, 4, 64]⟩
abbrev S1x32 : Shape := ⟨2, ![1, 32]⟩
abbrev S32 : Shape := ⟨1, ![32]⟩
abbrev S_ : Shape := ⟨0, ![]⟩
abbrev S2x2x4x8192x8192 : Shape := ⟨5, ![2, 2, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x2x4x8192 : Shape := ⟨4, ![2, 2, 4, 8192]⟩
abbrev S2x2x4x8192x1 : Shape := ⟨5, ![2, 2, 4, 8192, 1]⟩
abbrev S2x1x4x8192x8192 : Shape := ⟨5, ![2, 1, 4, 8192, 8192]⟩
abbrev S2x4x8192x8192 : Shape := ⟨4, ![2, 4, 8192, 8192]⟩
abbrev S2x4x64x8192 : Shape := ⟨4, ![2, 4, 64, 8192]⟩
abbrev S2x8192x4 : Shape := ⟨3, ![2, 8192, 4]⟩
abbrev S2x8192x4x1 : Shape := ⟨4, ![2, 8192, 4, 1]⟩
abbrev S2x8192x256 : Shape := ⟨3, ![2, 8192, 256]⟩

abbrev nBuf : Space → Nat
  | .hbm => 90
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S2x256x8192, .bf16⟩
  | .hbm, ⟨2, _⟩ => ⟨S16384x256, .bf16⟩
  | .hbm, ⟨3, _⟩ => ⟨S4x32, .f32⟩
  | .hbm, ⟨4, _⟩ => ⟨S16384x256, .f32⟩
  | .hbm, ⟨5, _⟩ => ⟨S2x8192x4x2x32, .f32⟩
  | .hbm, ⟨6, _⟩ => ⟨S2x256x8192, .f32⟩
  | .hbm, ⟨7, _⟩ => ⟨S2x4x2x32x8192, .f32⟩
  | .hbm, ⟨8, _⟩ => ⟨S16384x256, .f32⟩
  | .hbm, ⟨9, _⟩ => ⟨S2x8192x4x64, .f32⟩
  | .hbm, ⟨10, _⟩ => ⟨S1x32, .f32⟩
  | .hbm, ⟨11, _⟩ => ⟨S32, .f32⟩
  | .hbm, ⟨12, _⟩ => ⟨S1x32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x32, .f32⟩
  | .hbm, ⟨19, _⟩ => ⟨S32, .f32⟩
  | .hbm, ⟨20, _⟩ => ⟨S1x32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x2x4x8192x8192, .f32⟩
  | .hbm, ⟨30, _⟩ => ⟨S8192, .i32⟩
  | .hbm, ⟨31, _⟩ => ⟨S1x8192, .i32⟩
  | .hbm, ⟨32, _⟩ => ⟨S8192x1, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S2x2x4x8192x8192, .i1⟩
  | .hbm, ⟨39, _⟩ => ⟨S2x2x4x8192x8192, .f32⟩
  | .hbm, ⟨40, _⟩ => ⟨S2x2x4x8192x8192, .f32⟩
  | .hbm, ⟨41, _⟩ => ⟨S_, .f32⟩
  | .hbm, ⟨42, _⟩ => ⟨S2x2x4x8192, .f32⟩
  | .hbm, ⟨43, _⟩ => ⟨S2x2x4x8192x1, .f32⟩
  | .hbm, ⟨44, _⟩ => ⟨S2x2x4x8192x1, .f32⟩
  | .hbm, ⟨45, _⟩ => ⟨S_, .f32⟩
  | .hbm, ⟨46, _⟩ => ⟨S2x2x4x8192x1, .f32⟩
  | .hbm, ⟨47, _⟩ => ⟨S2x2x4x8192x1, .i1⟩
  | .hbm, ⟨48, _⟩ => ⟨S_, .f32⟩
  | .hbm, ⟨49, _⟩ => ⟨S_, .f32⟩
  | .hbm, ⟨50, _⟩ => ⟨S2x2x4x8192x1, .f32⟩
  | .hbm, ⟨51, _⟩ => ⟨S2x2x4x8192x1, .f32⟩
  | .hbm, ⟨52, _⟩ => ⟨S2x2x4x8192x8192, .f32⟩
  | .hbm, ⟨53, _⟩ => ⟨S2x2x4x8192x8192, .f32⟩
  | .hbm, ⟨54, _⟩ => ⟨S2x2x4x8192x8192, .f32⟩
  | .hbm, ⟨55, _⟩ => ⟨S_, .f32⟩
  | .hbm, ⟨56, _⟩ => ⟨S2x2x4x8192, .f32⟩
  | .hbm, ⟨57, _⟩ => ⟨S2x2x4x8192x1, .f32⟩
  | .hbm, ⟨58, _⟩ => ⟨S_, .f32⟩
  | .hbm, ⟨59, _⟩ => ⟨S2x2x4x8192x1, .f32⟩
  | .hbm, ⟨60, _⟩ => ⟨S2x2x4x8192x1, .f32⟩
  | .hbm, ⟨61, _⟩ => ⟨S2x2x4x8192x8192, .f32⟩
  | .hbm, ⟨62, _⟩ => ⟨S2x2x4x8192x8192, .f32⟩
  | .hbm, ⟨63, _⟩ => ⟨S2x1x4x8192x8192, .f32⟩
  | .hbm, ⟨64, _⟩ => ⟨S2x4x8192x8192, .f32⟩
  | .hbm, ⟨65, _⟩ => ⟨S2x1x4x8192x8192, .f32⟩
  | .hbm, ⟨66, _⟩ => ⟨S2x4x8192x8192, .f32⟩
  | .hbm, ⟨67, _⟩ => ⟨S2x4x8192x8192, .f32⟩
  | .hbm, ⟨68, _⟩ => ⟨S2x4x8192x8192, .f32⟩
  | .hbm, ⟨69, _⟩ => ⟨S2x4x8192x8192, .f32⟩
  | .hbm, ⟨70, _⟩ => ⟨S2x4x64x8192, .f32⟩
  | .hbm, ⟨71, _⟩ => ⟨S2x8192x4x64, .f32⟩
  | .hbm, ⟨72, _⟩ => ⟨S2x8192x4x64, .f32⟩
  | .hbm, ⟨73, _⟩ => ⟨S_, .f32⟩
  | .hbm, ⟨74, _⟩ => ⟨S2x8192x4, .f32⟩
  | .hbm, ⟨75, _⟩ => ⟨S2x8192x4x1, .f32⟩
  | .hbm, ⟨76, _⟩ => ⟨S_, .f32⟩
  | .hbm, ⟨77, _⟩ => ⟨S2x8192x4x1, .f32⟩
  | .hbm, ⟨78, _⟩ => ⟨S2x8192x4x1, .f32⟩
  | .hbm, ⟨79, _⟩ => ⟨S_, .f32⟩
  | .hbm, ⟨80, _⟩ => ⟨S2x8192x4x1, .f32⟩
  | .hbm, ⟨81, _⟩ => ⟨S2x8192x4x1, .f32⟩
  | .hbm, ⟨82, _⟩ => ⟨S2x8192x4x1, .f32⟩
  | .hbm, ⟨83, _⟩ => ⟨S2x8192x4x64, .f32⟩
  | .hbm, ⟨84, _⟩ => ⟨S2x8192x4x64, .f32⟩
  | .hbm, ⟨85, _⟩ => ⟨S_, .f32⟩
  | .hbm, ⟨86, _⟩ => ⟨S2x8192x4x64, .f32⟩
  | .hbm, ⟨87, _⟩ => ⟨S2x8192x4x64, .f32⟩
  | .hbm, ⟨88, _⟩ => ⟨S2x8192x256, .f32⟩
  | .hbm, ⟨89, _⟩ => ⟨S2x8192x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]
-- ==== Proof.FoxRun.lean ====
/-
  What one grid point of the attention kernel leaves in its output block, as a recursion over the key tiles: the loop's
  trips and the diagonal tile's step update three running arrays (the row maxima, the row sums and the weighted values),
  and the block stored is read off the last two (`out_eq`).
-/
module

public import proofs.«01_k».proof.Proof.Gen.FoxIdeal.Frame
public import Idealize.ShloMosaic.Lib.Pointwise
public import Idealize.ShloMosaic.Lib.VecWindow
public import Idealize.ShloMosaic.Lib.WholeRead
public import Idealize.ShloMosaic.Lib.LoopRemainder

@[expose] public section

set_option maxRecDepth 16384

noncomputable section

namespace Cert.FoxIdeal.Body

open Cert.FoxIdeal Cert.FoxIdeal.Gen Idealize.ShloMosaic

/-- The running arrays: the row maxima, the row sums, the weighted values. -/
abbrev St := FVec Ideal S1024x1 .f32 × FVec Ideal S1024x1 .f32 × FVec Ideal S1024x128 .f32

/-- One trip of the loop on the running arrays: `kb` and `vb` are the key and value tiles, `qs` the masked queries, `c0`
    and `c1` the keys' gates of the two heads, `v40` and `v44` the queries' gates. -/
def stepV (v40 v44 : FVec Ideal S512x1 .f32) (kb : Vec Ideal S1x128x512 .bf16) (vb : Vec Ideal S1x512x128 .bf16)
    (qs : Vec Ideal S1024x128 .bf16) (c0 c1 : Vec Ideal S1x1x512 .f32) (T : St) : St :=
  (k0_pay27 (k0_pay4 v40 v44 kb qs c0 c1 T.1),
   k0_pay25 (k0_pay6 v40 v44 kb qs c0 c1 T.1) (k0_pay7 v40 v44 kb qs c0 c1 T.1 T.2.1),
   k0_pay26 (k0_pay2 vb) (k0_pay5 v40 v44 kb qs c0 c1 T.1) (k0_pay6 v40 v44 kb qs c0 c1 T.1) T.2.2)

/-- The diagonal tile's step on the running arrays: the scores of the keys after the query are masked. -/
def stepD (v0 v68 : BitVec 32) (v40 v44 : FVec Ideal S512x1 .f32) (kb : Vec Ideal S1x128x512 .bf16)
    (vb : Vec Ideal S1x512x128 .bf16) (qs : Vec Ideal S1024x128 .bf16) (c0 c1 : Vec Ideal S1x1x512 .f32) (T : St) : St :=
  (k0_pay38 (k0_pay33 v0 v40 v44 v68 kb qs c0 c1 T.1),
   k0_pay36 (k0_pay32 v0 v40 v44 v68 kb qs c0 c1) (k0_pay33 v0 v40 v44 v68 kb qs c0 c1 T.1)
     (k0_pay34 v0 v40 v44 v68 kb qs c0 c1 T.1) T.2.1,
   k0_pay37 (k0_pay31 vb) (k0_pay32 v0 v40 v44 v68 kb qs c0 c1) (k0_pay33 v0 v40 v44 v68 kb qs c0 c1 T.1)
     (k0_pay34 v0 v40 v44 v68 kb qs c0 c1 T.1) T.2.2)

/-- The running arrays before the first tile. -/
def st0 : St := (k0_pay18, k0_pay19, k0_pay21 k0_pay20)

/-- The running arrays before trip `n` of the loop of grid point `i`. -/
def loopV (i : grid0.Coords) (x1 : Vec Ideal S1x128x8192 .bf16) (x2 : Vec Ideal S1x8192x128 .bf16)
    (x4 : Vec Ideal S1x8x8192 .f32) (qs : Vec Ideal S1024x128 .bf16) (v40 v44 : FVec Ideal S512x1 .f32) : ℕ → St
  | 0 => st0
  | n + 1 => if h : n < (k0_t1_loop i).trips then
      stepV v40 v44 (View.ld x1 (Rect.unit (k0_off1 i ⟨n, h⟩) S1x128x512.size (k0_off1_inb i ⟨n, h⟩)))
        (View.ld x2 (Rect.unit (k0_off2 i ⟨n, h⟩) S1x512x128.size (k0_off2_inb i ⟨n, h⟩))) qs
        (View.ld x4 (Rect.unit (k0_off3 i ⟨n, h⟩) S1x1x512.size (k0_off3_inb i ⟨n, h⟩)))
        (View.ld x4 (Rect.unit (k0_off4 i ⟨n, h⟩) S1x1x512.size (k0_off4_inb i ⟨n, h⟩)))
        (loopV i x1 x2 x4 qs v40 v44 n)
    else loopV i x1 x2 x4 qs v40 v44 n

variable (c : Dev nD) (i : grid0.Coords)
  (arg3 : Memref sig .tc .vmem S1x512x128 .bf16) (harg3 : arg3.IsWhole)
  (arg4 : Memref sig .tc .vmem S1x128x8192 .bf16) (harg4 : arg4.IsWhole)
  (arg5 : Memref sig .tc .vmem S1x8192x128 .bf16) (harg5 : arg5.IsWhole)
  (arg6 : Memref sig .tc .vmem S1x512x128 .f32) (harg6 : arg6.IsWhole)
  (arg7 : Memref sig .tc .vmem S1x8x8192 .f32) (harg7 : arg7.IsWhole)
  (arg8 : Memref sig .tc .vmem S1x512x128 .bf16) (harg8 : arg8.IsWhole)
  (arg9 : Memref sig .tc .vmem S1024x128 .bf16) (harg9 : arg9.IsWhole)
  (arg10 : Memref sig .tc .vmem S1024x1 .f32) (harg10 : arg10.IsWhole)
  (arg11 : Memref sig .tc .vmem S1024x1 .f32) (harg11 : arg11.IsWhole)
  (arg12 : Memref sig .tc .vmem S1024x128 .f32) (harg12 : arg12.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-- What one trip stores over the three running arrays, from what it reads. -/
theorem trip_eq (arg1 v0 : BitVec 32) (v31 : FVec Ideal S1024x128 .f32) (v35 : Vec Ideal S1x512x128 .f32)
    (x1 : Vec Ideal S1x128x8192 .bf16) (x2 : Vec Ideal S1x8192x128 .bf16) (x4 : Vec Ideal S1x8x8192 .f32)
    (X9 : BufTy.Contents (Elt Ideal) arg9.view.ty) (k : Fin (k0_t1_loop i).trips)
    (f10 : BufTy.Contents (Elt Ideal) arg10.view.ty) (f11 : BufTy.Contents (Elt Ideal) arg11.view.ty)
    (f12 : BufTy.Contents (Elt Ideal) arg12.view.ty) :
    tripL_k0_t1 (F := Ideal) Variants.none c none i arg3 harg3 arg4 harg4 arg5 harg5 arg6 harg6 arg7 harg7 arg8 harg8 arg9 harg9 arg10 harg10 arg11 harg11 arg12 harg12 arg1 v0 v31 v35 (harg4.unread x1) (harg5.unread x2) (harg7.unread x4) X9 k f10 f11 f12
      = (let T := stepV (k0_pay23 arg1 v35) (k0_pay24 arg1 v35)
            (View.ld x1 (Rect.unit (k0_off1 i k) S1x128x512.size (k0_off1_inb i k)))
            (View.ld x2 (Rect.unit (k0_off2 i k) S1x512x128.size (k0_off2_inb i k))) (arg9.view.read (Elt Ideal) X9)
            (View.ld x4 (Rect.unit (k0_off3 i k) S1x1x512.size (k0_off3_inb i k)))
            (View.ld x4 (Rect.unit (k0_off4 i k) S1x1x512.size (k0_off4_inb i k)))
            (arg10.view.read (Elt Ideal) f10, arg11.view.read (Elt Ideal) f11, arg12.view.read (Elt Ideal) f12)
         ([⟨Rect.unit (s := S1024x1) ![0, 0] S1024x1.size inb_S1024x1_S1024x1_0_0, T.1⟩],
          [⟨Rect.unit (s := S1024x1) ![0, 0] S1024x1.size inb_S1024x1_S1024x1_0_0, T.2.1⟩],
          [⟨Rect.unit (s := S1024x128) ![0, 0] S1024x128.size inb_S1024x128_S1024x128_0_0, T.2.2⟩])) := by
  have e4 : ∀ B : LoadRect S1x128x8192, arg4.view.readAt (Elt Ideal) B (harg4.unread x1) = fun x => x1 (B.idx x) :=
    fun B => funext fun x => harg4.readAt_unread x1 B x
  have e5 : ∀ B : LoadRect S1x8192x128, arg5.view.readAt (Elt Ideal) B (harg5.unread x2) = fun x => x2 (B.idx x) :=
    fun B => funext fun x => harg5.readAt_unread x2 B x
  have e7 : ∀ B : LoadRect S1x8x8192, arg7.view.readAt (Elt Ideal) B (harg7.unread x4) = fun x => x4 (B.idx x) :=
    fun B => funext fun x => harg7.readAt_unread x4 B x
  rw [← View.readAt_full arg9.view X9 inb_S1024x128_S1024x128_0_0, ← View.readAt_full arg10.view f10 inb_S1024x1_S1024x1_0_0,
    ← View.readAt_full arg11.view f11 inb_S1024x1_S1024x1_0_0, ← View.readAt_full arg12.view f12 inb_S1024x128_S1024x128_0_0]
  have h4 := e4 (Rect.unit (s := S1x128x8192) (k0_off1 i k) S1x128x512.size (k0_off1_inb i k)).toLoadRect
  have h5 := e5 (Rect.unit (s := S1x8192x128) (k0_off2 i k) S1x512x128.size (k0_off2_inb i k)).toLoadRect
  have h7 := e7 (Rect.unit (s := S1x8x8192) (k0_off3 i k) S1x1x512.size (k0_off3_inb i k)).toLoadRect
  have h7' := e7 (Rect.unit (s := S1x8x8192) (k0_off4 i k) S1x1x512.size (k0_off4_inb i k)).toLoadRect
  unfold View.ld
  rw [← h4, ← h5, ← h7, ← h7']
  unfold tripL_k0_t1 trip_k0_t1
  rfl

/-- The running arrays after the first `n` trips, read off the pieces that the trips stored. -/
theorem pb_eq (arg1 v0 : BitVec 32) (v31 : FVec Ideal S1024x128 .f32) (v35 : Vec Ideal S1x512x128 .f32)
    (x1 : Vec Ideal S1x128x8192 .bf16) (x2 : Vec Ideal S1x8192x128 .bf16) (x4 : Vec Ideal S1x8x8192 .f32)
    (X9 : BufTy.Contents (Elt Ideal) arg9.view.ty)
    (G10 : BufTy.Contents (Elt Ideal) arg10.view.ty) (G11 : BufTy.Contents (Elt Ideal) arg11.view.ty)
    (G12 : BufTy.Contents (Elt Ideal) arg12.view.ty)
    (h10 : arg10.view.read (Elt Ideal) G10 = st0.1) (h11 : arg11.view.read (Elt Ideal) G11 = st0.2.1)
    (h12 : arg12.view.read (Elt Ideal) G12 = st0.2.2) (n : ℕ) (hn : n ≤ (k0_t1_loop i).trips) :
    (let L := pb_k0_t1 (F := Ideal) Variants.none c none i arg3 harg3 arg4 harg4 arg5 harg5 arg6 harg6 arg7 harg7 arg8 harg8 arg9 harg9 arg10 harg10 arg11 harg11 arg12 harg12 arg1 v0 v31 v35 (harg4.unread x1) (harg5.unread x2) (harg7.unread x4) X9 G10 G11 G12 n
     (arg10.view.read (Elt Ideal) (arg10.view.writes (Elt Ideal) G10 L.1),
      arg11.view.read (Elt Ideal) (arg11.view.writes (Elt Ideal) G11 L.2.1),
      arg12.view.read (Elt Ideal) (arg12.view.writes (Elt Ideal) G12 L.2.2)))
      = loopV i x1 x2 x4 (arg9.view.read (Elt Ideal) X9) (k0_pay23 arg1 v35) (k0_pay24 arg1 v35) n := by
  induction n with
  | zero =>
    show (arg10.view.read (Elt Ideal) G10, arg11.view.read (Elt Ideal) G11, arg12.view.read (Elt Ideal) G12) = st0
    rw [h10, h11, h12]
  | succ n ih =>
    have hlt : n < (k0_t1_loop i).trips := hn
    have ih := ih hlt.le
    rw [loopV, dif_pos hlt, ← ih]
    rw [pb_k0_t1_succ (F := Ideal) Variants.none c none i arg3 harg3 arg4 harg4 arg5 harg5 arg6 harg6 arg7 harg7 arg8 harg8 arg9 harg9 arg10 harg10 arg11 harg11 arg12 harg12 arg1 v0 v31 v35 (harg4.unread x1) (harg5.unread x2) (harg7.unread x4) X9 G10 G11 G12 ⟨n, hlt⟩]
    rw [trip_eq]
    dsimp only [List.singleton_append, List.cons_append, List.nil_append]
    rw [View.read_writes_full, View.read_writes_full, View.read_writes_full]

/-- The second loop, of the steps that the first one's unrolling leaves over, makes no trip. -/
theorem trips2 : (k0_t2_loop i).trips = 0 := Scf.rem_trips _ _

/-- The queries of the grid point's two heads, one head's rows below the other's, each with the other head's lanes zero. -/
def qsV (x0 : Vec Ideal S1x512x128 .bf16) : Vec Ideal S1024x128 .bf16 := fun y =>
  if h : (y 0).val < 512 then k0_pay16 x0 (ix2 ⟨(y 0).val, h⟩ (y 1)) else k0_pay17 x0 (ix2 ⟨(y 0).val - 512, by have h1 : (y 0).val < 1024 := (y 0).isLt; omega⟩ (y 1))

/-- The two stores of the masked queries, read back. -/
theorem qs_eq (x0 : Vec Ideal S1x512x128 .bf16) (f : BufTy.Contents (Elt Ideal) arg9.view.ty) :
    arg9.view.read (Elt Ideal) (arg9.view.writes (Elt Ideal) f
      [⟨Rect.unit (s := S1024x128) ![512, 0] S512x128.size inb_S1024x128_S512x128_512_0, k0_pay17 x0⟩,
       ⟨Rect.unit (s := S1024x128) ![0, 0] S512x128.size inb_S1024x128_S512x128_0_0, k0_pay16 x0⟩]) = qsV x0 := by
  funext y
  unfold qsV
  split_ifs with h
  · rw [View.read_writes_cons_unit_of_not_mem arg9.view f inb_S1024x128_S512x128_512_0 _ _ y rfl 0 (Or.inl h)]
    exact View.read_writes_cons_unit_of_mem arg9.view f inb_S1024x128_S512x128_0_0 _ _ y (ix2 ⟨(y 0).val, h⟩ (y 1)) rfl
      (Fin.forall_fin_two.mpr ⟨(Nat.zero_add _).symm, (Nat.zero_add _).symm⟩)
  · have h1 : (y 0).val < 1024 := (y 0).isLt
    exact View.read_writes_cons_unit_of_mem arg9.view f inb_S1024x128_S512x128_512_0 _ _ y
      (ix2 ⟨(y 0).val - 512, by omega⟩ (y 1)) rfl
      (Fin.forall_fin_two.mpr ⟨show (y 0).val = 512 + ((y 0).val - 512) by omega, (Nat.zero_add _).symm⟩)

/-- The running arrays after the loop of grid point `i` and after the diagonal tile's step. -/
def final (x0 : Vec Ideal S1x512x128 .bf16) (x1 : Vec Ideal S1x128x8192 .bf16) (x2 : Vec Ideal S1x8192x128 .bf16)
    (x3 : Vec Ideal S1x512x128 .f32) (x4 : Vec Ideal S1x8x8192 .f32) : St :=
  stepD (kernelRun0_A.sl.v0 i) (kernelRun0_A.sl.v67 i)
    (k0_pay23 (BitVec.ofNat 32 (i 1)) x3) (k0_pay24 (BitVec.ofNat 32 (i 1)) x3)
    (View.ld x1 (Rect.unit (k0_off9 i) S1x128x512.size (k0_off9_inb i)))
    (View.ld x2 (Rect.unit (k0_off10 i) S1x512x128.size (k0_off10_inb i))) (qsV x0)
    (View.ld x4 (Rect.unit (k0_off11 i) S1x1x512.size (k0_off11_inb i)))
    (View.ld x4 (Rect.unit (k0_off12 i) S1x1x512.size (k0_off12_inb i)))
    (loopV i x1 x2 x4 (qsV x0) (k0_pay23 (BitVec.ofNat 32 (i 1)) x3) (k0_pay24 (BitVec.ofNat 32 (i 1)) x3) (k0_t1_loop i).trips)

/-- The block that the body stores: the weighted values over the row sums, each head in its lanes. -/
theorem out_eq (x0 : Vec Ideal S1x512x128 .bf16) (x1 : Vec Ideal S1x128x8192 .bf16) (x2 : Vec Ideal S1x8192x128 .bf16)
    (x3 : Vec Ideal S1x512x128 .f32) (x4 : Vec Ideal S1x8x8192 .f32) :
    out0_A_5 c i arg3 harg3 arg4 harg4 arg5 harg5 arg6 harg6 arg7 harg7 arg8 harg8 arg9 harg9 arg10 harg10 arg11 harg11 arg12 harg12 x0 x1 x2 x3 x4
      = k0_pay1 (F := Ideal) (k0_pay39 kernelRun0_A.sl.v3 (final i x0 x1 x2 x3 x4).2.2 (final i x0 x1 x2 x3 x4).2.1) := by
  have e3 : arg3.view.readAt (Elt Ideal) (Rect.unit (s := S1x512x128) ![0, 0, 0] S1x512x128.size inb_S1x512x128_S1x512x128_0_0_0).toLoadRect (harg3.unread x0) = x0 := by
    rw [View.readAt_full, harg3.read_unread]
  have e6 : arg6.view.readAt (Elt Ideal) (Rect.unit (s := S1x512x128) ![0, 0, 0] S1x512x128.size inb_S1x512x128_S1x512x128_0_0_0).toLoadRect (harg6.unread x3) = x3 := by
    rw [View.readAt_full, harg6.read_unread]
  have h4 : arg4.view.readAt (Elt Ideal) (Rect.unit (s := S1x128x8192) (k0_off9 i) S1x128x512.size (k0_off9_inb i)).toLoadRect (harg4.unread x1)
      = View.ld x1 (Rect.unit (k0_off9 i) S1x128x512.size (k0_off9_inb i)) := funext fun x => harg4.readAt_unread x1 _ x
  have h5 : arg5.view.readAt (Elt Ideal) (Rect.unit (s := S1x8192x128) (k0_off10 i) S1x512x128.size (k0_off10_inb i)).toLoadRect (harg5.unread x2)
      = View.ld x2 (Rect.unit (k0_off10 i) S1x512x128.size (k0_off10_inb i)) := funext fun x => harg5.readAt_unread x2 _ x
  have h7 : arg7.view.readAt (Elt Ideal) (Rect.unit (s := S1x8x8192) (k0_off11 i) S1x1x512.size (k0_off11_inb i)).toLoadRect (harg7.unread x4)
      = View.ld x4 (Rect.unit (k0_off11 i) S1x1x512.size (k0_off11_inb i)) := funext fun x => harg7.readAt_unread x4 _ x
  have h7' : arg7.view.readAt (Elt Ideal) (Rect.unit (s := S1x8x8192) (k0_off12 i) S1x1x512.size (k0_off12_inb i)).toLoadRect (harg7.unread x4)
      = View.ld x4 (Rect.unit (k0_off12 i) S1x1x512.size (k0_off12_inb i)) := funext fun x => harg7.readAt_unread x4 _ x
  have r9 : ∀ f, arg9.view.readAt (Elt Ideal) (Rect.unit (s := S1024x128) ![0, 0] S1024x128.size inb_S1024x128_S1024x128_0_0).toLoadRect f = arg9.view.read (Elt Ideal) f :=
    fun f => View.readAt_full _ _ _
  have r10 : ∀ f, arg10.view.readAt (Elt Ideal) (Rect.unit (s := S1024x1) ![0, 0] S1024x1.size inb_S1024x1_S1024x1_0_0).toLoadRect f = arg10.view.read (Elt Ideal) f :=
    fun f => View.readAt_full _ _ _
  have r11 : ∀ f, arg11.view.readAt (Elt Ideal) (Rect.unit (s := S1024x1) ![0, 0] S1024x1.size inb_S1024x1_S1024x1_0_0).toLoadRect f = arg11.view.read (Elt Ideal) f :=
    fun f => View.readAt_full _ _ _
  have r12 : ∀ f, arg12.view.readAt (Elt Ideal) (Rect.unit (s := S1024x128) ![0, 0] S1024x128.size inb_S1024x128_S1024x128_0_0).toLoadRect f = arg12.view.read (Elt Ideal) f :=
    fun f => View.readAt_full _ _ _
  have hq := qs_eq arg9 x0 arg9.view.junk
  have hz : Scf.trips (k0_t2_loop i).lb (k0_t2_loop i).ub (k0_t2_loop i).st = 0 := trips2 i
  unfold out0_A_5 kernelRun0_A
  dsimp only
  rw [View.read_writes_full]
  unfold kernelRun0_A.sl.r_6 kernelRun0_A.sl.v136 kernelRun0_A.sl.v137 kernelRun0_A.sl.HS3_1_1 kernelRun0_A.sl.HS2_1_1
  rw [View.readCov_full, View.readCov_full]
  unfold kernelRun0_A.sl.v116 kernelRun0_A.sl.v124 kernelRun0_A.sl.r_4 kernelRun0_A.sl.r_5 kernelRun0_A.sl.v107
    kernelRun0_A.sl.r_2 kernelRun0_A.sl.r_3 kernelRun0_A.sl.r kernelRun0_A.sl.r_1 kernelRun0_A.sl.v75 kernelRun0_A.sl.HS0_2
  unfold View.readCov
  rw [hz]
  simp only [pb_k0_t2.eq_1, List.nil_append, r9, r10, r11, r12, e3, e6, hq, h4, h5, h7, h7', View.writes_append]
  have P := pb_eq c i arg3 harg3 arg4 harg4 arg5 harg5 arg6 harg6 arg7 harg7 arg8 harg8 arg9 harg9 arg10 harg10 arg11 harg11 arg12 harg12 (BitVec.ofNat 32 (i 1)) (kernelRun0_A.sl.v0 i) k0_pay20 x3 x1 x2 x4
    (arg9.view.writes (Elt Ideal) arg9.view.junk
      [⟨Rect.unit (s := S1024x128) ![512, 0] S512x128.size inb_S1024x128_S512x128_512_0, k0_pay17 x0⟩,
       ⟨Rect.unit (s := S1024x128) ![0, 0] S512x128.size inb_S1024x128_S512x128_0_0, k0_pay16 x0⟩])
    (arg10.view.writes (Elt Ideal) arg10.view.junk kernelRun0_A.sl.HS1_1)
    (arg11.view.writes (Elt Ideal) arg11.view.junk kernelRun0_A.sl.HS2_1)
    (arg12.view.writes (Elt Ideal) arg12.view.junk kernelRun0_A.sl.HS3_1)
    (View.read_writes_full _ _ _ _ _) (View.read_writes_full _ _ _ _ _) (View.read_writes_full _ _ _ _ _)
    (k0_t1_loop i).trips le_rfl
  rw [hq] at P
  have P1 := congrArg (fun T : St => T.1) P
  have P2 := congrArg (fun T : St => T.2.1) P
  have P3 := congrArg (fun T : St => T.2.2) P
  dsimp only at P1 P2 P3
  unfold final stepD
  dsimp only
  rw [← P1, ← P2, ← P3]

end Cert.FoxIdeal.Body

end
-- ==== Proof.Online.lean ====
/-
  The online softmax of one row: scores that arrive a tile at a time, with a running maximum, a running sum of
  exponentials and a running weighted sum, each rescaled when the maximum grows (`max_step`, `sum_step`, `acc_step`),
  leave what the softmax over the whole row leaves (`row_eq`), and so does the softmax whose maximum is replaced by zero
  where it is infinite (`guard_row`). Masked scores are minus infinity. The scores and the values are any extended reals.
-/
module

public import Idealize.ShloMosaic.PureOps.Ideal
public import Mathlib.Data.EReal.Operations
public import Mathlib.Data.EReal.Inv

@[expose] public section

noncomputable section

namespace Cert.Online

open Idealize.ShloMosaic

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

/-- Rescaling an exponential from one maximum to a later one. -/
theorem exp_mul_exp {s m m' : EReal} (h : s ≤ m) (h' : m ≤ m') (ht : m' ≠ ⊤) :
    Ideal.exp (m - m') * Ideal.exp (s - m) = Ideal.exp (s - m') := by
  have hm : m ≠ ⊤ := fun e => ht (top_le_iff.mp (e ▸ h'))
  induction s with
  | bot =>
    rw [sub_eq_add_neg, sub_eq_add_neg ⊥, sub_eq_add_neg ⊥, EReal.bot_add, EReal.bot_add]
    exact mul_zero _
  | top => exact absurd (top_le_iff.mp h) hm
  | coe a =>
    induction m with
    | bot => exact absurd (le_bot_iff.mp h) (EReal.coe_ne_bot a)
    | top => exact absurd rfl hm
    | coe b =>
      induction m' with
      | bot => exact absurd (le_bot_iff.mp h') (EReal.coe_ne_bot b)
      | top => exact absurd rfl ht
      | coe d =>
        show ((Real.exp (b - d) : ℝ) : EReal) * ((Real.exp (a - b) : ℝ) : EReal) = ((Real.exp (a - d) : ℝ) : EReal)
        rw [← EReal.coe_mul, ← Real.exp_add]
        congr 2
        ring

variable (s v : ℕ → EReal)

/-- The maximum of the first `n` scores. -/
def rmax (n : ℕ) : EReal := (Finset.range n).sup s

/-- The sum of the first `n` exponentials, each weighted by its value. -/
def racc (n : ℕ) : EReal := ∑ x ∈ Finset.range n, Ideal.exp (s x - rmax s n) * v x

/-- The sum of the first `n` exponentials. -/
def rsum (n : ℕ) : EReal := ∑ x ∈ Finset.range n, Ideal.exp (s x - rmax s n)

theorem rmax_zero : rmax s 0 = ⊥ := rfl
theorem racc_zero : racc s v 0 = 0 := rfl
theorem rsum_zero : rsum s 0 = 0 := rfl

theorem rsum_eq (n : ℕ) : rsum s n = racc s (fun _ => 1) n :=
  Finset.sum_congr rfl fun _ _ => (mul_one _).symm

theorem le_rmax {x n : ℕ} (h : x < n) : s x ≤ rmax s n := Finset.le_sup (f := s) (Finset.mem_range.mpr h)

theorem rmax_mono {n n' : ℕ} (h : n ≤ n') : rmax s n ≤ rmax s n' :=
  Finset.sup_mono (Finset.range_mono h)

/-- A sum of extended reals scaled by a finite nonnegative factor. -/
theorem mul_sum {ι : Type} (S : Finset ι) (a : EReal) (h0 : 0 ≤ a) (ht : a ≠ ⊤) (f : ι → EReal) :
    a * ∑ x ∈ S, f x = ∑ x ∈ S, a * f x := by
  classical
  induction S using Finset.induction_on with
  | empty => simp
  | insert x S hx ih => rw [Finset.sum_insert hx, Finset.sum_insert hx, EReal.left_distrib_of_nonneg_of_ne_top h0 ht, ih]

variable {s v}

theorem sub_ne_top {a b : EReal} (ha : a ≠ ⊤) (h : a ≤ b) : a - b ≠ ⊤ := by
  induction a with
  | bot => rw [sub_eq_add_neg, EReal.bot_add]; exact bot_ne_top
  | top => exact absurd rfl ha
  | coe r =>
    induction b with
    | bot => exact absurd (le_bot_iff.mp h) (EReal.coe_ne_bot r)
    | top => rw [sub_eq_add_neg, EReal.neg_top, EReal.add_bot]; exact bot_ne_top
    | coe t => exact EReal.coe_ne_top (r - t)

/-- Nothing is left of an exponential against an infinite maximum. -/
theorem exp_sub_top (x : EReal) : Ideal.exp (x - ⊤) = 0 := by
  rw [sub_eq_add_neg, EReal.neg_top, EReal.add_bot]; rfl

/-- A tile of `w` more scores: the maximum. -/
theorem max_step (n w : ℕ) : max (rmax s n) (Finset.univ.sup fun x : Fin w => s (n + x.val)) = rmax s (n + w) := by
  apply le_antisymm
  · exact max_le (rmax_mono s (Nat.le_add_right _ _)) (Finset.sup_le fun x _ => le_rmax s (by omega))
  · refine Finset.sup_le fun x hx => ?_
    have hx := Finset.mem_range.mp hx
    by_cases h : x < n
    · exact le_max_of_le_left (le_rmax s h)
    · refine le_max_of_le_right ?_
      have := Finset.le_sup (f := fun y : Fin w => s (n + y.val)) (Finset.mem_univ ⟨x - n, by omega⟩)
      have e : n + (x - n) = x := by omega
      simpa only [e] using this

/-- A tile of `w` more scores: the weighted sum. -/
theorem acc_step (n w : ℕ) :
    Ideal.exp (rmax s n - rmax s (n + w)) * racc s v n
      + ∑ x : Fin w, Ideal.exp (s (n + x.val) - rmax s (n + w)) * v (n + x.val) = racc s v (n + w) := by
  have h := Nat.le_add_right n w
  have hmm := rmax_mono s h
  unfold racc
  by_cases ht : rmax s (n + w) = ⊤
  · simp only [ht, exp_sub_top, zero_mul, Finset.sum_const_zero, add_zero]
  have hm : rmax s n ≠ ⊤ := fun e => ht (top_le_iff.mp (e ▸ hmm))
  rw [Finset.sum_range_add, mul_sum _ _ (exp_nonneg _) (exp_ne_top (sub_ne_top hm hmm)),
    Finset.sum_range fun x => Ideal.exp (s (n + x) - rmax s (n + w)) * v (n + x)]
  refine congrArg (· + _) (Finset.sum_congr rfl fun x hx => ?_)
  rw [← mul_assoc, exp_mul_exp (le_rmax s (Finset.mem_range.mp hx)) hmm ht]

/-- A tile of `w` more scores: the sum. -/
theorem sum_step (n w : ℕ) :
    Ideal.exp (rmax s n - rmax s (n + w)) * rsum s n + ∑ x : Fin w, Ideal.exp (s (n + x.val) - rmax s (n + w)) = rsum s (n + w) := by
  rw [rsum_eq, rsum_eq, ← acc_step n w]
  simp only [mul_one]

/-- The floor under the sum of exponentials. -/
abbrev floor : EReal := Ideal.ofBits .f32 0x0DA24260#32

theorem floor_pos : 0 < floor := by
  unfold floor
  simp only [Ideal.ofBits, Ideal.ieee]
  rw [show BitVec.extractLsb' 31 1 228737632#32 = 0#1 from by decide]
  norm_num [Nat.shiftRight_eq_div_pow]

/-- The pattern of minus infinity. -/
theorem ninf_eq : Ideal.ofBits .f32 0xFF800000#32 = ⊥ := by
  simp only [Ideal.ofBits, Ideal.ieee]
  rw [show BitVec.extractLsb' 31 1 4286578688#32 = 1#1 from by decide]
  norm_num [Nat.shiftRight_eq_div_pow]

/-- The pattern of infinity. -/
theorem pinf_eq : Ideal.ofBits .f32 0x7F800000#32 = ⊤ := by
  simp only [Ideal.ofBits, Ideal.ieee]
  rw [show BitVec.extractLsb' 31 1 2139095040#32 = 0#1 from by decide]
  norm_num [Nat.shiftRight_eq_div_pow]

/-- A fold of the maximum from minus infinity is the supremum. -/
theorem fold_eq {n : ℕ} (f : Fin n → EReal) : Finset.fold max (Ideal.ofBits .f32 0xFF800000#32) f Finset.univ = Finset.univ.sup f := by
  rw [ninf_eq]; rfl

/-- The softmax of a whole row of `K` scores, weighting the values: what the problem's mathematics computes. -/
def row (K : ℕ) (s v : Fin K → EReal) : EReal :=
  ∑ k, Ideal.div (Ideal.exp (s k - Finset.univ.sup s)) (max (∑ k, Ideal.exp (s k - Finset.univ.sup s)) floor) * v k

theorem div_eq {x d : EReal} (h : 0 < d) : Ideal.div x d = x * d⁻¹ := if_neg h.ne'

theorem inv_ne_top {d : EReal} (h : 0 < d) : d⁻¹ ≠ ⊤ := by
  induction d with
  | bot => simp
  | top => simp
  | coe r => rw [← EReal.coe_inv]; exact EReal.coe_ne_top _

/-- What the tiles leave after the first `n` scores, the rest being masked, is the softmax of the whole row. -/
theorem row_eq {K : ℕ} (s v : Fin K → EReal) (S V : ℕ → EReal) (hS : ∀ k : Fin K, S k.val = s k) (hV : ∀ k : Fin K, V k.val = v k)
    {n : ℕ} (hn : n ≤ K) (hm : ∀ k : Fin K, n ≤ k.val → s k = ⊥) :
    Ideal.div (racc S V n) (max (rsum S n) floor) = row K s v := by
  have hsup : Finset.univ.sup s = rmax S n := by
    apply le_antisymm
    · refine Finset.sup_le fun k _ => ?_
      by_cases h : k.val < n
      · rw [← hS]; exact le_rmax S h
      · rw [hm k (by omega)]; exact bot_le
    · refine Finset.sup_le fun x hx => ?_
      have hx := Finset.mem_range.mp hx
      have := Finset.le_sup (f := s) (Finset.mem_univ ⟨x, by omega⟩)
      rwa [← hS] at this
  have key : ∀ f : ℕ → EReal, (∀ k, S k = ⊥ → f k = 0) → ∑ k : Fin K, f k.val = ∑ x ∈ Finset.range n, f x := by
    intro f hf
    rw [← Finset.sum_range f]
    refine (Finset.sum_subset (Finset.range_mono hn) fun x hx hx' => hf x ?_).symm
    have hx := Finset.mem_range.mp hx
    have hx' := Finset.mem_range.not.mp hx'
    have hge : n ≤ x := by omega
    exact (hS ⟨x, hx⟩).trans (hm ⟨x, hx⟩ hge)
  have hbot : ∀ k, S k = ⊥ → Ideal.exp (S k - rmax S n) = 0 := fun k h => by
    rw [h, sub_eq_add_neg, EReal.bot_add]; rfl
  have hsum : ∑ k, Ideal.exp (s k - rmax S n) = rsum S n := by
    rw [← show ∑ k : Fin K, Ideal.exp (S k.val - rmax S n) = _ from Finset.sum_congr rfl fun k _ => by rw [hS]]
    exact key (fun x => Ideal.exp (S x - rmax S n)) hbot
  have hd : 0 < max (rsum S n) floor := lt_max_of_lt_right floor_pos
  unfold row
  rw [hsup, hsum, div_eq hd, mul_comm, racc, mul_sum _ _ (EReal.inv_nonneg_of_nonneg hd.le) (inv_ne_top hd)]
  rw [← key (fun x => (max (rsum S n) floor)⁻¹ * (Ideal.exp (S x - rmax S n) * V x))
    (fun k h => by rw [hbot k h, zero_mul, mul_zero])]
  refine Finset.sum_congr rfl fun k _ => ?_
  rw [hS, hV, div_eq hd, ← mul_assoc, mul_comm (_⁻¹)]

/-- A row's maximum, or zero where that is infinite. -/
def guard (m : EReal) : EReal := if max m (-m) < ⊤ then m else 0

/-- The softmax against the guarded maximum is the softmax: where a score is infinite, both leave nothing of any value,
    and so they do where every score is minus infinity. -/
theorem guard_row {K : ℕ} (s v : Fin K → EReal) :
    ∑ k, Ideal.div (Ideal.exp (s k - guard (Finset.univ.sup s))) (max (∑ k, Ideal.exp (s k - guard (Finset.univ.sup s))) floor) * v k
      = row K s v := by
  unfold row
  obtain h | h | ⟨r, h⟩ : Finset.univ.sup s = ⊥ ∨ Finset.univ.sup s = ⊤ ∨ ∃ r : ℝ, Finset.univ.sup s = (r : EReal) := by
    induction Finset.univ.sup s with
    | bot => exact Or.inl rfl
    | top => exact Or.inr (Or.inl rfl)
    | coe r => exact Or.inr (Or.inr ⟨r, rfl⟩)
  · have hs : ∀ k, s k = ⊥ := fun k => le_bot_iff.mp (h ▸ Finset.le_sup (f := s) (Finset.mem_univ k))
    have e : ∀ x, (⊥ : EReal) - x = ⊥ := fun x => by rw [sub_eq_add_neg, EReal.bot_add]
    simp only [hs, e]
  · have hg : guard ⊤ = 0 := if_neg (by simp)
    have hsum : ∑ k, Ideal.exp (s k) = ⊤ := by
      cases K with
      | zero => exact absurd h bot_ne_top
      | succ K =>
        obtain ⟨k, hk, e⟩ := Finset.exists_mem_eq_sup Finset.univ Finset.univ_nonempty s
        have := Finset.single_le_sum (f := fun k => Ideal.exp (s k)) (fun i _ => exp_nonneg _) hk
        rw [h] at e
        simp only [← e] at this
        exact top_le_iff.mp this
    rw [h, hg]
    simp only [sub_zero, hsum, exp_sub_top, max_top_left, div_eq (show (0 : EReal) < ⊤ from EReal.zero_lt_top), EReal.inv_top, mul_zero,
      zero_mul, Finset.sum_const_zero]
    refine (Finset.sum_eq_zero fun k _ => ?_).symm
    rw [div_eq (lt_max_of_lt_right floor_pos), zero_mul, zero_mul]
  · have hg : guard (r : EReal) = r := if_pos (max_lt (EReal.coe_lt_top r) (by rw [← EReal.coe_neg]; exact EReal.coe_lt_top _))
    rw [h, hg]

end Cert.Online

end
-- ==== Proof.FoxStep.lean ====
/-
  The values that the attention kernel's body computes, entry by entry: the scores of a key tile, the row maxima, the
  rescaled sums, the masked queries, the queries' gates and the block stored.
-/
module

public import proofs.«01_k».proof.Proof.FoxRun
public import proofs.«01_k».proof.Proof.Online
public import Idealize.ShloMosaic.Lib.WordCmp

@[expose] public section

set_option maxRecDepth 16384

noncomputable section

namespace Cert.FoxIdeal.Body

open Cert.FoxIdeal Cert.FoxIdeal.Gen Idealize.ShloMosaic Online

variable (v40 v44 : FVec Ideal S512x1 .f32) (kb : Vec Ideal S1x128x512 .bf16) (qs : Vec Ideal S1024x128 .bf16)
  (c0 c1 : Vec Ideal S1x1x512 .f32) (m l : Vec Ideal S1024x1 .f32) (acc : Vec Ideal S1024x128 .f32)

/-- An unmasked score: the query against the key, and the difference of their gates. -/
theorem pay3_apply (r : Fin 1024) (x : Fin 512) :
    k0_pay3 v40 v44 kb qs c0 c1 (ix2 r x) = ∑ j : Fin 128, qs (ix2 r j) * kb (ix3 0 j x)
      + (if h : r.val < 512 then v40 (ix2 ⟨r.val, h⟩ 0) - c0 (ix3 0 0 x) else v44 (ix2 ⟨r.val - 512, by omega⟩ 0) - c1 (ix3 0 0 x)) := by
  pointwise [k0_pay3]

theorem pay4_apply (r : Fin 1024) : k0_pay4 v40 v44 kb qs c0 c1 m (ix2 r 0)
    = max (m (ix2 r 0)) (Finset.univ.sup fun x : Fin 512 => k0_pay3 v40 v44 kb qs c0 c1 (ix2 r x)) := by
  rw [← fold_eq]
  pointwise [k0_pay4]

theorem pay5_apply (r : Fin 1024) :
    k0_pay5 v40 v44 kb qs c0 c1 m (ix2 r 0) = Ideal.exp (m (ix2 r 0) - k0_pay4 v40 v44 kb qs c0 c1 m (ix2 r 0)) := by
  pointwise [k0_pay5]

theorem pay6_apply (r : Fin 1024) (x : Fin 512) : k0_pay6 v40 v44 kb qs c0 c1 m (ix2 r x)
    = Ideal.exp (k0_pay3 v40 v44 kb qs c0 c1 (ix2 r x) - k0_pay4 v40 v44 kb qs c0 c1 m (ix2 r 0)) := by
  pointwise [k0_pay6]

theorem pay7_apply (r : Fin 1024) : k0_pay7 v40 v44 kb qs c0 c1 m l (ix2 r 0) = k0_pay5 v40 v44 kb qs c0 c1 m (ix2 r 0) * l (ix2 r 0) := by
  pointwise [k0_pay7]

theorem pay25_apply (p : FVec Ideal S1024x512 .f32) (al : FVec Ideal S1024x1 .f32) (r : Fin 1024) :
    k0_pay25 p al (ix2 r 0) = al (ix2 r 0) + ∑ x : Fin 512, p (ix2 r x) := by
  pointwise [k0_pay25]

theorem pay26_apply (vt : FVec Ideal S512x128 .bf16) (a : FVec Ideal S1024x1 .f32) (p : FVec Ideal S1024x512 .f32)
    (r : Fin 1024) (d : Fin 128) :
    k0_pay26 vt a p acc (ix2 r d) = a (ix2 r 0) * acc (ix2 r d) + ∑ x : Fin 512, p (ix2 r x) * vt (ix2 x d) := by
  pointwise [k0_pay26]

theorem pay27_apply (m : FVec Ideal S1024x1 .f32) (r : Fin 1024) : k0_pay27 m (ix2 r 0) = m (ix2 r 0) := by
  pointwise [k0_pay27]

theorem pay2_apply (vb : Vec Ideal S1x512x128 .bf16) (x : Fin 512) (d : Fin 128) : k0_pay2 vb (ix2 x d) = vb (ix3 0 x d) := by
  pointwise [k0_pay2]

/-- The position of a row's query in its block, as the kernel computes it. -/
theorem row_word : ∀ r : Fin 1024, IntOp.andi (BitVec.ofNat 32 r.val) 511#32 = BitVec.ofNat 32 (r.val % 512) := by decide +kernel

/-- A masked score: the keys after the query count as minus infinity. -/
theorem pay32_apply (q : Fin 16) (r : Fin 1024) (x : Fin 512) :
    k0_pay32 (BitVec.ofNat 32 (512 * q.val)) v40 v44 (BitVec.ofNat 32 (512 * q.val)) kb qs c0 c1 (ix2 r x)
      = if x.val ≤ r.val % 512 then k0_pay3 v40 v44 kb qs c0 c1 (ix2 r x) else ⊥ := by
  rw [pay3_apply]
  pointwise [k0_pay32]
  rw [row_word, WordCmp.addi_ofNat, WordCmp.addi_ofNat, WordCmp.cmpi_sle_ofNat (by omega) (by omega), WordCmp.select_decide]
  simp only [Nat.add_le_add_iff_left]
  rfl

theorem pay33_apply (v0 v68 : BitVec 32) (r : Fin 1024) : k0_pay33 v0 v40 v44 v68 kb qs c0 c1 m (ix2 r 0)
    = max (m (ix2 r 0)) (Finset.univ.sup fun x : Fin 512 => k0_pay32 v0 v40 v44 v68 kb qs c0 c1 (ix2 r x)) := by
  rw [← fold_eq]
  pointwise [k0_pay33]

theorem pay34_apply (v0 v68 : BitVec 32) (r : Fin 1024) :
    k0_pay34 v0 v40 v44 v68 kb qs c0 c1 m (ix2 r 0) = Ideal.exp (m (ix2 r 0) - k0_pay33 v0 v40 v44 v68 kb qs c0 c1 m (ix2 r 0)) := by
  pointwise [k0_pay34]

theorem pay36_apply (sc : FVec Ideal S1024x512 .f32) (mn a : FVec Ideal S1024x1 .f32) (r : Fin 1024) :
    k0_pay36 sc mn a l (ix2 r 0) = a (ix2 r 0) * l (ix2 r 0) + ∑ x : Fin 512, Ideal.exp (sc (ix2 r x) - mn (ix2 r 0)) := by
  pointwise [k0_pay36, k0_pay35]

theorem pay37_apply (vt : FVec Ideal S512x128 .bf16) (sc : FVec Ideal S1024x512 .f32) (mn a : FVec Ideal S1024x1 .f32)
    (r : Fin 1024) (d : Fin 128) : k0_pay37 vt sc mn a acc (ix2 r d)
      = a (ix2 r 0) * acc (ix2 r d) + ∑ x : Fin 512, Ideal.exp (sc (ix2 r x) - mn (ix2 r 0)) * vt (ix2 x d) := by
  pointwise [k0_pay37, k0_pay35]

theorem pay38_apply (m : FVec Ideal S1024x1 .f32) (r : Fin 1024) : k0_pay38 m (ix2 r 0) = m (ix2 r 0) := by
  pointwise [k0_pay38]

theorem pay31_apply (vb : Vec Ideal S1x512x128 .bf16) (x : Fin 512) (d : Fin 128) : k0_pay31 vb (ix2 x d) = vb (ix3 0 x d) := by
  pointwise [k0_pay31]

theorem pay18_apply (r : Fin 1024) : (k0_pay18 : FVec Ideal S1024x1 .f32) (ix2 r 0) = ⊥ := by
  pointwise [k0_pay18]
  rfl

theorem pay19_apply (r : Fin 1024) : (k0_pay19 : FVec Ideal S1024x1 .f32) (ix2 r 0) = 0 := by
  pointwise [k0_pay19]

theorem pay21_apply (r : Fin 1024) (d : Fin 128) : (k0_pay21 k0_pay20 : FVec Ideal S1024x128 .f32) (ix2 r d) = 0 := by
  pointwise [k0_pay21, k0_pay20]

/-- The block stored: the first head's rows in the first 64 lanes, the second head's in the others. -/
theorem pay39_apply (y : Fin 512) (d : Fin 128) : k0_pay1 (k0_pay39 kernelRun0_A.sl.v3 acc l) (ix3 0 y d)
    = if d.val < 64 then Ideal.div (acc (ix2 ⟨y.val, by omega⟩ d)) (max (l (ix2 ⟨y.val, by omega⟩ 0)) Online.floor)
      else Ideal.div (acc (ix2 ⟨512 + y.val, by omega⟩ d)) (max (l (ix2 ⟨512 + y.val, by omega⟩ 0)) Online.floor) := by
  unfold kernelRun0_A.sl.v3
  pointwise [k0_pay39, k0_pay1]
  rw [WordCmp.cmpi_slt_ofNat (by omega) (by omega), WordCmp.select_decide]

/-- The first head's masked queries. -/
theorem pay16_apply (x0 : Vec Ideal S1x512x128 .bf16) (y : Fin 512) (d : Fin 128) :
    k0_pay16 x0 (ix2 y d) = if d.val < 64 then x0 (ix3 0 y d) else 0 := by
  pointwise [k0_pay16, k0_pay14, k0_pay15]
  have h : ∀ d : Fin 128, IntOp.andi (IntOp.cmpi CmpIPredicate.sge (BitVec.ofNat 32 d.val) 0#32)
      (IntOp.cmpi CmpIPredicate.slt (BitVec.ofNat 32 d.val) 64#32) = BitVec.ofBool (decide (d.val < 64)) := by decide +kernel
  rw [h, WordCmp.select_decide]

/-- The second head's. -/
theorem pay17_apply (x0 : Vec Ideal S1x512x128 .bf16) (y : Fin 512) (d : Fin 128) :
    k0_pay17 x0 (ix2 y d) = if 64 ≤ d.val then x0 (ix3 0 y d) else 0 := by
  pointwise [k0_pay17, k0_pay14, k0_pay15]
  have h : ∀ d : Fin 128, IntOp.andi (IntOp.cmpi CmpIPredicate.sge (BitVec.ofNat 32 d.val) 64#32)
      (IntOp.cmpi CmpIPredicate.slt (BitVec.ofNat 32 d.val) 128#32) = BitVec.ofBool (decide (64 ≤ d.val)) := by decide +kernel
  rw [h, WordCmp.select_decide]

/-- The queries' gates of the head pair's first head. -/
theorem pay23_apply (hp : Fin 2) (x3 : Vec Ideal S1x512x128 .f32) (y : Fin 512) :
    k0_pay23 (BitVec.ofNat 32 hp.val) x3 (ix2 y 0) = x3 (ix3 0 y ⟨2 * hp.val, by omega⟩) := by
  pointwise [k0_pay23, k0_pay22]
  fin_cases hp <;> rfl

/-- Of the second head. -/
theorem pay24_apply (hp : Fin 2) (x3 : Vec Ideal S1x512x128 .f32) (y : Fin 512) :
    k0_pay24 (BitVec.ofNat 32 hp.val) x3 (ix2 y 0) = x3 (ix3 0 y ⟨2 * hp.val + 1, by omega⟩) := by
  pointwise [k0_pay24, k0_pay22]
  fin_cases hp <;> rfl

end Cert.FoxIdeal.Body

end
-- ==== Proof.FoxGrid.lean ====
/-
  The integer side of the attention kernel's grid point t = (batch, head pair, query block): how many key tiles lie before
  the diagonal one, and where each tile is read (`facts`).
-/
module

public import proofs.«01_k».proof.Proof.FoxRun

@[expose] public section

set_option maxRecDepth 16384

noncomputable section

namespace Cert.FoxIdeal.Body

open Cert.FoxIdeal Cert.FoxIdeal.Gen Idealize.ShloMosaic

/-- The tiles before the diagonal are as many as the query block's number. -/
theorem trips1 : ∀ t : Fin grid0.N, (k0_t1_loop (grid0.coords t)).trips = ((grid0.coords t) 2).val := by decide +kernel

/-- The words that the mask compares are the first query's and the diagonal tile's first key's positions. -/
theorem words : ∀ t : Fin grid0.N, kernelRun0_A.sl.v0 (grid0.coords t) = BitVec.ofNat 32 (512 * ((grid0.coords t) 2).val)
    ∧ kernelRun0_A.sl.v67 (grid0.coords t) = BitVec.ofNat 32 (512 * ((grid0.coords t) 2).val)
    ∧ (BitVec.ofNat 32 ((grid0.coords t) 1).val = 0#32 ↔ ((grid0.coords t) 1).val = 0) := by decide +kernel

/-- Where the tiles of the loop's trip k are read. -/
theorem offs : ∀ t : Fin grid0.N, ∀ k : Fin (k0_t1_loop (grid0.coords t)).trips,
    k0_off1 (grid0.coords t) k = ![0, 0, 512 * k.val] ∧ k0_off2 (grid0.coords t) k = ![0, 512 * k.val, 0]
    ∧ k0_off3 (grid0.coords t) k = ![0, 2 * ((grid0.coords t) 1).val, 512 * k.val]
    ∧ k0_off4 (grid0.coords t) k = ![0, 2 * ((grid0.coords t) 1).val + 1, 512 * k.val] := by decide +kernel

/-- Where the diagonal tiles are read. -/
theorem offsD : ∀ t : Fin grid0.N,
    k0_off9 (grid0.coords t) = ![0, 0, 512 * ((grid0.coords t) 2).val] ∧ k0_off10 (grid0.coords t) = ![0, 512 * ((grid0.coords t) 2).val, 0]
    ∧ k0_off11 (grid0.coords t) = ![0, 2 * ((grid0.coords t) 1).val, 512 * ((grid0.coords t) 2).val]
    ∧ k0_off12 (grid0.coords t) = ![0, 2 * ((grid0.coords t) 1).val + 1, 512 * ((grid0.coords t) 2).val] := by decide +kernel

end Cert.FoxIdeal.Body

end
-- ==== Proof.FoxLoop.lean ====
/-
  What the attention kernel's grid point stores, entry by entry: the softmax of the whole row of masked scores, weighting
  the values (`out_apply`). The tiles before the diagonal one hold no masked key; the tiles after it hold only masked keys.
-/
module

public import proofs.«01_k».proof.Proof.FoxStep
public import proofs.«01_k».proof.Proof.FoxGrid
public import Idealize.ShloMosaic.Lib.Pipeline.ValueKit.Tiles

@[expose] public section

set_option maxRecDepth 16384

noncomputable section

namespace Cert.FoxIdeal.Body

open Cert.FoxIdeal Cert.FoxIdeal.Gen Idealize.ShloMosaic Online

/-- The three running arrays of row `r` hold the first `n` scores' maximum, sum and weighted sums. -/
def Holds (T : St) (r : Fin 1024) (S : ℕ → EReal) (V : Fin 128 → ℕ → EReal) (n : ℕ) : Prop :=
  T.1 (ix2 r 0) = rmax S n ∧ T.2.1 (ix2 r 0) = rsum S n ∧ ∀ d, T.2.2 (ix2 r d) = racc S (V d) n

theorem holds_zero (r : Fin 1024) (S : ℕ → EReal) (V : Fin 128 → ℕ → EReal) : Holds st0 r S V 0 :=
  ⟨pay18_apply r, pay19_apply r, fun d => pay21_apply r d⟩

section step

variable (v40 v44 : FVec Ideal S512x1 .f32) (kb : Vec Ideal S1x128x512 .bf16) (vb : Vec Ideal S1x512x128 .bf16)
  (qs : Vec Ideal S1024x128 .bf16) (c0 c1 : Vec Ideal S1x1x512 .f32) (T : St)
  (r : Fin 1024) (S : ℕ → EReal) (V : Fin 128 → ℕ → EReal) (n : ℕ)
  (hv : ∀ (x : Fin 512) (d : Fin 128), vb (ix3 0 x d) = V d (n + x.val)) (h : Holds T r S V n)

include hv h

/-- A trip of the loop takes in 512 more scores. -/
theorem holds_stepV (hs : ∀ x : Fin 512, k0_pay3 v40 v44 kb qs c0 c1 (ix2 r x) = S (n + x.val)) :
    Holds (stepV v40 v44 kb vb qs c0 c1 T) r S V (n + 512) := by
  obtain ⟨h1, h2, h3⟩ := h
  have e : k0_pay4 v40 v44 kb qs c0 c1 T.1 (ix2 r 0) = rmax S (n + 512) := by
    rw [pay4_apply, h1, ← max_step]
    simp only [hs]
  refine ⟨(pay27_apply _ r).trans e, ?_, fun d => ?_⟩
  · refine (pay25_apply _ _ r).trans ?_
    simp only [pay7_apply, pay6_apply, pay5_apply, e, h1, h2, hs]
    exact sum_step n 512
  · refine (pay26_apply _ _ _ _ r d).trans ?_
    simp only [pay6_apply, pay5_apply, pay2_apply, e, h1, h3, hs, hv]
    exact acc_step n 512

/-- So does the diagonal tile's step. -/
theorem holds_stepD (v0 v68 : BitVec 32) (hs : ∀ x : Fin 512, k0_pay32 v0 v40 v44 v68 kb qs c0 c1 (ix2 r x) = S (n + x.val)) :
    Holds (stepD v0 v68 v40 v44 kb vb qs c0 c1 T) r S V (n + 512) := by
  obtain ⟨h1, h2, h3⟩ := h
  have e : k0_pay33 v0 v40 v44 v68 kb qs c0 c1 T.1 (ix2 r 0) = rmax S (n + 512) := by
    rw [pay33_apply, h1, ← max_step]
    simp only [hs]
  refine ⟨(pay38_apply _ r).trans e, ?_, fun d => ?_⟩
  · refine (pay36_apply _ _ _ _ r).trans ?_
    simp only [pay34_apply, e, h1, h2, hs]
    exact sum_step n 512
  · refine (pay37_apply _ _ _ _ _ r d).trans ?_
    simp only [pay34_apply, pay31_apply, e, h1, h3, hs, hv]
    exact acc_step n 512

end step

section point

variable (t : Fin grid0.N) (x0 : Vec Ideal S1x512x128 .bf16) (x1 : Vec Ideal S1x128x8192 .bf16) (x2 : Vec Ideal S1x8192x128 .bf16)
  (x3 : Vec Ideal S1x512x128 .f32) (x4 : Vec Ideal S1x8x8192 .f32)

/-- The unmasked score of row `r` against key `k`, the two heads' rows one below the other. -/
def raw (hp : Fin 2) (r : Fin 1024) (k : Fin 8192) : EReal :=
  ∑ j : Fin 128, qsV x0 (ix2 r j) * x1 (ix3 0 j k)
    + (if h : r.val < 512 then x3 (ix3 0 ⟨r.val, h⟩ ⟨2 * hp.val, by omega⟩) - x4 (ix3 0 ⟨2 * hp.val, by omega⟩ k)
        else x3 (ix3 0 ⟨r.val - 512, by omega⟩ ⟨2 * hp.val + 1, by omega⟩) - x4 (ix3 0 ⟨2 * hp.val + 1, by omega⟩ k))

/-- The masked score of row `r` of query block `q`. -/
def score (hp : Fin 2) (q : Fin 16) (r : Fin 1024) (k : Fin 8192) : EReal :=
  if k.val ≤ 512 * q.val + r.val % 512 then raw x0 x1 x3 x4 hp r k else ⊥

/-- A row of scores, continued by minus infinity. -/
def ext (b : EReal) (s : Fin 8192 → EReal) (k : ℕ) : EReal := if h : k < 8192 then s ⟨k, h⟩ else b

theorem ext_of_lt (b : EReal) (s : Fin 8192 → EReal) {k : ℕ} (h : k < 8192) : ext b s k = s ⟨k, h⟩ := dif_pos h

/-- The scores of a tile that is read at the keys from `n` on. -/
theorem tile_raw (hp : Fin 2) (n : ℕ) (hn : n + 512 ≤ 8192) (o1 o3 o4 : Fin 3 → ℕ) (b1 b3 b4)
    (h1 : o1 = ![0, 0, n]) (h3 : o3 = ![0, 2 * hp.val, n]) (h4 : o4 = ![0, 2 * hp.val + 1, n]) (r : Fin 1024) (x : Fin 512) :
    k0_pay3 (k0_pay23 (BitVec.ofNat 32 hp.val) x3) (k0_pay24 (BitVec.ofNat 32 hp.val) x3)
        (View.ld x1 (Rect.unit (s := S1x128x8192) o1 S1x128x512.size b1)) (qsV x0)
        (View.ld x4 (Rect.unit (s := S1x8x8192) o3 S1x1x512.size b3)) (View.ld x4 (Rect.unit (s := S1x8x8192) o4 S1x1x512.size b4)) (ix2 r x)
      = raw x0 x1 x3 x4 hp r ⟨n + x.val, by omega⟩ := by
  subst h1 h3 h4
  rw [pay3_apply]
  unfold raw
  have e1 : ∀ j : Fin 128, View.ld x1 (Rect.unit (s := S1x128x8192) ![0, 0, n] S1x128x512.size b1) (ix3 0 j x) = x1 (ix3 0 j ⟨n + x.val, by omega⟩) :=
    fun j => View.ld_unit_apply_of x1 _ _ b1 _ _ fun a => by
      match a with
      | ⟨0, _⟩ => rfl
      | ⟨1, _⟩ => exact (Nat.zero_add _).symm
      | ⟨2, _⟩ => rfl
  have e3 : View.ld x4 (Rect.unit (s := S1x8x8192) ![0, 2 * hp.val, n] S1x1x512.size b3) (ix3 0 0 x) = x4 (ix3 0 ⟨2 * hp.val, by omega⟩ ⟨n + x.val, by omega⟩) :=
    View.ld_unit_apply_of x4 _ _ b3 _ _ fun a => by
      match a with
      | ⟨0, _⟩ => rfl
      | ⟨1, _⟩ => rfl
      | ⟨2, _⟩ => rfl
  have e4 : View.ld x4 (Rect.unit (s := S1x8x8192) ![0, 2 * hp.val + 1, n] S1x1x512.size b4) (ix3 0 0 x) = x4 (ix3 0 ⟨2 * hp.val + 1, by omega⟩ ⟨n + x.val, by omega⟩) :=
    View.ld_unit_apply_of x4 _ _ b4 _ _ fun a => by
      match a with
      | ⟨0, _⟩ => rfl
      | ⟨1, _⟩ => rfl
      | ⟨2, _⟩ => rfl
  simp only [e1]
  refine congrArg (_ + ·) ?_
  split_ifs with h
  · rw [pay23_apply, e3]
  · rw [pay24_apply, e4]

/-- The values of a tile that is read at the keys from `n` on. -/
theorem tile_val (n : ℕ) (hn : n + 512 ≤ 8192) (o2 : Fin 3 → ℕ) (b2) (h2 : o2 = ![0, n, 0]) (x : Fin 512) (d : Fin 128) :
    View.ld x2 (Rect.unit (s := S1x8192x128) o2 S1x512x128.size b2) (ix3 0 x d) = ext 0 (fun k => x2 (ix3 0 k d)) (n + x.val) := by
  subst h2
  rw [ext_of_lt _ _ (show n + x.val < 8192 by omega)]
  exact View.ld_unit_apply_of x2 _ _ b2 _ _ fun a => by
      match a with
      | ⟨0, _⟩ => rfl
      | ⟨1, _⟩ => rfl
      | ⟨2, _⟩ => exact (Nat.zero_add _).symm

/-- The head pair of a grid point. -/
abbrev hpt : Fin 2 := (grid0.coords t) 1
/-- The query block of a grid point. -/
abbrev qt : Fin 16 := (grid0.coords t) 2

variable (r : Fin 1024)

/-- The loop's trips take in the keys before the diagonal tile. -/
theorem holds_loop (n : ℕ) (hn : n ≤ (qt t).val) :
    Holds (loopV (grid0.coords t) x1 x2 x4 (qsV x0) (k0_pay23 (BitVec.ofNat 32 (hpt t).val) x3) (k0_pay24 (BitVec.ofNat 32 (hpt t).val) x3) n) r
      (ext ⊥ (score x0 x1 x3 x4 (hpt t) (qt t) r)) (fun d => ext 0 fun k => x2 (ix3 0 k d)) (512 * n) := by
  induction n with
  | zero => exact holds_zero _ _ _
  | succ n ih =>
    have hq : (qt t).val < 16 := (qt t).isLt
    have hlt : n < (k0_t1_loop (grid0.coords t)).trips := by rw [trips1 t]; exact hn
    obtain ⟨o1, o2, o3, o4⟩ := offs t ⟨n, hlt⟩
    rw [loopV, dif_pos hlt]
    refine holds_stepV _ _ _ _ _ _ _ _ r _ _ (512 * n)
      (tile_val x2 (512 * n) (by omega) _ _ o2) (ih (by omega)) fun x => ?_
    rw [tile_raw x0 x1 x3 x4 (hpt t) (512 * n) (by omega) _ _ _ _ _ _ o1 o3 o4, ext_of_lt _ _ (show 512 * n + x.val < 8192 by omega)]
    exact (if_pos (show 512 * n + x.val ≤ 512 * (qt t).val + r.val % 512 by omega)).symm

/-- After the diagonal tile every key up to the query is taken in. -/
theorem holds_final :
    Holds (final (grid0.coords t) x0 x1 x2 x3 x4) r
      (ext ⊥ (score x0 x1 x3 x4 (hpt t) (qt t) r)) (fun d => ext 0 fun k => x2 (ix3 0 k d)) (512 * (qt t).val + 512) := by
  have hq : (qt t).val < 16 := (qt t).isLt
  obtain ⟨w0, w1, -⟩ := words t
  obtain ⟨o1, o2, o3, o4⟩ := offsD t
  unfold final
  rw [w0, w1, trips1 t]
  refine holds_stepD _ _ _ _ _ _ _ _ r _ _ (512 * (qt t).val)
    (tile_val x2 (512 * (qt t).val) (by omega) _ _ o2) (holds_loop t x0 x1 x2 x3 x4 r _ le_rfl) _ _ fun x => ?_
  rw [pay32_apply _ _ _ _ _ _ (qt t), tile_raw x0 x1 x3 x4 (hpt t) (512 * (qt t).val) (by omega) _ _ _ _ _ _ o1 o3 o4,
    ext_of_lt _ _ (show 512 * (qt t).val + x.val < 8192 by omega)]
  unfold score
  simp only [Nat.add_le_add_iff_left]

/-- The weighted values over the row sums are the softmax of the row. -/
theorem final_row (d : Fin 128) :
    Ideal.div ((final (grid0.coords t) x0 x1 x2 x3 x4).2.2 (ix2 r d)) (max ((final (grid0.coords t) x0 x1 x2 x3 x4).2.1 (ix2 r 0)) Online.floor)
      = row 8192 (score x0 x1 x3 x4 (hpt t) (qt t) r) (fun k => x2 (ix3 0 k d)) := by
  have hq : (qt t).val < 16 := (qt t).isLt
  obtain ⟨-, h2, h3⟩ := holds_final t x0 x1 x2 x3 x4 r
  rw [h2, h3]
  exact row_eq _ _ _ _ (fun k => ext_of_lt _ _ k.isLt) (fun k => ext_of_lt _ _ k.isLt) (by omega)
    fun k hk => if_neg (show ¬ k.val ≤ 512 * (qt t).val + r.val % 512 by omega)

end point

/-- The head of lane `d` of a head pair, as a row offset: the first head's lanes are the first 64. -/
def lrow (y : Fin 512) (d : Fin 128) : Fin 1024 := if d.val < 64 then ⟨y.val, by omega⟩ else ⟨512 + y.val, by omega⟩

/-- The block that a grid point stores, entry by entry. -/
theorem out_apply (c : Dev nD) (t : Fin grid0.N)
  (arg3 : Memref sig .tc .vmem S1x512x128 .bf16) (harg3 : arg3.IsWhole) (arg4 : Memref sig .tc .vmem S1x128x8192 .bf16) (harg4 : arg4.IsWhole)
  (arg5 : Memref sig .tc .vmem S1x8192x128 .bf16) (harg5 : arg5.IsWhole) (arg6 : Memref sig .tc .vmem S1x512x128 .f32) (harg6 : arg6.IsWhole)
  (arg7 : Memref sig .tc .vmem S1x8x8192 .f32) (harg7 : arg7.IsWhole) (arg8 : Memref sig .tc .vmem S1x512x128 .bf16) (harg8 : arg8.IsWhole)
  (arg9 : Memref sig .tc .vmem S1024x128 .bf16) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x128 .f32) (harg12 : arg12.IsWhole)
    (x0 : Vec Ideal S1x512x128 .bf16) (x1 : Vec Ideal S1x128x8192 .bf16) (x2 : Vec Ideal S1x8192x128 .bf16)
    (x3 : Vec Ideal S1x512x128 .f32) (x4 : Vec Ideal S1x8x8192 .f32) (y : Fin 512) (d : Fin 128) :
    out0_A_5 c (grid0.coords t) arg3 harg3 arg4 harg4 arg5 harg5 arg6 harg6 arg7 harg7 arg8 harg8 arg9 harg9 arg10 harg10 arg11 harg11 arg12 harg12 x0 x1 x2 x3 x4 (ix3 0 y d)
      = row 8192 (score x0 x1 x3 x4 (hpt t) (qt t) (lrow y d)) (fun k => x2 (ix3 0 k d)) := by
  rw [out_eq, pay39_apply, final_row t x0 x1 x2 x3 x4 _, final_row t x0 x1 x2 x3 x4 _]
  unfold lrow
  split_ifs <;> rfl

end Cert.FoxIdeal.Body

end
-- ==== Proof.FoxRef.lean ====
/-
  The reference's attention at an index: entry (b, p, w) of its result is the softmax of query p's masked scores, weighting
  lane w of the values (`ref_apply`).
-/
module

public import proofs.«01_k».proof.Proof.Gen.FoxRefIdeal.Read
public import proofs.«01_k».proof.Proof.Online
public import Idealize.ShloMosaic.Lib.Pointwise
public import Idealize.ShloMosaic.Lib.WordCmp

@[expose] public section

set_option maxRecDepth 16384

noncomputable section

namespace Cert.FoxRefIdeal.RefValue

open Cert.FoxRefIdeal Cert.FoxRefIdeal.Gen Cert.FoxRefIdeal.Read Idealize.ShloMosaic Online

variable (q : (⟨S16384x256, .bf16⟩ : BufTy).Contents (Elt Ideal)) (kT : (⟨S2x256x8192, .bf16⟩ : BufTy).Contents (Elt Ideal))
  (v : (⟨S16384x256, .bf16⟩ : BufTy).Contents (Elt Ideal)) (c : (⟨S16384x128, .f32⟩ : BufTy).Contents (Elt Ideal))
  (cT : (⟨S2x8x8192, .f32⟩ : BufTy).Contents (Elt Ideal))

/-- The masked score of query `p` against key `k` in head `h`. -/
def score (b : Fin 2) (h : Fin 4) (p k : Fin 8192) : EReal :=
  if k.val ≤ p.val then ∑ j : Fin 64, q (ix2 ⟨b.val * 8192 + p.val, by omega⟩ ⟨h.val * 64 + j.val, by omega⟩) * kT (ix3 b ⟨h.val * 64 + j.val, by omega⟩ k)
    + c (ix2 ⟨b.val * 8192 + p.val, by omega⟩ ⟨h.val, by omega⟩) - cT (ix3 b ⟨h.val, by omega⟩ k) else ⊥

/-- Entry (b, p, w) of the attention's result. -/
def attn (b : Fin 2) (p : Fin 8192) (w : Fin 256) : EReal :=
  row 8192 (score q kT c cT b ⟨w.val / 64, by omega⟩ p) fun k => v (ix2 ⟨b.val * 8192 + k.val, by omega⟩ w)

theorem v10_apply (b : Fin 2) (h : Fin 4) (p k : Fin 8192) : val_main_v10 (F := Ideal) q kT (ix4 b h p k)
    = ∑ j : Fin 64, val_main_v1 (F := Ideal) q (ix4 b p h j) * val_main_v3 (F := Ideal) kT (ix4 b h j k) := by
  pointwise [val_main_v10]

theorem v1_apply (b : Fin 2) (p : Fin 8192) (h : Fin 4) (j : Fin 64) : val_main_v1 (F := Ideal) q (ix4 b p h j)
    = q (ix2 ⟨b.val * 8192 + p.val, by omega⟩ ⟨h.val * 64 + j.val, by omega⟩) := by
  pointwise [val_main_v1, val_main_v0]

theorem v3_apply (b : Fin 2) (h : Fin 4) (j : Fin 64) (k : Fin 8192) : val_main_v3 (F := Ideal) kT (ix4 b h j k)
    = kT (ix3 b ⟨h.val * 64 + j.val, by omega⟩ k) := by
  pointwise [val_main_v2, val_main_v3]

theorem v12_apply (b : Fin 2) (h : Fin 4) (p k : Fin 8192) : val_main_v12 (F := Ideal) c (ix4 b h p k)
    = c (ix2 ⟨b.val * 8192 + p.val, by omega⟩ ⟨h.val, by omega⟩) := by
  pointwise [val_main_v6, val_main_v7, val_main_v8, val_main_v11, val_main_v12]

theorem v15_apply (b : Fin 2) (h : Fin 4) (p k : Fin 8192) : val_main_v15 (F := Ideal) cT (ix4 b h p k)
    = cT (ix3 b ⟨h.val, by omega⟩ k) := by
  pointwise [val_main_v9, val_main_v14, val_main_v15]

theorem v22_apply (p k : Fin 8192) : val_main_v22 (F := Ideal) (ix2 p k) = IntOp.cmpi CmpIPredicate.sle (BitVec.ofNat 32 k.val) (BitVec.ofNat 32 p.val) := by
  pointwise [val_main_v17, val_main_v18, val_main_v19, val_main_v20, val_main_v21, val_main_v22]

/-- A masked score of the reference. -/
theorem v23_apply (b : Fin 2) (h : Fin 4) (p k : Fin 8192) : val_main_v23 (F := Ideal) q kT c cT (ix4 b h p k) = score q kT c cT b h p k := by
  rw [val_main_v23_apply, val_main_call0_v1_apply, val_main_call0_v2_apply, val_main_v16_apply, val_main_v13_apply]
  rw [show idx_main_call0_v1 (ix4 b h p k) = ix2 p k from funext fun a => by fin_cases a <;> rfl]
  rw [v22_apply, v12_apply, v15_apply, v10_apply, WordCmp.cmpi_sle_ofNat (by omega) (by omega), WordCmp.select_decide]
  simp only [v1_apply, v3_apply]
  unfold score
  exact congrArg (fun z => ite _ _ z) (show Ideal.ofBits .f32 0xFF800000#32 = ⊥ from ninf_eq)

/-- A row's maximum. -/
theorem v24_apply (b : Fin 2) (h : Fin 4) (p : Fin 8192) : val_main_v24 (F := Ideal) q kT c cT (ix3 b h p)
    = Finset.univ.sup fun k => score q kT c cT b h p k := by
  rw [← fold_eq]
  simp only [← v23_apply]
  pointwise [val_main_v24, val_main_cst_0]

/-- The guarded maximum. -/
theorem v29_apply (b : Fin 2) (h : Fin 4) (p : Fin 8192) (z : Fin 1) : val_main_v29 (F := Ideal) q kT c cT (ix4 b h p z)
    = guard (Finset.univ.sup fun k => score q kT c cT b h p k) := by
  rw [val_main_v29_apply, val_main_v28_apply, val_main_v26_apply, val_main_v25_apply, val_main_v27_apply]
  rw [show idx_main_v25 (ix4 b h p z) = ix3 b h p from funext fun a => by fin_cases a <;> rfl, v24_apply]
  generalize (Finset.univ.sup fun k => score q kT c cT b h p k) = m
  rw [val_main_cst_1_apply, Ideal.hostAbsf_def, Ideal.absf_def, Ideal.cmpf_def]
  show Scalar.select (Ideal.cmp .olt (max m (-m)) (Ideal.ofBits .f32 0x7F800000#32)) m (Ideal.ofBits .f32 0x00000000#32) = _
  rw [pinf_eq, Ideal.ofBits_zero]
  exact WordCmp.select_decide (p := max m (-m) < ⊤) m 0

theorem v32_apply (b : Fin 2) (h : Fin 4) (p k : Fin 8192) : val_main_v32 (F := Ideal) q kT c cT (ix4 b h p k)
    = Ideal.exp (val_main_v23 (F := Ideal) q kT c cT (ix4 b h p k) - val_main_v29 (F := Ideal) q kT c cT (ix4 b h p 0)) := by
  rw [val_main_v32_apply, val_main_v31_apply, val_main_v30_apply,
    show idx_main_v30 (ix4 b h p k) = ix4 b h p 0 from funext fun a => by fin_cases a <;> rfl]
  rfl

theorem v33_apply (b : Fin 2) (h : Fin 4) (p : Fin 8192) : val_main_v33 (F := Ideal) q kT c cT (ix3 b h p)
    = ∑ k, val_main_v32 (F := Ideal) q kT c cT (ix4 b h p k) := by
  pointwise [val_main_v33, val_main_cst_3]

theorem v38_apply (b : Fin 2) (h : Fin 4) (p k : Fin 8192) : val_main_v38 (F := Ideal) q kT c cT (ix4 b h p k)
    = Ideal.div (val_main_v32 (F := Ideal) q kT c cT (ix4 b h p k)) (max (∑ k, val_main_v32 (F := Ideal) q kT c cT (ix4 b h p k)) Online.floor) := by
  rw [← v33_apply, val_main_v38_apply, val_main_v37_apply, val_main_v36_apply, val_main_v34_apply, val_main_v35_apply,
    show idx_main_v34 (idx_main_v37 (ix4 b h p k)) = ix3 b h p from funext fun a => by fin_cases a <;> rfl, val_main_cst_4_apply]
  exact Ideal.hostDivf_def _ _

theorem v5_apply (b : Fin 2) (p : Fin 8192) (h : Fin 4) (j : Fin 64) : val_main_v5 (F := Ideal) v (ix4 b p h j)
    = v (ix2 ⟨b.val * 8192 + p.val, by omega⟩ ⟨h.val * 64 + j.val, by omega⟩) := by
  pointwise [val_main_v5, val_main_v4]

theorem v39_apply (b : Fin 2) (h : Fin 4) (j : Fin 64) (p : Fin 8192) : val_main_v39 (F := Ideal) q kT v c cT (ix4 b h j p)
    = ∑ k : Fin 8192, val_main_v5 (F := Ideal) v (ix4 b k h j) * val_main_v38 (F := Ideal) q kT c cT (ix4 b h p k) := by
  pointwise [val_main_v39]

theorem v42_apply (b : Fin 2) (p : Fin 8192) (w : Fin 256) : val_main_v42 (F := Ideal) q kT v c cT (ix3 b p w)
    = val_main_v39 (F := Ideal) q kT v c cT (ix4 b ⟨w.val / 64, by omega⟩ ⟨w.val % 64, by omega⟩ p) := by
  pointwise [val_main_v40, val_main_v41, val_main_v42]

/-- The reference's result, entry by entry. -/
theorem ref_apply (b : Fin 2) (p : Fin 8192) (w : Fin 256) :
    val_main_v42 (F := Ideal) q kT v c cT (ix3 b p w) = attn q kT v c cT b p w := by
  rw [v42_apply, v39_apply]
  unfold attn
  rw [← guard_row]
  refine Finset.sum_congr rfl fun k _ => ?_
  rw [v38_apply, v5_apply, mul_comm]
  simp only [v32_apply, v23_apply, v29_apply]
  refine congrArg (_ * ·) (congrArg v ?_)
  exact congrArg (ix2 _) (Fin.ext (Nat.div_add_mod' w.val 64))

end Cert.FoxRefIdeal.RefValue

end
-- ==== Proof.FoxValue.lean ====
/-
  The attention kernel's result array: entry (b, p, w) is the softmax of query p's scores weighting lane w of the values
  (`run`). The 64 blocks, one per batch entry, head pair and 512 queries, tile the array.
-/
module

public import proofs.«01_k».proof.Proof.Gen.FoxIdeal.Value
public import proofs.«01_k».proof.Proof.FoxLoop
public import proofs.«01_k».proof.Proof.FoxRef

@[expose] public section

set_option maxRecDepth 16384

noncomputable section

namespace Cert.FoxIdeal.RefValue

open Cert.FoxIdeal Cert.FoxIdeal.Gen Cert.FoxIdeal.Body Idealize.ShloMosaic Idealize.ShloMosaic.TcCoe Idealize.SL.Sem

local notation "fscore" => Cert.FoxRefIdeal.RefValue.score

/-- The scores that a grid point finds in its blocks are the layer's: a row of the two heads' stack has zeros in the
    other head's lanes. -/
theorem score_eq (x0 : Vec Ideal S1x512x128 .bf16) (x1 : Vec Ideal S1x128x8192 .bf16)
    (x3 : Vec Ideal S1x512x128 .f32) (x4 : Vec Ideal S1x8x8192 .f32)
    (q : Vec Ideal S16384x256 .bf16) (kT : Vec Ideal S2x256x8192 .bf16) (c : Vec Ideal S16384x128 .f32) (cT : Vec Ideal S2x8x8192 .f32)
    (b hp : Fin 2) (n : Fin 16)
    (h0 : ∀ (y : Fin 512) (d : Fin 128), x0 (ix3 0 y d) = q (ix2 ⟨b.val * 8192 + (512 * n.val + y.val), by omega⟩ ⟨128 * hp.val + d.val, by omega⟩))
    (h1 : ∀ (d : Fin 128) (k : Fin 8192), x1 (ix3 0 d k) = kT (ix3 b ⟨128 * hp.val + d.val, by omega⟩ k))
    (h3 : ∀ (y : Fin 512) (l : Fin 128), x3 (ix3 0 y l) = c (ix2 ⟨b.val * 8192 + (512 * n.val + y.val), by omega⟩ l))
    (h4 : ∀ (l : Fin 8) (k : Fin 8192), x4 (ix3 0 l k) = cT (ix3 b l k)) (r : Fin 1024) (k : Fin 8192) :
    score x0 x1 x3 x4 hp n r k
      = fscore q kT c cT b ⟨2 * hp.val + r.val / 512, by omega⟩ ⟨512 * n.val + r.val % 512, by omega⟩ k := by
  unfold score Cert.FoxRefIdeal.RefValue.score
  split_ifs with hk
  · rw [sub_eq_add_neg, add_assoc, ← sub_eq_add_neg]
    unfold raw
    have hs := Fin.sum_univ_add (a := 64) (b := 64) fun j : Fin 128 => qsV x0 (ix2 r j) * x1 (ix3 0 j k)
    rw [show (∑ j : Fin 128, qsV x0 (ix2 r j) * x1 (ix3 0 j k)) = _ from hs]
    by_cases hr : r.val < 512
    · have hq : ∀ d : Fin 128, qsV x0 (ix2 r d) = if d.val < 64 then x0 (ix3 0 ⟨r.val, hr⟩ d) else 0 := fun d => by
        rw [← pay16_apply]
        exact dif_pos (show ((ix2 r d : S1024x128.Idx) 0).val < 512 from hr)
      have hz : (∑ j : Fin 64, qsV x0 (ix2 r (Fin.natAdd 64 j)) * x1 (ix3 0 (Fin.natAdd 64 j) k)) = 0 :=
        Finset.sum_eq_zero fun j _ => by
          rw [hq, if_neg (by show ¬ 64 + j.val < 64; omega), zero_mul]
      rw [hz, add_zero, dif_pos hr, h3, h4]
      refine congrArg₂ (· + ·) (Finset.sum_congr rfl fun j _ => ?_) (congrArg₂ (· - ·) (congrArg c ?_) (congrArg cT ?_))
      · rw [hq, if_pos (show (Fin.castAdd 64 j).val < 64 from j.isLt), h0, h1]
        refine congrArg₂ (· * ·) (congrArg q ?_) (congrArg kT ?_)
        · refine congrArg₂ ix2 (Fin.ext ?_) (Fin.ext ?_)
          · show b.val * 8192 + (512 * n.val + r.val) = b.val * 8192 + (512 * n.val + r.val % 512); omega
          · show 128 * hp.val + j.val = (2 * hp.val + r.val / 512) * 64 + j.val; omega
        · refine congrArg (ix3 b · k) (Fin.ext ?_)
          show 128 * hp.val + j.val = (2 * hp.val + r.val / 512) * 64 + j.val; omega
      · refine congrArg₂ ix2 (Fin.ext ?_) (Fin.ext ?_)
        · show b.val * 8192 + (512 * n.val + r.val) = b.val * 8192 + (512 * n.val + r.val % 512); omega
        · show 2 * hp.val = 2 * hp.val + r.val / 512; omega
      · refine congrArg (ix3 b · k) (Fin.ext ?_)
        show 2 * hp.val = 2 * hp.val + r.val / 512; omega
    · have hq : ∀ d : Fin 128, qsV x0 (ix2 r d) = if 64 ≤ d.val then x0 (ix3 0 ⟨r.val - 512, by omega⟩ d) else 0 := fun d => by
        rw [← pay17_apply]
        exact dif_neg (show ¬ ((ix2 r d : S1024x128.Idx) 0).val < 512 from hr)
      have hz : (∑ j : Fin 64, qsV x0 (ix2 r (Fin.castAdd 64 j)) * x1 (ix3 0 (Fin.castAdd 64 j) k)) = 0 :=
        Finset.sum_eq_zero fun j _ => by
          rw [hq, if_neg (by show ¬ 64 ≤ j.val; omega), zero_mul]
      rw [hz, zero_add, dif_neg hr, h3, h4]
      refine congrArg₂ (· + ·) (Finset.sum_congr rfl fun j _ => ?_) (congrArg₂ (· - ·) (congrArg c ?_) (congrArg cT ?_))
      · rw [hq, if_pos (show 64 ≤ (Fin.natAdd 64 j).val from Nat.le_add_right 64 _), h0, h1]
        refine congrArg₂ (· * ·) (congrArg q ?_) (congrArg kT ?_)
        · refine congrArg₂ ix2 (Fin.ext ?_) (Fin.ext ?_)
          · show b.val * 8192 + (512 * n.val + (r.val - 512)) = b.val * 8192 + (512 * n.val + r.val % 512); omega
          · show 128 * hp.val + (64 + j.val) = (2 * hp.val + r.val / 512) * 64 + j.val; omega
        · refine congrArg (ix3 b · k) (Fin.ext ?_)
          show 128 * hp.val + (64 + j.val) = (2 * hp.val + r.val / 512) * 64 + j.val; omega
      · refine congrArg₂ ix2 (Fin.ext ?_) (Fin.ext ?_)
        · show b.val * 8192 + (512 * n.val + (r.val - 512)) = b.val * 8192 + (512 * n.val + r.val % 512); omega
        · show 2 * hp.val + 1 = 2 * hp.val + r.val / 512; omega
      · refine congrArg (ix3 b · k) (Fin.ext ?_)
        show 2 * hp.val + 1 = 2 * hp.val + r.val / 512; omega
  · rfl

variable (m : (ℓ : Loc nD τ sig) → Buf (Elt Ideal) ℓ) (ρ : Dev nD → PrngReg)

/-- The layer's attention of device c's argument arrays. -/
def G (c : Dev nD) : Buf (Elt Ideal) ((c : Thread nD τ).loc main_v3) := fun i : S2x8192x256.Idx =>
  Cert.FoxRefIdeal.RefValue.attn (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The batch entries' rows one below the other, at an index. -/
theorem rows_apply (x : FVec Ideal S16384x256 .bf16) (b : Fin 2) (p : Fin 8192) (w : Fin 256) :
    shapeCast S2x8192x256 x shapeCasts_S16384x256_S2x8192x256 (ix3 b p w) = x (ix2 ⟨b.val * 8192 + p.val, by omega⟩ w) := by
  pointwise

/-- Likewise for the log-gates. -/
theorem rows_apply' (x : FVec Ideal S16384x128 .f32) (b : Fin 2) (p : Fin 8192) (w : Fin 128) :
    shapeCast S2x8192x128 x shapeCasts_S16384x128_S2x8192x128 (ix3 b p w) = x (ix2 ⟨b.val * 8192 + p.val, by omega⟩ w) := by
  pointwise

/-- The queries, as the kernel finds them. -/
theorem V_v0 (c : Dev nD) (b : Fin 2) (p : Fin 8192) (w : Fin 256) :
    (V m c main_v0 : Vec Ideal S2x8192x256 .bf16) (ix3 b p w) = m ((c : Thread nD τ).loc main_arg0) (ix2 ⟨b.val * 8192 + p.val, by omega⟩ w) := by
  have e : @Eq (FVec Ideal S2x8192x256 .bf16) (V m c main_v0)
      <| shapeCast S2x8192x256 (m ((c : Thread nD τ).loc main_arg0) : Vec Ideal S16384x256 .bf16) shapeCasts_S16384x256_S2x8192x256 := by
    dsimp only [V]; after_results_simp; rfl
  rw [e]; exact rows_apply _ b p w

/-- The values. -/
theorem V_v1 (c : Dev nD) (b : Fin 2) (p : Fin 8192) (w : Fin 256) :
    (V m c main_v1 : Vec Ideal S2x8192x256 .bf16) (ix3 b p w) = m ((c : Thread nD τ).loc main_arg2) (ix2 ⟨b.val * 8192 + p.val, by omega⟩ w) := by
  have e : @Eq (FVec Ideal S2x8192x256 .bf16) (V m c main_v1)
      <| shapeCast S2x8192x256 (m ((c : Thread nD τ).loc main_arg2) : Vec Ideal S16384x256 .bf16) shapeCasts_S16384x256_S2x8192x256 := by
    dsimp only [V]; after_results_simp; rfl
  rw [e]; exact rows_apply _ b p w

/-- The accumulated log-gates, one lane per head. -/
theorem V_v2 (c : Dev nD) (b : Fin 2) (p : Fin 8192) (w : Fin 128) :
    (V m c main_v2 : Vec Ideal S2x8192x128 .f32) (ix3 b p w) = m ((c : Thread nD τ).loc main_arg3) (ix2 ⟨b.val * 8192 + p.val, by omega⟩ w) := by
  have e : @Eq (FVec Ideal S2x8192x128 .f32) (V m c main_v2)
      <| shapeCast S2x8192x128 (m ((c : Thread nD τ).loc main_arg3) : Vec Ideal S16384x128 .f32) shapeCasts_S16384x128_S2x8192x128 := by
    dsimp only [V]; after_results_simp; rfl
  rw [e]; exact rows_apply' _ b p w

/-- The batch entry of a grid point. -/
abbrev bt (t : Fin grid0.N) : Fin 2 := (grid0.coords t) 0

/-- Where the blocks of the queries, of the keys and of the values lie. -/
theorem idx_facts : ∀ t : Fin grid0.N,
    (win0_0.index t 0 * win0_0.size 0 = (bt t).val ∧ win0_0.index t 1 * win0_0.size 1 = 512 * (qt t).val ∧ win0_0.index t 2 * win0_0.size 2 = 128 * (hpt t).val)
    ∧ (win0_1.index t 0 * win0_1.size 0 = (bt t).val ∧ win0_1.index t 1 * win0_1.size 1 = 128 * (hpt t).val ∧ win0_1.index t 2 * win0_1.size 2 = 0)
    ∧ (win0_2.index t 0 * win0_2.size 0 = (bt t).val ∧ win0_2.index t 1 * win0_2.size 1 = 0 ∧ win0_2.index t 2 * win0_2.size 2 = 128 * (hpt t).val) := by
  decide +kernel

/-- Where the blocks of the log-gates and of the result lie, and how large the latter are. -/
theorem idx_facts' : ∀ t : Fin grid0.N,
    (win0_3.index t 0 * win0_3.size 0 = (bt t).val ∧ win0_3.index t 1 * win0_3.size 1 = 512 * (qt t).val ∧ win0_3.index t 2 * win0_3.size 2 = 0)
    ∧ (win0_4.index t 0 * win0_4.size 0 = (bt t).val ∧ win0_4.index t 1 * win0_4.size 1 = 0 ∧ win0_4.index t 2 * win0_4.size 2 = 0)
    ∧ (win0_5.index t 0 * win0_5.size 0 = (bt t).val ∧ win0_5.index t 1 * win0_5.size 1 = 512 * (qt t).val ∧ win0_5.index t 2 * win0_5.size 2 = 128 * (hpt t).val)
    ∧ (win0_5.xsize (grid0.coords t) 0 = 1 ∧ win0_5.xsize (grid0.coords t) 1 = 512 ∧ win0_5.xsize (grid0.coords t) 2 = 128) := by
  decide +kernel

/-- Every batch entry, head pair and query block has a grid point. -/
theorem point : ∀ (b hp : Fin 2) (n : Fin 16), ∃ t : Fin grid0.N, bt t = b ∧ hpt t = hp ∧ qt t = n := by decide +kernel

/-- An index of the result array is in point t's block when its batch entry, its query and its lane are. -/
theorem mem_blk (t : Fin cfg0.N) (i : S2x8192x256.Idx) (h0 : (i 0).val = (bt t).val)
    (h1 : 512 * (qt t).val ≤ (i 1).val ∧ (i 1).val < 512 * (qt t).val + 512)
    (h2 : 128 * (hpt t).val ≤ (i 2).val ∧ (i 2).val < 128 * (hpt t).val + 128) :
    i ∈ ((cfg0.win 5).blk t).view.set := by
  show i ∈ ((View.whole main_v3).slice (win0_5.rect t)).set
  rw [View.set_slice_whole, Rect.mem_set_unit]
  obtain ⟨-, -, ⟨e0, e1, e2⟩, s0, s1, s2⟩ := idx_facts' t
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; exact h1
  | ⟨2, _⟩ => show win0_5.index t 2 * win0_5.size 2 ≤ (i 2 : Nat) ∧ (i 2 : Nat) < win0_5.index t 2 * win0_5.size 2 + win0_5.xsize (grid0.coords t) 2
              rw [e2, s2]; exact h2

/-- The blocks tile the result array. -/
theorem cover (i : S2x8192x256.Idx) :
    ∃ t : Fin cfg0.N, (cfg0.win 5).flush t = true ∧ i ∈ ((cfg0.win 5).blk t).view.set := by
  have h1 : (i 1 : Nat) < 8192 := (i 1).isLt
  have h2 : (i 2 : Nat) < 256 := (i 2).isLt
  obtain ⟨t, e0, e1, e2⟩ := point (i 0) ⟨(i 2 : Nat) / 128, by omega⟩ ⟨(i 1 : Nat) / 512, by omega⟩
  refine ⟨t, flush0_5 _, mem_blk t i (by rw [e0]) ?_ ?_⟩
  · rw [e2]; dsimp only; omega
  · rw [e1]; dsimp only; omega

/-- The array position of entry (y, d) of block t. -/
theorem emb5 (t : Fin cfg0.N) (y : Fin 512) (d : Fin 128) :
    ((win0_5.blk t).view.emb (ix3 0 y d) : S2x8192x256.Idx)
      = ix3 (bt t) ⟨512 * (qt t).val + y.val, by have := (qt t).isLt; omega⟩ ⟨128 * (hpt t).val + d.val, by have := (hpt t).isLt; omega⟩ := by
  obtain ⟨-, -, ⟨e0, e1, e2⟩, -⟩ := idx_facts' t
  funext a
  apply Fin.ext
  match a with
  | ⟨0, _⟩ => show win0_5.index t 0 * win0_5.size 0 + 1 * 0 = (bt t).val; rw [e0]; rfl
  | ⟨1, _⟩ => show win0_5.index t 1 * win0_5.size 1 + 1 * y.val = 512 * (qt t).val + y.val; rw [e1, Nat.one_mul]
  | ⟨2, _⟩ => show win0_5.index t 2 * win0_5.size 2 + 1 * d.val = 128 * (hpt t).val + d.val; rw [e2, Nat.one_mul]

/-- Point t's block of the queries. -/
theorem blk0 (c : Dev nD) (t : Fin cfg0.N) (y : Fin 512) (d : Fin 128) :
    (iblk m c 0 t : Vec Ideal S1x512x128 .bf16) (ix3 0 y d) = m ((c : Thread nD τ).loc main_arg0)
      (ix2 ⟨(bt t).val * 8192 + (512 * (qt t).val + y.val), by have := (qt t).isLt; have := (bt t).isLt; omega⟩
        ⟨128 * (hpt t).val + d.val, by have := (hpt t).isLt; omega⟩) := by
  obtain ⟨⟨e0, e1, e2⟩, -⟩ := idx_facts t
  rw [← V_v0 m c (bt t) ⟨512 * (qt t).val + y.val, by have := (qt t).isLt; omega⟩]
  refine congrArg (V m c main_v0 : Vec Ideal S2x8192x256 .bf16) (funext fun a => Fin.ext ?_)
  match a with
  | ⟨0, _⟩ => show win0_0.index t 0 * win0_0.size 0 + 1 * 0 = (bt t).val; rw [e0]; rfl
  | ⟨1, _⟩ => show win0_0.index t 1 * win0_0.size 1 + 1 * y.val = 512 * (qt t).val + y.val; rw [e1, Nat.one_mul]
  | ⟨2, _⟩ => show win0_0.index t 2 * win0_0.size 2 + 1 * d.val = 128 * (hpt t).val + d.val; rw [e2, Nat.one_mul]

/-- Point t's block of the keys: a head pair's lanes, every key. -/
theorem blk1 (c : Dev nD) (t : Fin cfg0.N) (d : Fin 128) (k : Fin 8192) :
    (iblk m c 1 t : Vec Ideal S1x128x8192 .bf16) (ix3 0 d k) = m ((c : Thread nD τ).loc main_arg1)
      (ix3 (bt t) ⟨128 * (hpt t).val + d.val, by have := (hpt t).isLt; omega⟩ k) := by
  obtain ⟨-, ⟨e0, e1, e2⟩, -⟩ := idx_facts t
  rw [← V_main_arg1 m c]
  refine congrArg (V m c main_arg1 : Vec Ideal S2x256x8192 .bf16) (funext fun a => Fin.ext ?_)
  match a with
  | ⟨0, _⟩ => show win0_1.index t 0 * win0_1.size 0 + 1 * 0 = (bt t).val; rw [e0]; rfl
  | ⟨1, _⟩ => show win0_1.index t 1 * win0_1.size 1 + 1 * d.val = 128 * (hpt t).val + d.val; rw [e1, Nat.one_mul]
  | ⟨2, _⟩ => show win0_1.index t 2 * win0_1.size 2 + 1 * k.val = k.val; rw [e2]; omega

/-- Point t's block of the values. -/
theorem blk2 (c : Dev nD) (t : Fin cfg0.N) (k : Fin 8192) (d : Fin 128) :
    (iblk m c 2 t : Vec Ideal S1x8192x128 .bf16) (ix3 0 k d) = m ((c : Thread nD τ).loc main_arg2)
      (ix2 ⟨(bt t).val * 8192 + k.val, by have := (bt t).isLt; omega⟩ ⟨128 * (hpt t).val + d.val, by have := (hpt t).isLt; omega⟩) := by
  obtain ⟨-, -, ⟨e0, e1, e2⟩⟩ := idx_facts t
  rw [← V_v1 m c (bt t) k]
  refine congrArg (V m c main_v1 : Vec Ideal S2x8192x256 .bf16) (funext fun a => Fin.ext ?_)
  match a with
  | ⟨0, _⟩ => show win0_2.index t 0 * win0_2.size 0 + 1 * 0 = (bt t).val; rw [e0]; rfl
  | ⟨1, _⟩ => show win0_2.index t 1 * win0_2.size 1 + 1 * k.val = k.val; rw [e1]; omega
  | ⟨2, _⟩ => show win0_2.index t 2 * win0_2.size 2 + 1 * d.val = 128 * (hpt t).val + d.val; rw [e2, Nat.one_mul]

/-- Point t's block of the queries' log-gates. -/
theorem blk3 (c : Dev nD) (t : Fin cfg0.N) (y : Fin 512) (l : Fin 128) :
    (iblk m c 3 t : Vec Ideal S1x512x128 .f32) (ix3 0 y l) = m ((c : Thread nD τ).loc main_arg3)
      (ix2 ⟨(bt t).val * 8192 + (512 * (qt t).val + y.val), by have := (qt t).isLt; have := (bt t).isLt; omega⟩ l) := by
  obtain ⟨⟨e0, e1, e2⟩, -⟩ := idx_facts' t
  rw [← V_v2 m c (bt t) ⟨512 * (qt t).val + y.val, by have := (qt t).isLt; omega⟩]
  refine congrArg (V m c main_v2 : Vec Ideal S2x8192x128 .f32) (funext fun a => Fin.ext ?_)
  match a with
  | ⟨0, _⟩ => show win0_3.index t 0 * win0_3.size 0 + 1 * 0 = (bt t).val; rw [e0]; rfl
  | ⟨1, _⟩ => show win0_3.index t 1 * win0_3.size 1 + 1 * y.val = 512 * (qt t).val + y.val; rw [e1, Nat.one_mul]
  | ⟨2, _⟩ => show win0_3.index t 2 * win0_3.size 2 + 1 * l.val = l.val; rw [e2]; omega

/-- Point t's block of the keys' log-gates. -/
theorem blk4 (c : Dev nD) (t : Fin cfg0.N) (l : Fin 8) (k : Fin 8192) :
    (iblk m c 4 t : Vec Ideal S1x8x8192 .f32) (ix3 0 l k) = m ((c : Thread nD τ).loc main_arg4) (ix3 (bt t) l k) := by
  obtain ⟨-, ⟨e0, e1, e2⟩, -⟩ := idx_facts' t
  rw [← V_main_arg4 m c]
  refine congrArg (V m c main_arg4 : Vec Ideal S2x8x8192 .f32) (funext fun a => Fin.ext ?_)
  match a with
  | ⟨0, _⟩ => show win0_4.index t 0 * win0_4.size 0 + 1 * 0 = (bt t).val; rw [e0]; rfl
  | ⟨1, _⟩ => show win0_4.index t 1 * win0_4.size 1 + 1 * l.val = l.val; rw [e1]; omega
  | ⟨2, _⟩ => show win0_4.index t 2 * win0_4.size 2 + 1 * k.val = k.val; rw [e2]; omega

/-- Point t writes back block t of the layer's attention. -/
theorem flushed_eq (c : Dev nD) (t : Fin cfg0.N) :
    (dats m 0 c).flushed 5 t = (win0_5.blk t).view.read (Elt Ideal) (G m c) := by
  rw [Value.flushed5_A]
  funext i
  obtain ⟨y, d, rfl⟩ : ∃ (y : Fin 512) (d : Fin 128), i = ix3 0 y d :=
    ⟨⟨(i 1).val, (i 1).isLt⟩, ⟨(i 2).val, (i 2).isLt⟩, funext fun a => Fin.ext (by
      match a with
      | ⟨0, _⟩ => exact Nat.lt_one_iff.1 (i 0).isLt
      | ⟨1, _⟩ => rfl
      | ⟨2, _⟩ => rfl)⟩
  have hs := score_eq (iblk m c 0 t) (iblk m c 1 t) (iblk m c 3 t) (iblk m c 4 t) _ _ _ _ (bt t) (hpt t) (qt t)
    (blk0 m c t) (blk1 m c t) (blk3 m c t) (blk4 m c t)
  have e := out_apply c t (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) y d
  refine Eq.trans e ?_
  show _ = G m c ((win0_5.blk t).view.emb (ix3 0 y d))
  rw [emb5 t y d]
  have hd : (lrow y d).val / 512 = d.val / 64 ∧ (lrow y d).val % 512 = y.val := by
    unfold lrow
    split_ifs <;> dsimp only <;> omega
  refine congrArg₂ (Online.row 8192) (funext fun k => ?_) (funext fun k => blk2 m c t k d)
  rw [hs]
  refine congrArg₂ (fscore _ _ _ _ (bt t) · · k) (Fin.ext ?_) (Fin.ext ?_)
  · show 2 * (hpt t).val + (lrow y d).val / 512 = (128 * (hpt t).val + d.val) / 64
    rw [hd.1]; omega
  · show 512 * (qt t).val + (lrow y d).val % 512 = 512 * (qt t).val + y.val
    rw [hd.2]

/-- So the result array ends holding the layer's attention. -/
theorem final (c : Dev nD) : (dats m 0 c).arrAt 5 cfg0.N = G m c :=
  (dats m 0 c).arrAt_eq_of_cover 5 (G m c) (fun t _ => flushed_eq m c t) cover

/-- The run, read: the result array at the layer's attention, the arguments unchanged. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.FoxIdeal.RefValue

end
-- ==== Proof.FoxClaims.lean ====
/-
  The claims about the forgetting attention that are not generated: its idealization keeps what the kernel says, the
  reference runs and keeps its arguments (`frame_ref`), and from equal arguments the kernel and the
  reference end with equal results (`algebraic`).
-/
module

public import proofs.«01_k».proof.Defs
public import proofs.«01_k».proof.Proof.Gen.FoxRefIdeal.Run
public import proofs.«01_k».proof.Proof.FoxValue
public import Idealize.ShloMosaic.Lib.Quiescent
public import Idealize.ShloMosaic.Adequacy
public import Idealize.ShloMosaic.Init

@[expose] public section

set_option maxRecDepth 16384

noncomputable section

namespace Cert.FoxClaims

open Idealize.ShloMosaic Idealize.ShloMosaic.TcCoe Idealize.SL.Sem

/-- The constant that stands for the mask is named and reads as −∞. -/
theorem preserves : Cert.preserves_Fox_FoxIdeal :=
  IdealRules.named_const.statement Cert.FoxIdeal.κ "mask" .f32 0xF149F2CA#32 ⊥ rfl

/-- The reference terminates, keeps its arguments and leaves every counter at zero. -/
theorem frame_ref : Cert.quiescent_FoxRefIdeal := fun m ρ _ =>
  (θ_run Cert.FoxRefIdeal.defs _ _).mono
    (fun r h => ⟨fun c => (h c).2, Idealize.ShloMosaic.sem_eq_zero_of_no_sems (by decide) r.2⟩)
    (Cert.FoxRefIdeal.Value.run (F := Ideal) m ρ)

/-- From equal arguments the kernel and the reference end with equal results. -/
theorem algebraic : Cert.algebraic_FoxIdeal_FoxRefIdeal := by
  intro m ρ m' ρ' _ hagree
  refine ⟨fun c => Cert.FoxIdeal.RefValue.G m c, Cert.FoxIdeal.RefValue.run m ρ, ?_⟩
  refine (θ_run Cert.FoxRefIdeal.defs _ _).mono (fun r h c => ⟨(h c).1.trans ?_, (h c).2⟩)
    (Cert.FoxRefIdeal.Value.run (F := Ideal) m' ρ')
  obtain ⟨h0, h1, h2, h3, h4⟩ := hagree c
  rw [Cert.FoxRefIdeal.Read.val_main_v42_eq, h0, h1, h2, h3, h4]
  funext i
  obtain ⟨b, p, w, rfl⟩ : ∃ (b : Fin 2) (p : Fin 8192) (w : Fin 256), i = ix3 b p w :=
    ⟨⟨(i 0).val, (i 0).isLt⟩, ⟨(i 1).val, (i 1).isLt⟩, ⟨(i 2).val, (i 2).isLt⟩, funext fun k => Fin.ext (by
      match k with
      | ⟨0, _⟩ => rfl
      | ⟨1, _⟩ => rfl
      | ⟨2, _⟩ => rfl)⟩
  exact Cert.FoxRefIdeal.RefValue.ref_apply _ _ _ _ _ b p w

end Cert.FoxClaims

end
-- ==== Proof.FfnBody.lean ====
/-
  What one grid point of the feed-forward kernel computes, at the extended reals: entry (r, c) of the block that the body
  stores, as a closed formula over the blocks that it loads (`out_apply`).
-/
module

public import proofs.«01_k».proof.Proof.Gen.FfnIdeal.Frame
public import Idealize.ShloMosaic.Lib.Pointwise
public import Idealize.ShloMosaic.Lib.Pipeline.ValueKit

@[expose] public section

set_option maxRecDepth 16384

noncomputable section

namespace Cert.FfnIdeal.Body

open Cert.FfnIdeal Cert.FfnIdeal.Gen Idealize.ShloMosaic

/-- One hidden unit of the layer before the output projection: the gated product silu(a) * b, where a and b are the
    inner products of the row `h` with the columns `wa` and `wb`. -/
def unit (h wa wb : Fin 1024 → EReal) : EReal :=
  (∑ k, h k * wa k) * Ideal.logistic (∑ k, h k * wa k) * (∑ k, h k * wb k)

/-- Entry k of the row `x` divided by its root mean square (with the kernel's guard added to the mean) and scaled by `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- One chunk of 256 hidden units, projected: the sum over the chunk of the units times the output weights. -/
def part (h : FVec Ideal S512x1024 .bf16) (wa wb : FVec Ideal S1024x256 .bf16) (wo : FVec Ideal S256x1024 .bf16)
    (r : Fin 512) (c : Fin 1024) : EReal :=
  ∑ j : Fin 256, unit (fun k => h (ix2 r k)) (fun k => wa (ix2 k j)) (fun k => wb (ix2 k j)) * wo (ix2 j c)

/-- The normalised rows, entry by entry. -/
theorem pay2_apply (x : Vec Ideal S512x1024 .f32) (g : Vec Ideal S1x1024 .f32) (r : Fin 512) (k : Fin 1024) :
    k0_pay2 x g (ix2 r k) = rms (fun k => x (ix2 r k)) (fun k => g (ix2 0 k)) k := by
  pointwise [k0_pay2, rms]

/-- The accumulator after the first chunk. -/
theorem pay3_apply (x g wa wb wo) (r : Fin 512) (c : Fin 1024) :
    k0_pay3 (F := Ideal) x g wa wb wo (ix2 r c) = 0 + part (k0_pay2 x g) wa wb wo r c := by
  pointwise [k0_pay3, part, unit]

/-- The accumulator after the next three chunks. -/
theorem pay6_apply (wa1 wb1 h acc wo1 wa2 wb2 wo2 wa3 wb3 wo3) (r : Fin 512) (c : Fin 1024) :
    k0_pay6 (F := Ideal) h acc (k0_pay10 h wa1) (k0_pay5 wb1) (constant S512x256 .f32 0x00000000#32) wo1 wa2 wb2 wo2 wa3 wb3 wo3 (ix2 r c)
      = acc (ix2 r c) + part h wa1 wb1 wo1 r c + part h wa2 wb2 wo2 r c + part h wa3 wb3 wo3 r c := by
  pointwise [k0_pay6, k0_pay10, k0_pay5, part, unit]

/-- The accumulator after two more. -/
theorem pay7_apply (h acc wa1 wb1 wo1 wa2 wb2 wo2) (r : Fin 512) (c : Fin 1024) :
    k0_pay7 (F := Ideal) h acc wa1 wb1 wo1 wa2 wb2 wo2 (ix2 r c)
      = acc (ix2 r c) + part h wa1 wb1 wo1 r c + part h wa2 wb2 wo2 r c := by
  pointwise [k0_pay7, part, unit]

/-- The accumulator after three more. -/
theorem pay9_apply (h acc wa1 wb1 wo1 wa2 wb2 wo2 wa3 wb3 wo3) (r : Fin 512) (c : Fin 1024) :
    k0_pay9 (F := Ideal) h acc (k0_pay8 h wa1 wb1) wo1 wa2 wb2 wo2 wa3 wb3 wo3 (ix2 r c)
      = acc (ix2 r c) + part h wa1 wb1 wo1 r c + part h wa2 wb2 wo2 r c + part h wa3 wb3 wo3 r c := by
  pointwise [k0_pay9, k0_pay8, part, unit]

/-- The block stored: the input plus one half of the accumulator after the last two chunks. -/
theorem pay1_apply (x h acc wa1 wb1 wo1 wa2 wb2 wo2) (r : Fin 512) (c : Fin 1024) :
    k0_pay1 (F := Ideal) x h acc (k0_pay10 h wa1) wb1 wo1 wa2 wb2 wo2 (ix2 r c)
      = x (ix2 r c) + Ideal.ofBits .f32 0x3F000000#32
          * (acc (ix2 r c) + part h wa1 wb1 wo1 r c + part h wa2 wb2 wo2 r c) := by
  pointwise [k0_pay1, k0_pay10, part, unit]

/-- The chunk that loads columns `256 q …` of the input weights and rows `256 q …` of the output weights, over the whole
    weights: the 256 units from `256 q` on. -/
theorem part_ld (h : FVec Ideal S512x1024 .bf16) (x2 x3 : Vec Ideal S1024x2816 .bf16) (x4 : Vec Ideal S2816x1024 .bf16)
    (r : Fin 512) (c : Fin 1024) (q o : Nat) (hq : q < 11) (ho : o = q * 256) (inb inb') :
    part h (View.ld x2 (Rect.unit (s := S1024x2816) ![0, o] S1024x256.size inb))
        (View.ld x3 (Rect.unit (s := S1024x2816) ![0, o] S1024x256.size inb))
        (View.ld x4 (Rect.unit (s := S2816x1024) ![o, 0] S256x1024.size inb')) r c
      = ∑ j : Fin 256, (fun l : Fin 2816 =>
          unit (fun k => h (ix2 r k)) (fun k => x2 (ix2 k l)) (fun k => x3 (ix2 k l)) * x4 (ix2 l c))
          ⟨q * 256 + j.val, by omega⟩ := by
  subst ho
  have hw : ∀ (w : Vec Ideal S1024x2816 .bf16) (k : Fin 1024) (j : Fin 256),
      View.ld w (Rect.unit (s := S1024x2816) ![0, q * 256] S1024x256.size inb) (ix2 k j)
        = w (ix2 k ⟨q * 256 + j.val, by omega⟩) := fun w k j =>
    View.ld_unit_apply_of w _ _ inb _ _ fun a => match a with
      | ⟨0, _⟩ => (Nat.zero_add _).symm
      | ⟨1, _⟩ => rfl
  have ho : ∀ j : Fin 256, View.ld x4 (Rect.unit (s := S2816x1024) ![q * 256, 0] S256x1024.size inb') (ix2 j c)
      = x4 (ix2 ⟨q * 256 + j.val, by omega⟩ c) := fun j =>
    View.ld_unit_apply_of x4 _ _ inb' _ _ fun a => match a with
      | ⟨0, _⟩ => rfl
      | ⟨1, _⟩ => (Nat.zero_add _).symm
  exact Finset.sum_congr rfl fun j _ =>
    congrArg₂ (· * ·) (congrArg₂ (unit _) (funext fun k => hw x2 k j) (funext fun k => hw x3 k j)) (ho j)

theorem hz : (![0, 0] : Fin 2 → Nat) = fun _ => 0 := funext fun a => by fin_cases a <;> rfl

/-- The feed-forward layer's value at column c of a row `x`, with gain `g`, input weights `wa` and `wb` and output
    weights `wo`. -/
def row (x g : Fin 1024 → EReal) (wa wb : Fin 1024 → Fin 2816 → EReal) (wo : Fin 2816 → Fin 1024 → EReal) (c : Fin 1024) : EReal :=
  x c + Ideal.ofBits .f32 0x3F000000#32
    * ∑ l : Fin 2816, unit (rms x g) (fun k => wa k l) (fun k => wb k l) * wo l c

set_option maxHeartbeats 1000000 in
/-- Entry (r, c) of the block that the body stores: the layer's value of row r of the block that it loads. -/
theorem out_apply (x0 : Vec Ideal S512x1024 .f32) (x1 : Vec Ideal S1x1024 .f32) (x2 x3 : Vec Ideal S1024x2816 .bf16)
    (x4 : Vec Ideal S2816x1024 .bf16) (r : Fin 512) (c : Fin 1024) :
    out0_5 x0 x1 x2 x3 x4 (ix2 r c)
      = row (fun k => x0 (ix2 r k)) (fun k => x1 (ix2 0 k)) (fun k l => x2 (ix2 k l)) (fun k l => x3 (ix2 k l))
          (fun l c => x4 (ix2 l c)) c := by
  unfold out0_5
  rw [View.canon_unit_zero hz]
  generalize hh : k0_pay11 x0 x1 x2 x3 x4 = h
  have hh' : h = k0_pay2 x0 x1 := by rw [← hh, k0_pay11, View.ld_unit_zero hz, View.ld_unit_zero hz]
  rw [View.ld_unit_zero hz, View.ld_unit_zero hz, pay1_apply, pay9_apply, pay7_apply]
  rw [show (k0_pay4 x0 x1 (View.ld x2 r0_4)) = k0_pay10 h (View.ld x2 r0_4) by rw [hh']; rfl, pay6_apply, pay3_apply, ← hh']
  rw [part_ld h x2 x3 x4 r c 0 0 (by omega) (by omega), part_ld h x2 x3 x4 r c 1 256 (by omega) (by omega),
    part_ld h x2 x3 x4 r c 2 512 (by omega) (by omega), part_ld h x2 x3 x4 r c 3 768 (by omega) (by omega),
    part_ld h x2 x3 x4 r c 4 1024 (by omega) (by omega), part_ld h x2 x3 x4 r c 5 1280 (by omega) (by omega),
    part_ld h x2 x3 x4 r c 6 1536 (by omega) (by omega), part_ld h x2 x3 x4 r c 7 1792 (by omega) (by omega),
    part_ld h x2 x3 x4 r c 8 2048 (by omega) (by omega), part_ld h x2 x3 x4 r c 9 2304 (by omega) (by omega),
    part_ld h x2 x3 x4 r c 10 2560 (by omega) (by omega)]
  have hr : (fun k => h (ix2 r k)) = rms (fun k => x0 (ix2 r k)) (fun k => x1 (ix2 0 k)) := by
    funext k; rw [hh', pay2_apply]
  unfold row
  rw [← hr, Fin.sum_univ_tiles 11 256 rfl]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5),
    Fin.sum_univ_castSucc (n := 4), Fin.sum_univ_castSucc (n := 3), Fin.sum_univ_castSucc (n := 2),
    Fin.sum_univ_castSucc (n := 1), Fin.sum_univ_castSucc (n := 0), Fin.sum_univ_zero]
  rfl

end Cert.FfnIdeal.Body

end
-- ==== Proof.FfnValue.lean ====
/-
  The feed-forward kernel's result array: every row of it is the layer's value of the same row of the input
  (`run`). The 32 blocks of 512 rows tile the array; block t is computed from block t of the input and the whole weights.
-/
module

public import proofs.«01_k».proof.Proof.Gen.FfnIdeal.Value
public import proofs.«01_k».proof.Proof.FfnBody

@[expose] public section

set_option maxRecDepth 16384

noncomputable section

namespace Cert.FfnIdeal.RefValue

open Cert.FfnIdeal Cert.FfnIdeal.Gen Cert.FfnIdeal.Body Idealize.ShloMosaic Idealize.ShloMosaic.TcCoe Idealize.SL.Sem

variable (m : (ℓ : Loc nD τ sig) → Buf (Elt Ideal) ℓ) (ρ : Dev nD → PrngReg)

/-- The layer applied to the rows of the argument arrays of device c. -/
def G (c : Dev nD) : Buf (Elt Ideal) ((c : Thread nD τ).loc main_v6) := fun i : S16384x1024.Idx =>
  row (fun k => m ((c : Thread nD τ).loc main_arg0) (ix2 (i 0) k)) (fun k => m ((c : Thread nD τ).loc main_arg1) (ix1 k))
    (fun k l => m ((c : Thread nD τ).loc main_arg2) (ix2 k ⟨l.val, by omega⟩))
    (fun k l => m ((c : Thread nD τ).loc main_arg2) (ix2 k ⟨2816 + l.val, by omega⟩))
    (fun l k => m ((c : Thread nD τ).loc main_arg3) (ix2 l k)) (i 1)

/-- The first half of the input weights, as the kernel finds it. -/
theorem V_v1 (c : Dev nD) (k : Fin 1024) (l : Fin 2816) :
    (V m c main_v1 : Vec Ideal S1024x2816 .bf16) (ix2 k l) = m ((c : Thread nD τ).loc main_arg2) (ix2 k ⟨l.val, by omega⟩) := by
  have e : @Eq (FVec Ideal S1024x2816 .bf16) (V m c main_v1) <| truncf .bf16 (extractStridedSlice S1024x2816 ![0, 0]
      (m ((c : Thread nD τ).loc main_arg2) : Vec Ideal S1024x5632 .f32) slices_S1024x5632_S1024x2816_0_0) bitsLt_bf16_f32 := by
    dsimp only [V]; after_results_simp
  rw [e]; pointwise

/-- The second half. -/
theorem V_v3 (c : Dev nD) (k : Fin 1024) (l : Fin 2816) :
    (V m c main_v3 : Vec Ideal S1024x2816 .bf16) (ix2 k l) = m ((c : Thread nD τ).loc main_arg2) (ix2 k ⟨2816 + l.val, by omega⟩) := by
  have e : @Eq (FVec Ideal S1024x2816 .bf16) (V m c main_v3) <| truncf .bf16 (extractStridedSlice S1024x2816 ![0, 2816]
      (m ((c : Thread nD τ).loc main_arg2) : Vec Ideal S1024x5632 .f32) slices_S1024x5632_S1024x2816_0_2816) bitsLt_bf16_f32 := by
    dsimp only [V]; after_results_simp
  rw [e]; pointwise

/-- The output weights. -/
theorem V_v4 (c : Dev nD) (l : Fin 2816) (k : Fin 1024) :
    (V m c main_v4 : Vec Ideal S2816x1024 .bf16) (ix2 l k) = m ((c : Thread nD τ).loc main_arg3) (ix2 l k) := by
  have e : @Eq (FVec Ideal S2816x1024 .bf16) (V m c main_v4)
      <| truncf .bf16 (m ((c : Thread nD τ).loc main_arg3) : Vec Ideal S2816x1024 .f32) bitsLt_bf16_f32 := by
    dsimp only [V]; after_results_simp
  rw [e]; pointwise

/-- The gain. -/
theorem V_v5 (c : Dev nD) (k : Fin 1024) :
    (V m c main_v5 : Vec Ideal S1x1024 .f32) (ix2 0 k) = m ((c : Thread nD τ).loc main_arg1) (ix1 k) := by
  have e : (V m c main_v5 : Vec Ideal S1x1024 .f32)
      = shapeCast S1x1024 (m ((c : Thread nD τ).loc main_arg1) : Vec Ideal S1024 .f32) shapeCasts_S1024_S1x1024 := by
    dsimp only [V]; after_results_simp; rfl
  rw [e]; pointwise

/-- Where the windows' blocks lie: block t of the input and of the result is rows 512 t …; the other blocks are whole. -/
theorem idx_facts : ∀ t : Fin grid0.N,
    (win0_0.index t 0 * win0_0.size 0 = t.val * 512 ∧ win0_0.index t 1 * win0_0.size 1 = 0)
    ∧ (win0_1.index t 0 * win0_1.size 0 = 0 ∧ win0_1.index t 1 * win0_1.size 1 = 0)
    ∧ (win0_2.index t 0 * win0_2.size 0 = 0 ∧ win0_2.index t 1 * win0_2.size 1 = 0)
    ∧ (win0_3.index t 0 * win0_3.size 0 = 0 ∧ win0_3.index t 1 * win0_3.size 1 = 0)
    ∧ (win0_4.index t 0 * win0_4.size 0 = 0 ∧ win0_4.index t 1 * win0_4.size 1 = 0)
    ∧ (win0_5.index t 0 * win0_5.size 0 = t.val * 512 ∧ win0_5.index t 1 * win0_5.size 1 = 0)
    ∧ (win0_5.xsize (grid0.coords t) 0 = 512 ∧ win0_5.xsize (grid0.coords t) 1 = 1024) := by
  decide +kernel

/-- An index of the result array is in point t's block when its row is one of the block's 512. -/
theorem mem_blk (t : Fin cfg0.N) (i : S16384x1024.Idx) :
    i ∈ ((cfg0.win 5).blk t).view.set ↔ t.val * 512 ≤ (i 0 : Nat) ∧ (i 0 : Nat) < t.val * 512 + 512 := by
  show i ∈ ((View.whole main_v6).slice (win0_5.rect t)).set ↔ _
  rw [View.set_slice_whole, Rect.mem_set_unit]
  have h1 : (i 1 : Nat) < 1024 := (i 1).isLt
  obtain ⟨-, -, -, -, -, ⟨e0, e1⟩, x0, x1⟩ := idx_facts t
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e0, x0] at this; exact this
  · match a with
    | ⟨0, _⟩ => show win0_5.index t 0 * win0_5.size 0 ≤ (i 0 : Nat) ∧ (i 0 : Nat) < win0_5.index t 0 * win0_5.size 0 + win0_5.xsize (grid0.coords t) 0
                rw [e0, x0]; exact h
    | ⟨1, _⟩ => show win0_5.index t 1 * win0_5.size 1 ≤ (i 1 : Nat) ∧ (i 1 : Nat) < win0_5.index t 1 * win0_5.size 1 + win0_5.xsize (grid0.coords t) 1
                rw [e1, x1]; omega

/-- The blocks tile the result array. -/
theorem cover (i : S16384x1024.Idx) :
    ∃ t : Fin cfg0.N, (cfg0.win 5).flush t = true ∧ i ∈ ((cfg0.win 5).blk t).view.set := by
  have h0 : (i 0 : Nat) < 16384 := (i 0).isLt
  have hN : cfg0.N = 32 := N_0
  refine ⟨⟨(i 0 : Nat) / 512, by omega⟩, flush0_5 _, ?_⟩
  rw [mem_blk]
  dsimp only
  omega

/-- The array position of entry (r, k) of block t. -/
theorem emb5 (t : Fin cfg0.N) (r : Fin 512) (k : Fin 1024) (h : t.val * 512 + r.val < 16384) :
    ((win0_5.blk t).view.emb (ix2 r k) : S16384x1024.Idx) = ix2 ⟨t.val * 512 + r.val, h⟩ k := by
  obtain ⟨-, -, -, -, -, ⟨e0, e1⟩, -, -⟩ := idx_facts t
  funext a
  apply Fin.ext
  match a with
  | ⟨0, _⟩ => show win0_5.index t 0 * win0_5.size 0 + 1 * r.val = t.val * 512 + r.val; rw [e0, Nat.one_mul]
  | ⟨1, _⟩ => show win0_5.index t 1 * win0_5.size 1 + 1 * k.val = k.val; rw [e1]; omega

/-- Point t's block of the input: rows 512 t …. -/
theorem blk0 (c : Dev nD) (t : Fin cfg0.N) (r : Fin 512) (k : Fin 1024) (h : t.val * 512 + r.val < 16384) :
    (iblk m c 0 t : Vec Ideal S512x1024 .f32) (ix2 r k) = m ((c : Thread nD τ).loc main_arg0) (ix2 ⟨t.val * 512 + r.val, h⟩ k) := by
  obtain ⟨⟨e0, e1⟩, -⟩ := idx_facts t
  rw [← V_main_arg0 m c]
  refine congrArg (V m c main_arg0 : Vec Ideal S16384x1024 .f32) (funext fun a => Fin.ext ?_)
  match a with
  | ⟨0, _⟩ => show win0_0.index t 0 * win0_0.size 0 + 1 * r.val = t.val * 512 + r.val; rw [e0, Nat.one_mul]
  | ⟨1, _⟩ => show win0_0.index t 1 * win0_0.size 1 + 1 * k.val = k.val; rw [e1]; omega

/-- The gain is loaded whole. -/
theorem blk1 (c : Dev nD) (t : Fin cfg0.N) (k : Fin 1024) :
    (iblk m c 1 t : Vec Ideal S1x1024 .f32) (ix2 0 k) = m ((c : Thread nD τ).loc main_arg1) (ix1 k) := by
  obtain ⟨-, ⟨e0, e1⟩, -⟩ := idx_facts t
  rw [← V_v5 m c]
  refine congrArg (V m c main_v5 : Vec Ideal S1x1024 .f32) (funext fun a => Fin.ext ?_)
  match a with
  | ⟨0, _⟩ => show win0_1.index t 0 * win0_1.size 0 + 1 * 0 = 0; rw [e0]
  | ⟨1, _⟩ => show win0_1.index t 1 * win0_1.size 1 + 1 * k.val = k.val; rw [e1]; omega

/-- The first half of the input weights is loaded whole. -/
theorem blk2 (c : Dev nD) (t : Fin cfg0.N) (k : Fin 1024) (l : Fin 2816) :
    (iblk m c 2 t : Vec Ideal S1024x2816 .bf16) (ix2 k l) = m ((c : Thread nD τ).loc main_arg2) (ix2 k ⟨l.val, by omega⟩) := by
  obtain ⟨-, -, ⟨e0, e1⟩, -⟩ := idx_facts t
  rw [← V_v1 m c]
  refine congrArg (V m c main_v1 : Vec Ideal S1024x2816 .bf16) (funext fun a => Fin.ext ?_)
  match a with
  | ⟨0, _⟩ => show win0_2.index t 0 * win0_2.size 0 + 1 * k.val = k.val; rw [e0]; omega
  | ⟨1, _⟩ => show win0_2.index t 1 * win0_2.size 1 + 1 * l.val = l.val; rw [e1]; omega

/-- The second half likewise. -/
theorem blk3 (c : Dev nD) (t : Fin cfg0.N) (k : Fin 1024) (l : Fin 2816) :
    (iblk m c 3 t : Vec Ideal S1024x2816 .bf16) (ix2 k l) = m ((c : Thread nD τ).loc main_arg2) (ix2 k ⟨2816 + l.val, by omega⟩) := by
  obtain ⟨-, -, -, ⟨e0, e1⟩, -⟩ := idx_facts t
  rw [← V_v3 m c]
  refine congrArg (V m c main_v3 : Vec Ideal S1024x2816 .bf16) (funext fun a => Fin.ext ?_)
  match a with
  | ⟨0, _⟩ => show win0_3.index t 0 * win0_3.size 0 + 1 * k.val = k.val; rw [e0]; omega
  | ⟨1, _⟩ => show win0_3.index t 1 * win0_3.size 1 + 1 * l.val = l.val; rw [e1]; omega

/-- The output weights are loaded whole. -/
theorem blk4 (c : Dev nD) (t : Fin cfg0.N) (l : Fin 2816) (k : Fin 1024) :
    (iblk m c 4 t : Vec Ideal S2816x1024 .bf16) (ix2 l k) = m ((c : Thread nD τ).loc main_arg3) (ix2 l k) := by
  obtain ⟨-, -, -, -, ⟨e0, e1⟩, -⟩ := idx_facts t
  rw [← V_v4 m c]
  refine congrArg (V m c main_v4 : Vec Ideal S2816x1024 .bf16) (funext fun a => Fin.ext ?_)
  match a with
  | ⟨0, _⟩ => show win0_4.index t 0 * win0_4.size 0 + 1 * l.val = l.val; rw [e0]; omega
  | ⟨1, _⟩ => show win0_4.index t 1 * win0_4.size 1 + 1 * k.val = k.val; rw [e1]; omega

/-- Point t writes back block t of the layer's result. -/
theorem flushed_eq (c : Dev nD) (t : Fin cfg0.N) :
    (dats m 0 c).flushed 5 t = (win0_5.blk t).view.read (Elt Ideal) (G m c) := by
  rw [Value.flushed5]
  have hN : cfg0.N = 32 := N_0
  funext i
  have ht : t.val < 32 := hN ▸ t.isLt
  obtain ⟨r, k, rfl⟩ : ∃ (r : Fin 512) (k : Fin 1024), i = ix2 r k :=
    ⟨⟨(i 0).val, (i 0).isLt⟩, ⟨(i 1).val, (i 1).isLt⟩, funext fun a => Fin.ext (by match a with | ⟨0, _⟩ => rfl | ⟨1, _⟩ => rfl)⟩
  have h : t.val * 512 + r.val < 16384 := by omega
  have e := out_apply (iblk m c 0 t) (iblk m c 1 t) (iblk m c 2 t) (iblk m c 3 t) (iblk m c 4 t) r k
  simp only [blk0 m c t r _ h, blk1, blk2, blk3, blk4] at e
  refine Eq.trans e ?_
  show _ = G m c ((win0_5.blk t).view.emb (ix2 r k))
  rw [emb5 t r k h]
  rfl

/-- So the result array ends holding the layer's result. -/
theorem final (c : Dev nD) : (dats m 0 c).arrAt 5 cfg0.N = G m c :=
  (dats m 0 c).arrAt_eq_of_cover 5 (G m c) (fun t _ => flushed_eq m c t) cover

/-- The run, read: the result array at the layer's result, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.FfnIdeal.RefValue

end
-- ==== Proof.FfnRef.lean ====
/-
  The reference's feed-forward layer at an index: entry (r, c) of its result is the layer's value of row r
  (`FfnBody.lean` `row`), with the input weights split in two halves.
-/
module

public import proofs.«01_k».proof.Proof.Gen.FfnRefIdeal.Read
public import proofs.«01_k».proof.Proof.FfnBody

@[expose] public section

set_option maxRecDepth 16384

noncomputable section

namespace Cert.FfnRefIdeal.RefValue

open Cert.FfnRefIdeal Cert.FfnRefIdeal.Gen Cert.FfnRefIdeal.Read Idealize.ShloMosaic
open Cert.FfnIdeal.Body (unit rms row)

/-- The reference's result, entry by entry. -/
theorem ref_apply (x : (⟨S16384x1024, .f32⟩ : BufTy).Contents (Elt Ideal)) (g : (⟨S1024, .f32⟩ : BufTy).Contents (Elt Ideal))
    (wi : (⟨S1024x5632, .f32⟩ : BufTy).Contents (Elt Ideal)) (wo : (⟨S2816x1024, .f32⟩ : BufTy).Contents (Elt Ideal))
    (r : Fin 16384) (c : Fin 1024) :
    val_main_v21 (F := Ideal) x g wi wo (ix2 r c)
      = row (fun k => x (ix2 r k)) (fun k => g (ix1 k)) (fun k l => wi (ix2 k ⟨l.val, by omega⟩))
          (fun k l => wi (ix2 k ⟨2816 + l.val, by omega⟩)) (fun l c => wo (ix2 l c)) c := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_cst, val_main_cst_0, val_main_cst_1, val_main_cst_2, val_main_call0_v0, val_main_call0_v1, val_main_call0_v2, val_main_call0_v3, val_main_call0_v4, val_main_call0_v5, val_main_call0_cst, val_main_call0_cst_0, row, unit, rms]
  rfl

end Cert.FfnRefIdeal.RefValue

end
-- ==== Proof.FfnClaims.lean ====
/-
  The claims about the feed-forward kernel and its reference that are not generated: the reference runs and keeps its
  arguments (`frame_ref`), and from equal arguments the kernel and the reference end with equal results (`algebraic`).
-/
module

public import proofs.«01_k».proof.Defs
public import proofs.«01_k».proof.Proof.Gen.FfnRefIdeal.Run
public import proofs.«01_k».proof.Proof.FfnValue
public import proofs.«01_k».proof.Proof.FfnRef
public import Idealize.ShloMosaic.Lib.Quiescent
public import Idealize.ShloMosaic.Adequacy
public import Idealize.ShloMosaic.Init

@[expose] public section

set_option maxRecDepth 16384

noncomputable section

namespace Cert.FfnClaims

open Idealize.ShloMosaic Idealize.ShloMosaic.TcCoe Idealize.SL.Sem

/-- The reference terminates, keeps its arguments and leaves every counter at zero. -/
theorem frame_ref : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- From equal arguments the kernel and the reference end with equal results. -/
theorem algebraic : Cert.algebraic_FfnIdeal_FfnRefIdeal := by
  intro m ρ m' ρ' _ hagree
  refine ⟨fun c => Cert.FfnIdeal.RefValue.G m c, Cert.FfnIdeal.RefValue.run m ρ, ?_⟩
  refine (θ_run Cert.FfnRefIdeal.defs _ _).mono (fun r h c => ⟨(h c).1.trans ?_, (h c).2⟩)
    (Cert.FfnRefIdeal.Value.run (F := Ideal) m' ρ')
  obtain ⟨h0, h1, h2, h3⟩ := hagree c
  rw [h0, h1, h2, h3]
  rw [Cert.FfnRefIdeal.Read.val_main_v21_eq]
  funext i
  obtain ⟨a, b, rfl⟩ : ∃ (a : Fin 16384) (b : Fin 1024), i = ix2 a b :=
    ⟨⟨(i 0).val, (i 0).isLt⟩, ⟨(i 1).val, (i 1).isLt⟩, funext fun k => Fin.ext (by match k with | ⟨0, _⟩ => rfl | ⟨1, _⟩ => rfl)⟩
  exact Cert.FfnRefIdeal.RefValue.ref_apply _ _ _ _ a b

end Cert.FfnClaims

end
-- ==== Proof.MergeBody.lean ====
/-
  What one grid point of the merge kernel computes, at the extended reals: entry (r, e) of the block that the body
  stores, as a closed formula over the blocks that it loads (`out_apply`).
-/
module

public import proofs.«01_k».proof.Proof.Gen.MergeIdeal.Frame
public import proofs.«01_k».proof.Proof.FfnBody

@[expose] public section

set_option maxRecDepth 16384

noncomputable section

namespace Cert.MergeIdeal.Body

open Cert.MergeIdeal Cert.MergeIdeal.Gen Idealize.ShloMosaic
open Cert.FfnIdeal.Body (rms)

/-- One branch's share of entry d of the merged row: the branch `b` projected by the weights `wb`, times the logistic
    gate of the normalised row `h` with the weights `wg`. -/
def term (h wg : Fin 1024 → EReal) (b wb : Fin 256 → EReal) : EReal :=
  Ideal.logistic (∑ k, h k * wg k) * ∑ i, b i * wb i

/-- The spatial gating branch at one lane: the row's value `u` times the mixture of the chunk's column `v` by the weights
    `w` of the rows up to row t of the chunk, plus the bias. -/
def mix (u : EReal) (w v : Fin 128 → EReal) (b : EReal) (t : Fin 128) : EReal :=
  u * ((∑ s : Fin 128, (if s.val ≤ t.val then w s else 0) * v s) + b)

/-- The merged row at entry e: the row `x` plus the output projection of the four gated branches. -/
def row (x g : Fin 1024 → EReal) (wg : Fin 4 → Fin 1024 → Fin 1024 → EReal) (br : Fin 4 → Fin 256 → EReal)
    (wb : Fin 4 → Fin 256 → Fin 1024 → EReal) (wo : Fin 1024 → Fin 1024 → EReal) (e : Fin 1024) : EReal :=
  x e + ∑ d, (∑ n, term (rms x g) (fun k => wg n k d) (br n) (fun i => wb n i d)) * wo d e

/-- The normalised rows, entry by entry. -/
theorem pay2_apply (x : Vec Ideal S512x1024 .f32) (g : Vec Ideal S1x1024 .f32) (r : Fin 512) (k : Fin 1024) :
    k0_pay2 x g (ix2 r k) = rms (fun k => x (ix2 r k)) (fun k => g (ix2 0 k)) k := by
  pointwise [k0_pay2, rms]

/-- The first two branches' shares. -/
theorem pay20_apply (h b0 b1 wg0 wb0 wg1 wb1) (r : Fin 512) (d : Fin 1024) :
    k0_pay20 (F := Ideal) h b0 b1 wg0 wb0 wg1 wb1 (ix2 r d)
      = 0 + term (fun k => h (ix2 r k)) (fun k => wg0 (ix3 0 k d)) (fun i => b0 (ix2 r i)) (fun i => wb0 (ix3 0 i d))
        + term (fun k => h (ix2 r k)) (fun k => wg1 (ix3 0 k d)) (fun i => b1 (ix2 r i)) (fun i => wb1 (ix3 0 i d)) := by
  pointwise [k0_pay20, term]

/-- The block stored, from the accumulated shares of the first two branches. -/
theorem pay1_apply (x h b3 b2 acc wg2 wb2 wg3 wb3 wo) (r : Fin 512) (e : Fin 1024) :
    k0_pay1 (F := Ideal) x h b3 b2 acc wg2 wb2 wg3 wb3 wo (ix2 r e)
      = x (ix2 r e) + ∑ d : Fin 1024, (acc (ix2 r d)
        + term (fun k => h (ix2 r k)) (fun k => wg2 (ix3 0 k d)) (fun i => b2 (ix2 r i)) (fun i => wb2 (ix3 0 i d))
        + term (fun k => h (ix2 r k)) (fun k => wg3 (ix3 0 k d)) (fun i => b3 (ix2 r i)) (fun i => wb3 (ix3 0 i d)))
          * wo (ix2 d e) := by
  pointwise [k0_pay1, term]

/-- The group of a lane: 64 lanes each. -/
theorem pay3_apply (t : Fin 128) (l : Fin 256) : k0_pay3 (ix2 t l) = BitVec.ofNat 32 (l.val / 64) := by
  pointwise [k0_pay3]
  revert l
  decide +kernel

/-- Choosing among four values by the group of a lane. -/
theorem pick (a : Fin 4 → EReal) (z : EReal) (j : Fin 4) :
    Scalar.select (IntOp.cmpi .eq (BitVec.ofNat 32 j.val) 3#32) (a 3)
      (Scalar.select (IntOp.cmpi .eq (BitVec.ofNat 32 j.val) 2#32) (a 2)
        (Scalar.select (IntOp.cmpi .eq (BitVec.ofNat 32 j.val) 1#32) (a 1)
          (Scalar.select (IntOp.cmpi .eq (BitVec.ofNat 32 j.val) 0#32) (a 0) z)))
      = a j := by
  match j with
  | 0 => rfl
  | 1 => rfl
  | 2 => rfl
  | 3 => rfl

/-- The mixing weights of one group with the entries above the diagonal set to zero. -/
theorem mask_apply (w : Vec Ideal S1x128x128 .f32) (t s : Fin 128) :
    k0_pay5 (F := Ideal) k0_pay4 w (ix2 t s) = if s.val ≤ t.val then w (ix3 0 t s) else 0 := by
  pointwise [k0_pay5, k0_pay4]
  rw [WordCmp.cmpi_sge_ofNat (by omega) (by omega), WordCmp.select_decide]

/-- One chunk of 128 rows: the values `u` times the mixture of the chunk's rows by the lane's group of weights, plus the
    bias. -/
theorem pay13_apply (w : Fin 4 → FVec Ideal S128x128 .bf16) (v u bt) (t : Fin 128) (l : Fin 256) :
    k0_pay13 (F := Ideal) k0_pay3 (w 0) (w 1) (w 2) (w 3) v u bt (ix2 t l)
      = u (ix2 t l) * ((∑ s : Fin 128, w ⟨l.val / 64, by omega⟩ (ix2 t s) * v (ix2 s l)) + bt (ix2 t l)) := by
  have hg := pay3_apply t l
  generalize k0_pay3 = grp at hg ⊢
  pointwise [k0_pay13]
  rw [hg]
  exact congrArg (fun z => u (ix2 t l) * (z + bt (ix2 t l)))
    (pick (fun n => ∑ s : Fin 128, w n (ix2 t s) * v (ix2 s l)) 0 ⟨l.val / 64, by omega⟩)

/-- Row r of four joined chunks: row r mod 128 of chunk r / 128. -/
theorem join_apply (f : Fin 4 → FVec Ideal S128x256 .f32) (r : Fin 512) (l : Fin 256) :
    (truncf .bf16 (concatenate S512x256 0 [⟨S128x256, f 0⟩, ⟨S128x256, f 1⟩, ⟨S128x256, f 2⟩, ⟨S128x256, f 3⟩]
      concatenates_S128x256_S128x256_S128x256_S128x256_S512x256_d0 : FVec Ideal S512x256 .f32) bitsLt_bf16_f32) (ix2 r l)
      = f ⟨r.val / 128, by omega⟩ (ix2 ⟨r.val % 128, by omega⟩ l) := by
  pointwise
  obtain ⟨r, hr⟩ := r
  dsimp only
  have pt : ∀ (n : Fin 4) (t : Fin 128), r / 128 = n.val → r % 128 = t.val →
      f n (ix2 t l) = f ⟨r / 128, by omega⟩ (ix2 ⟨r % 128, by omega⟩ l) := by
    rintro ⟨n, hn⟩ ⟨t, ht⟩ h h'
    dsimp only at h h'
    subst h h'
    rfl
  split_ifs
  all_goals first
    | exact pt 0 ⟨r, by omega⟩ (by show r / 128 = 0; omega) (by show r % 128 = r; omega)
    | exact pt 1 ⟨r - 128, by omega⟩ (by show r / 128 = 1; omega) (by show r % 128 = r - 128; omega)
    | exact pt 2 ⟨r - 128 - 128, by omega⟩ (by show r / 128 = 2; omega) (by show r % 128 = r - 128 - 128; omega)
    | exact pt 3 ⟨r - 128 - 128 - 128, by omega⟩ (by show r / 128 = 3; omega) (by show r % 128 = r - 128 - 128 - 128; omega)

theorem hz : (![0, 0] : Fin 2 → Nat) = fun _ => 0 := funext fun a => by fin_cases a <;> rfl

/-- Group n of four matrices, loaded alone. -/
theorem ld3 {p q : Nat} {e : EltTy} (x : Vec Ideal ⟨3, ![4, p, q]⟩ e) (n : Fin 4) (o : Nat) (ho : o = n.val) (inb) (a : Fin p) (b : Fin q) :
    View.ld x (Rect.unit (s := ⟨3, ![4, p, q]⟩) ![o, 0, 0] ![1, p, q] inb) (ix3 0 a b) = x (ix3 n a b) :=
  View.ld_unit_apply_of x _ _ inb _ _ fun i => match i with
    | ⟨0, _⟩ => ho.symm
    | ⟨1, _⟩ => (Nat.zero_add _).symm
    | ⟨2, _⟩ => (Nat.zero_add _).symm

/-- Chunk n of 512 rows, loaded alone. -/
theorem ld2 {e : EltTy} (x : Vec Ideal S512x256 e) (n : Fin 4) (o : Nat) (ho : o = 128 * n.val) (inb) (t : Fin 128) (l : Fin 256) :
    View.ld x (Rect.unit (s := S512x256) ![o, 0] S128x256.size inb) (ix2 t l) = x (ix2 ⟨128 * n.val + t.val, by omega⟩ l) :=
  View.ld_unit_apply_of x _ _ inb _ _ fun i => match i with
    | ⟨0, _⟩ => by subst ho; rfl
    | ⟨1, _⟩ => (Nat.zero_add _).symm

/-- Chunk n of the spatial gating branch over the whole blocks: the values `x5`, the normalised values `x6`, the weights
    `x7` and the bias `x8`. -/
def chunk (x5 : Vec Ideal S512x256 .f32) (x6 : Vec Ideal S512x256 .bf16) (x7 : Vec Ideal S4x128x128 .f32)
    (x8 : Vec Ideal S128x256 .f32) (n : Fin 4) : FVec Ideal S128x256 .f32 :=
  let w : Fin 4 → FVec Ideal S128x128 .bf16 := ![k0_pay5 k0_pay4 (View.ld x7 r0_2), k0_pay5 k0_pay4 (View.ld x7 r0_3),
    k0_pay5 k0_pay4 (View.ld x7 r0_4), k0_pay5 k0_pay4 (View.ld x7 r0_5)]
  k0_pay13 k0_pay3 (w 0) (w 1) (w 2) (w 3)
    (![View.ld x6 r0_6, View.ld x6 r0_8, View.ld x6 r0_9, View.ld x6 r0_10] n)
    (![View.ld x5 r0_6, View.ld x5 r0_8, View.ld x5 r0_9, View.ld x5 r0_10] n) x8

/-- The spatial gating branch at row r and lane l of the block. -/
def gmlp (x5 : Vec Ideal S512x256 .f32) (x6 : Vec Ideal S512x256 .bf16) (x7 : Vec Ideal S4x128x128 .f32)
    (x8 : Vec Ideal S128x256 .f32) (r : Fin 512) (l : Fin 256) : EReal :=
  mix (x5 (ix2 r l)) (fun s => x7 (ix3 ⟨l.val / 64, by omega⟩ ⟨r.val % 128, by omega⟩ s))
    (fun s => x6 (ix2 ⟨128 * (r.val / 128) + s.val, by omega⟩ l)) (x8 (ix2 ⟨r.val % 128, by omega⟩ l)) ⟨r.val % 128, by omega⟩

/-- Row t of chunk n, when row r of the block is that row. -/
theorem chunk_apply (x5 x6 x7 x8) (n : Fin 4) (t : Fin 128) (l : Fin 256) :
    chunk x5 x6 x7 x8 n (ix2 t l)
      = mix (x5 (ix2 ⟨128 * n.val + t.val, by omega⟩ l)) (fun s => x7 (ix3 ⟨l.val / 64, by omega⟩ t s))
          (fun s => x6 (ix2 ⟨128 * n.val + s.val, by omega⟩ l)) (x8 (ix2 t l)) t := by
  unfold chunk
  rw [pay13_apply]
  have hw : ∀ (j : Fin 4) (s : Fin 128),
      (![k0_pay5 k0_pay4 (View.ld x7 r0_2), k0_pay5 k0_pay4 (View.ld x7 r0_3), k0_pay5 k0_pay4 (View.ld x7 r0_4),
        k0_pay5 k0_pay4 (View.ld x7 r0_5)] : Fin 4 → FVec Ideal S128x128 .bf16) j (ix2 t s)
        = if s.val ≤ t.val then x7 (ix3 j t s) else 0 := by
    intro j s
    match j with
    | 0 => exact (mask_apply _ t s).trans (congrArg (ite _ · _) (ld3 x7 0 0 rfl _ t s))
    | 1 => exact (mask_apply _ t s).trans (congrArg (ite _ · _) (ld3 x7 1 1 rfl _ t s))
    | 2 => exact (mask_apply _ t s).trans (congrArg (ite _ · _) (ld3 x7 2 2 rfl _ t s))
    | 3 => exact (mask_apply _ t s).trans (congrArg (ite _ · _) (ld3 x7 3 3 rfl _ t s))
  have hv : ∀ {e : EltTy} (x : Vec Ideal S512x256 e) (a : Fin 128),
      (![View.ld x r0_6, View.ld x r0_8, View.ld x r0_9, View.ld x r0_10] : Fin 4 → Vec Ideal S128x256 e) n (ix2 a l)
        = x (ix2 ⟨128 * n.val + a.val, by omega⟩ l) := by
    intro e x a
    match n with
    | 0 => exact ld2 x 0 0 rfl _ a l
    | 1 => exact ld2 x 1 128 rfl _ a l
    | 2 => exact ld2 x 2 256 rfl _ a l
    | 3 => exact ld2 x 3 384 rfl _ a l
  unfold mix
  refine congrArg₂ (· * ·) (hv x5 t) (congrArg (· + _) (Finset.sum_congr rfl fun s _ => ?_))
  exact congrArg₂ (· * ·) (hw _ s) (hv x6 s)

/-- The joined chunks at row r and lane l of the block. -/
theorem gmlp_apply (x5 x6 x7 x8) (r : Fin 512) (l : Fin 256) :
    (truncf .bf16 (concatenate S512x256 0 [⟨S128x256, chunk x5 x6 x7 x8 0⟩, ⟨S128x256, chunk x5 x6 x7 x8 1⟩,
      ⟨S128x256, chunk x5 x6 x7 x8 2⟩, ⟨S128x256, chunk x5 x6 x7 x8 3⟩]
      concatenates_S128x256_S128x256_S128x256_S128x256_S512x256_d0 : FVec Ideal S512x256 .f32) bitsLt_bf16_f32) (ix2 r l)
      = gmlp x5 x6 x7 x8 r l := by
  rw [join_apply (chunk x5 x6 x7 x8), chunk_apply]
  have e : (⟨128 * (r.val / 128) + r.val % 128, by omega⟩ : Fin 512) = r := Fin.ext (by dsimp only; omega)
  unfold gmlp
  rw [e]

set_option maxHeartbeats 1000000 in
/-- Entry (r, e) of the block that the body stores: the merged row of row r of the blocks that it loads. -/
theorem out_apply (x0 : Vec Ideal S512x1024 .f32) (x1 : Vec Ideal S1x1024 .f32) (x2 x3 x4 : Vec Ideal S512x256 .bf16)
    (x5 : Vec Ideal S512x256 .f32) (x6 : Vec Ideal S512x256 .bf16) (x7 : Vec Ideal S4x128x128 .f32) (x8 : Vec Ideal S128x256 .f32)
    (x9 : Vec Ideal S4x1024x1024 .bf16) (x10 : Vec Ideal S4x256x1024 .bf16) (x11 : Vec Ideal S1024x1024 .bf16)
    (r : Fin 512) (e : Fin 1024) :
    out0_12 x0 x1 x2 x3 x4 x5 x6 x7 x8 x9 x10 x11 (ix2 r e)
      = row (fun k => x0 (ix2 r k)) (fun k => x1 (ix2 0 k)) (fun n k d => x9 (ix3 n k d))
          ![fun i => x2 (ix2 r i), fun i => x3 (ix2 r i), fun i => x4 (ix2 r i), gmlp x5 x6 x7 x8 r]
          (fun n i d => x10 (ix3 n i d)) (fun d e => x11 (ix2 d e)) e := by
  have hout : out0_12 x0 x1 x2 x3 x4 x5 x6 x7 x8 x9 x10 x11
      = k0_pay1 (F := Ideal) x0 (k0_pay2 x0 x1)
          (truncf .bf16 (concatenate S512x256 0 [⟨S128x256, chunk x5 x6 x7 x8 0⟩, ⟨S128x256, chunk x5 x6 x7 x8 1⟩,
            ⟨S128x256, chunk x5 x6 x7 x8 2⟩, ⟨S128x256, chunk x5 x6 x7 x8 3⟩]
            concatenates_S128x256_S128x256_S128x256_S128x256_S512x256_d0 : FVec Ideal S512x256 .f32) bitsLt_bf16_f32)
          x4 (k0_pay20 (k0_pay2 x0 x1) x2 x3 (View.ld x9 r0_12) (View.ld x10 r0_13) (View.ld x9 r0_14) (View.ld x10 r0_15))
          (View.ld x9 r0_16) (View.ld x10 r0_17) (View.ld x9 r0_18) (View.ld x10 r0_19) x11 := by
    unfold out0_12
    rw [View.canon_unit_zero hz]
    unfold k0_pay23
    repeat rw [View.ld_unit_zero hz]
    rfl
  rw [hout, pay1_apply]
  simp only [pay20_apply]
  have h9 : ∀ (n : Fin 4) (o : Nat) (ho : o = n.val) (inb) (k d : Fin 1024),
      View.ld x9 (Rect.unit (s := S4x1024x1024) ![o, 0, 0] S1x1024x1024.size inb) (ix3 0 k d) = x9 (ix3 n k d) :=
    fun n o ho inb k d => ld3 x9 n o ho inb k d
  have h10 : ∀ (n : Fin 4) (o : Nat) (ho : o = n.val) (inb) (i : Fin 256) (d : Fin 1024),
      View.ld x10 (Rect.unit (s := S4x256x1024) ![o, 0, 0] S1x256x1024.size inb) (ix3 0 i d) = x10 (ix3 n i d) :=
    fun n o ho inb k d => ld3 x10 n o ho inb k d
  unfold row
  refine congrArg (x0 (ix2 r e) + ·) (Finset.sum_congr rfl fun d _ => congrArg (· * x11 (ix2 d e)) ?_)
  have hr : (fun k => k0_pay2 x0 x1 (ix2 r k)) = rms (fun k => x0 (ix2 r k)) (fun k => x1 (ix2 0 k)) :=
    funext fun k => pay2_apply x0 x1 r k
  rw [hr, Fin.sum_univ_four, zero_add]
  refine congrArg₂ (· + ·) (congrArg₂ (· + ·) (congrArg₂ (· + ·) ?_ ?_) ?_) ?_
  · exact congrArg₂ (fun a b => term _ a _ b) (funext fun k => h9 0 0 rfl _ k d) (funext fun i => h10 0 0 rfl _ i d)
  · exact congrArg₂ (fun a b => term _ a _ b) (funext fun k => h9 1 1 rfl _ k d) (funext fun i => h10 1 1 rfl _ i d)
  · exact congrArg₂ (fun a b => term _ a _ b) (funext fun k => h9 2 2 rfl _ k d) (funext fun i => h10 2 2 rfl _ i d)
  · rw [show (fun i => _) = gmlp x5 x6 x7 x8 r from funext fun i => gmlp_apply x5 x6 x7 x8 r i]
    exact congrArg₂ (fun a b => term _ a _ b) (funext fun k => h9 3 3 rfl _ k d) (funext fun i => h10 3 3 rfl _ i d)

end Cert.MergeIdeal.Body

end
-- ==== Proof.MergeValue.lean ====
/-
  The merge kernel's result array: every row of it is the merged row of the same row of the arguments (`run`). The 32
  blocks of 512 rows tile the array; block t is computed from block t of the row arguments and the whole weights.
-/
module

public import proofs.«01_k».proof.Proof.Gen.MergeIdeal.Value
public import proofs.«01_k».proof.Proof.MergeBody

@[expose] public section

set_option maxRecDepth 16384

noncomputable section

namespace Cert.MergeIdeal.RefValue

open Cert.MergeIdeal Cert.MergeIdeal.Gen Cert.MergeIdeal.Body Idealize.ShloMosaic Idealize.ShloMosaic.TcCoe Idealize.SL.Sem

variable (m : (ℓ : Loc nD τ sig) → Buf (Elt Ideal) ℓ) (ρ : Dev nD → PrngReg)

/-- The merged rows, of any argument arrays. -/
def merged (x0 : Vec Ideal S16384x1024 .f32) (x1 : Vec Ideal S1024 .f32) (x2 x3 x4 : Vec Ideal S16384x256 .bf16)
    (x5 : Vec Ideal S16384x256 .f32) (x6 : Vec Ideal S16384x256 .bf16) (x7 : Vec Ideal S4x128x128 .f32)
    (x8 : Vec Ideal S4x128 .f32) (x9 : Vec Ideal S1024x6800 .f32) (x10 : Vec Ideal S4x256x1024 .f32)
    (x11 : Vec Ideal S1024x1024 .f32) (r : Fin 16384) (e : Fin 1024) : EReal :=
  row (fun k => x0 (ix2 r k)) (fun k => x1 (ix1 k)) (fun n k d => x9 (ix2 k ⟨2704 + (n.val * 1024 + d.val), by omega⟩))
    ![fun i => x2 (ix2 r i), fun i => x3 (ix2 r i), fun i => x4 (ix2 r i), fun l => mix (x5 (ix2 r l))
        (fun s => x7 (ix3 ⟨l.val / 64, by omega⟩ ⟨r.val % 128, by omega⟩ s))
        (fun s => x6 (ix2 ⟨r.val / 128 * 128 + s.val, by omega⟩ l))
        (x8 (ix2 ⟨l.val / 64, by omega⟩ ⟨r.val % 128, by omega⟩)) ⟨r.val % 128, by omega⟩]
    (fun n i d => x10 (ix3 n i d)) (fun d e => x11 (ix2 d e)) e

/-- The merged rows of the argument arrays of device c. -/
def G (c : Dev nD) : Buf (Elt Ideal) ((c : Thread nD τ).loc main_v17) := fun i : S16384x1024.Idx =>
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (i 0) (i 1)

/-- The gate weights, stacked: branch n's are columns 2704 + 1024 n … of the input weights. -/
theorem stack_apply (w : Vec Ideal S1024x6800 .f32) (n : Fin 4) (k d : Fin 1024) :
    (truncf .bf16 (concatenate S4x1024x1024 0
      [⟨S1x1024x1024, broadcastInDim S1x1024x1024 ![1, 2] bcast_S1024x1024_S1x1024x1024_1_2 (extractStridedSlice S1024x1024 ![0, 0] (extractStridedSlice S1024x4096 ![0, 2704] w slices_S1024x6800_S1024x4096_0_2704) slices_S1024x4096_S1024x1024_0_0)⟩,
       ⟨S1x1024x1024, broadcastInDim S1x1024x1024 ![1, 2] bcast_S1024x1024_S1x1024x1024_1_2 (extractStridedSlice S1024x1024 ![0, 1024] (extractStridedSlice S1024x4096 ![0, 2704] w slices_S1024x6800_S1024x4096_0_2704) slices_S1024x4096_S1024x1024_0_1024)⟩,
       ⟨S1x1024x1024, broadcastInDim S1x1024x1024 ![1, 2] bcast_S1024x1024_S1x1024x1024_1_2 (extractStridedSlice S1024x1024 ![0, 2048] (extractStridedSlice S1024x4096 ![0, 2704] w slices_S1024x6800_S1024x4096_0_2704) slices_S1024x4096_S1024x1024_0_2048)⟩,
       ⟨S1x1024x1024, broadcastInDim S1x1024x1024 ![1, 2] bcast_S1024x1024_S1x1024x1024_1_2 (extractStridedSlice S1024x1024 ![0, 3072] (extractStridedSlice S1024x4096 ![0, 2704] w slices_S1024x6800_S1024x4096_0_2704) slices_S1024x4096_S1024x1024_0_3072)⟩]
      concatenates_S1x1024x1024_S1x1024x1024_S1x1024x1024_S1x1024x1024_S4x1024x1024_d0 : FVec Ideal S4x1024x1024 .f32) bitsLt_bf16_f32) (ix3 n k d)
      = w (ix2 k ⟨2704 + (n.val * 1024 + d.val), by omega⟩) := by
  pointwise
  match n with
  | 0 => exact congrArg w (congrArg (ix2 k) (Fin.ext (by show _ = 2704 + (0 * 1024 + d.val); dsimp only; omega)))
  | 1 => exact congrArg w (congrArg (ix2 k) (Fin.ext (by show 2704 + (1024 + d.val) = 2704 + (1 * 1024 + d.val); omega)))
  | 2 => exact congrArg w (congrArg (ix2 k) (Fin.ext (by show 2704 + (2048 + d.val) = 2704 + (2 * 1024 + d.val); omega)))
  | 3 => exact congrArg w (congrArg (ix2 k) (Fin.ext (by show 2704 + (3072 + d.val) = 2704 + (3 * 1024 + d.val); omega)))

/-- The gate weights, as the kernel finds them. -/
theorem V_v13 (c : Dev nD) (n : Fin 4) (k d : Fin 1024) :
    (V m c main_v13 : Vec Ideal S4x1024x1024 .bf16) (ix3 n k d)
      = (m ((c : Thread nD τ).loc main_arg9) : Vec Ideal S1024x6800 .f32) (ix2 k ⟨2704 + (n.val * 1024 + d.val), by omega⟩) := by
  refine Eq.trans ?_ (stack_apply _ n k d)
  refine congrFun (f := (V m c main_v13 : Vec Ideal S4x1024x1024 .bf16)) ?_ _
  dsimp only [V]; after_results_simp; rfl

/-- The bias, one column for each lane: lane l's is that of group l / 64. -/
theorem bias_apply (b : Vec Ideal S4x128 .f32) (t : Fin 128) (l : Fin 256) :
    (shapeCast S128x256 (broadcastInDim S128x4x64 ![0, 1] bcast_S128x4_S128x4x64_0_1 (transpose S128x4 [1, 0] b transposes_S4x128_S128x4_1_0 : Vec Ideal S128x4 .f32) : Vec Ideal S128x4x64 .f32)
      shapeCasts_S128x4x64_S128x256 : Vec Ideal S128x256 .f32) (ix2 t l) = b (ix2 ⟨l.val / 64, by omega⟩ t) := by
  pointwise

/-- The bias, as the kernel finds it. -/
theorem V_v3 (c : Dev nD) (t : Fin 128) (l : Fin 256) :
    (V m c main_v3 : Vec Ideal S128x256 .f32) (ix2 t l)
      = (m ((c : Thread nD τ).loc main_arg8) : Vec Ideal S4x128 .f32) (ix2 ⟨l.val / 64, by omega⟩ t) := by
  refine Eq.trans ?_ (bias_apply _ t l)
  refine congrFun (f := (V m c main_v3 : Vec Ideal S128x256 .f32)) ?_ _
  dsimp only [V]; after_results_simp; rfl

/-- The branches' projections. -/
theorem V_v14 (c : Dev nD) (i : S4x256x1024.Idx) :
    (V m c main_v14 : Vec Ideal S4x256x1024 .bf16) i = (m ((c : Thread nD τ).loc main_arg10) : Vec Ideal S4x256x1024 .f32) i := by
  have e : @Eq (FVec Ideal S4x256x1024 .bf16) (V m c main_v14)
      <| truncf .bf16 (m ((c : Thread nD τ).loc main_arg10) : Vec Ideal S4x256x1024 .f32) bitsLt_bf16_f32 := by
    dsimp only [V]; after_results_simp
  rw [e]; rfl

/-- The output weights. -/
theorem V_v15 (c : Dev nD) (i : S1024x1024.Idx) :
    (V m c main_v15 : Vec Ideal S1024x1024 .bf16) i = (m ((c : Thread nD τ).loc main_arg11) : Vec Ideal S1024x1024 .f32) i := by
  have e : @Eq (FVec Ideal S1024x1024 .bf16) (V m c main_v15)
      <| truncf .bf16 (m ((c : Thread nD τ).loc main_arg11) : Vec Ideal S1024x1024 .f32) bitsLt_bf16_f32 := by
    dsimp only [V]; after_results_simp
  rw [e]; rfl

/-- The gain. -/
theorem V_v16 (c : Dev nD) (k : Fin 1024) :
    (V m c main_v16 : Vec Ideal S1x1024 .f32) (ix2 0 k) = m ((c : Thread nD τ).loc main_arg1) (ix1 k) := by
  have e : (V m c main_v16 : Vec Ideal S1x1024 .f32)
      = shapeCast S1x1024 (m ((c : Thread nD τ).loc main_arg1) : Vec Ideal S1024 .f32) shapeCasts_S1024_S1x1024 := by
    dsimp only [V]; after_results_simp; rfl
  rw [e]; pointwise

/-- Where the row windows' blocks lie: block t is rows 512 t …. -/
theorem idx_rows : ∀ t : Fin grid0.N,
    (win0_0.index t 0 * win0_0.size 0 = t.val * 512 ∧ win0_0.index t 1 * win0_0.size 1 = 0)
    ∧ (win0_2.index t 0 * win0_2.size 0 = t.val * 512 ∧ win0_2.index t 1 * win0_2.size 1 = 0)
    ∧ (win0_3.index t 0 * win0_3.size 0 = t.val * 512 ∧ win0_3.index t 1 * win0_3.size 1 = 0)
    ∧ (win0_4.index t 0 * win0_4.size 0 = t.val * 512 ∧ win0_4.index t 1 * win0_4.size 1 = 0)
    ∧ (win0_5.index t 0 * win0_5.size 0 = t.val * 512 ∧ win0_5.index t 1 * win0_5.size 1 = 0)
    ∧ (win0_6.index t 0 * win0_6.size 0 = t.val * 512 ∧ win0_6.index t 1 * win0_6.size 1 = 0)
    ∧ (win0_12.index t 0 * win0_12.size 0 = t.val * 512 ∧ win0_12.index t 1 * win0_12.size 1 = 0)
    ∧ (win0_12.xsize (grid0.coords t) 0 = 512 ∧ win0_12.xsize (grid0.coords t) 1 = 1024) := by
  decide +kernel

/-- The other windows' blocks are whole. -/
theorem idx_whole : ∀ t : Fin grid0.N,
    (∀ a, win0_1.index t a * win0_1.size a = 0) ∧ (∀ a, win0_7.index t a * win0_7.size a = 0)
    ∧ (∀ a, win0_8.index t a * win0_8.size a = 0) ∧ (∀ a, win0_9.index t a * win0_9.size a = 0)
    ∧ (∀ a, win0_10.index t a * win0_10.size a = 0) ∧ (∀ a, win0_11.index t a * win0_11.size a = 0) := by
  decide +kernel

/-- An index of the result array is in point t's block when its row is one of the block's 512. -/
theorem mem_blk (t : Fin cfg0.N) (i : S16384x1024.Idx) :
    i ∈ ((cfg0.win 12).blk t).view.set ↔ t.val * 512 ≤ (i 0 : Nat) ∧ (i 0 : Nat) < t.val * 512 + 512 := by
  show i ∈ ((View.whole main_v17).slice (win0_12.rect t)).set ↔ _
  rw [View.set_slice_whole, Rect.mem_set_unit]
  have h1 : (i 1 : Nat) < 1024 := (i 1).isLt
  obtain ⟨-, -, -, -, -, -, ⟨e0, e1⟩, x0, x1⟩ := idx_rows t
  refine ⟨fun h => ?_, fun h a => ?_⟩
  · have : win0_12.index t 0 * win0_12.size 0 ≤ (i 0 : Nat) ∧ (i 0 : Nat) < win0_12.index t 0 * win0_12.size 0 + win0_12.xsize (grid0.coords t) 0 := h 0
    rw [e0, x0] at this; exact this
  · match a with
    | ⟨0, _⟩ => show win0_12.index t 0 * win0_12.size 0 ≤ (i 0 : Nat) ∧ (i 0 : Nat) < win0_12.index t 0 * win0_12.size 0 + win0_12.xsize (grid0.coords t) 0
                rw [e0, x0]; exact h
    | ⟨1, _⟩ => show win0_12.index t 1 * win0_12.size 1 ≤ (i 1 : Nat) ∧ (i 1 : Nat) < win0_12.index t 1 * win0_12.size 1 + win0_12.xsize (grid0.coords t) 1
                rw [e1, x1]; omega

/-- The blocks tile the result array. -/
theorem cover (i : S16384x1024.Idx) :
    ∃ t : Fin cfg0.N, (cfg0.win 12).flush t = true ∧ i ∈ ((cfg0.win 12).blk t).view.set := by
  have h0 : (i 0 : Nat) < 16384 := (i 0).isLt
  have hN : cfg0.N = 32 := N_0
  refine ⟨⟨(i 0 : Nat) / 512, by omega⟩, flush0_12 _, ?_⟩
  rw [mem_blk]
  dsimp only
  omega

/-- The array position of entry (r, k) of block t. -/
theorem emb12 (t : Fin cfg0.N) (r : Fin 512) (k : Fin 1024) (h : t.val * 512 + r.val < 16384) :
    ((win0_12.blk t).view.emb (ix2 r k) : S16384x1024.Idx) = ix2 ⟨t.val * 512 + r.val, h⟩ k := by
  obtain ⟨-, -, -, -, -, -, ⟨e0, e1⟩, -, -⟩ := idx_rows t
  funext a
  apply Fin.ext
  match a with
  | ⟨0, _⟩ => show win0_12.index t 0 * win0_12.size 0 + 1 * r.val = t.val * 512 + r.val; rw [e0, Nat.one_mul]
  | ⟨1, _⟩ => show win0_12.index t 1 * win0_12.size 1 + 1 * k.val = k.val; rw [e1]; omega

/-- Point t's block of the input: rows 512 t …. -/
theorem blk0 (c : Dev nD) (t : Fin cfg0.N) (r : Fin 512) (k : Fin 1024) (h : t.val * 512 + r.val < 16384) :
    (iblk m c 0 t : Vec Ideal S512x1024 .f32) (ix2 r k) = m ((c : Thread nD τ).loc main_arg0) (ix2 ⟨t.val * 512 + r.val, h⟩ k) := by
  obtain ⟨⟨e0, e1⟩, -⟩ := idx_rows t
  rw [← V_main_arg0 m c]
  refine congrArg (V m c main_arg0 : Vec Ideal S16384x1024 .f32) (funext fun a => Fin.ext ?_)
  match a with
  | ⟨0, _⟩ => show win0_0.index t 0 * win0_0.size 0 + 1 * r.val = t.val * 512 + r.val; rw [e0, Nat.one_mul]
  | ⟨1, _⟩ => show win0_0.index t 1 * win0_0.size 1 + 1 * k.val = k.val; rw [e1]; omega

/-- The first attention branch likewise. -/
theorem blk2 (c : Dev nD) (t : Fin cfg0.N) (r : Fin 512) (k : Fin 256) (h : t.val * 512 + r.val < 16384) :
    (iblk m c 2 t : Vec Ideal S512x256 .bf16) (ix2 r k) = m ((c : Thread nD τ).loc main_arg2) (ix2 ⟨t.val * 512 + r.val, h⟩ k) := by
  obtain ⟨-, ⟨e0, e1⟩, -⟩ := idx_rows t
  rw [← V_main_arg2 m c]
  refine congrArg (V m c main_arg2 : Vec Ideal S16384x256 .bf16) (funext fun a => Fin.ext ?_)
  match a with
  | ⟨0, _⟩ => show win0_2.index t 0 * win0_2.size 0 + 1 * r.val = t.val * 512 + r.val; rw [e0, Nat.one_mul]
  | ⟨1, _⟩ => show win0_2.index t 1 * win0_2.size 1 + 1 * k.val = k.val; rw [e1]; omega

/-- The second. -/
theorem blk3 (c : Dev nD) (t : Fin cfg0.N) (r : Fin 512) (k : Fin 256) (h : t.val * 512 + r.val < 16384) :
    (iblk m c 3 t : Vec Ideal S512x256 .bf16) (ix2 r k) = m ((c : Thread nD τ).loc main_arg3) (ix2 ⟨t.val * 512 + r.val, h⟩ k) := by
  obtain ⟨-, -, ⟨e0, e1⟩, -⟩ := idx_rows t
  rw [← V_main_arg3 m c]
  refine congrArg (V m c main_arg3 : Vec Ideal S16384x256 .bf16) (funext fun a => Fin.ext ?_)
  match a with
  | ⟨0, _⟩ => show win0_3.index t 0 * win0_3.size 0 + 1 * r.val = t.val * 512 + r.val; rw [e0, Nat.one_mul]
  | ⟨1, _⟩ => show win0_3.index t 1 * win0_3.size 1 + 1 * k.val = k.val; rw [e1]; omega

/-- The third. -/
theorem blk4 (c : Dev nD) (t : Fin cfg0.N) (r : Fin 512) (k : Fin 256) (h : t.val * 512 + r.val < 16384) :
    (iblk m c 4 t : Vec Ideal S512x256 .bf16) (ix2 r k) = m ((c : Thread nD τ).loc main_arg4) (ix2 ⟨t.val * 512 + r.val, h⟩ k) := by
  obtain ⟨-, -, -, ⟨e0, e1⟩, -⟩ := idx_rows t
  rw [← V_main_arg4 m c]
  refine congrArg (V m c main_arg4 : Vec Ideal S16384x256 .bf16) (funext fun a => Fin.ext ?_)
  match a with
  | ⟨0, _⟩ => show win0_4.index t 0 * win0_4.size 0 + 1 * r.val = t.val * 512 + r.val; rw [e0, Nat.one_mul]
  | ⟨1, _⟩ => show win0_4.index t 1 * win0_4.size 1 + 1 * k.val = k.val; rw [e1]; omega

/-- The gating values. -/
theorem blk5 (c : Dev nD) (t : Fin cfg0.N) (r : Fin 512) (k : Fin 256) (h : t.val * 512 + r.val < 16384) :
    (iblk m c 5 t : Vec Ideal S512x256 .f32) (ix2 r k) = m ((c : Thread nD τ).loc main_arg5) (ix2 ⟨t.val * 512 + r.val, h⟩ k) := by
  obtain ⟨-, -, -, -, ⟨e0, e1⟩, -⟩ := idx_rows t
  rw [← V_main_arg5 m c]
  refine congrArg (V m c main_arg5 : Vec Ideal S16384x256 .f32) (funext fun a => Fin.ext ?_)
  match a with
  | ⟨0, _⟩ => show win0_5.index t 0 * win0_5.size 0 + 1 * r.val = t.val * 512 + r.val; rw [e0, Nat.one_mul]
  | ⟨1, _⟩ => show win0_5.index t 1 * win0_5.size 1 + 1 * k.val = k.val; rw [e1]; omega

/-- The normalised gating values. -/
theorem blk6 (c : Dev nD) (t : Fin cfg0.N) (r : Fin 512) (k : Fin 256) (h : t.val * 512 + r.val < 16384) :
    (iblk m c 6 t : Vec Ideal S512x256 .bf16) (ix2 r k) = m ((c : Thread nD τ).loc main_arg6) (ix2 ⟨t.val * 512 + r.val, h⟩ k) := by
  obtain ⟨-, -, -, -, -, ⟨e0, e1⟩, -⟩ := idx_rows t
  rw [← V_main_arg6 m c]
  refine congrArg (V m c main_arg6 : Vec Ideal S16384x256 .bf16) (funext fun a => Fin.ext ?_)
  match a with
  | ⟨0, _⟩ => show win0_6.index t 0 * win0_6.size 0 + 1 * r.val = t.val * 512 + r.val; rw [e0, Nat.one_mul]
  | ⟨1, _⟩ => show win0_6.index t 1 * win0_6.size 1 + 1 * k.val = k.val; rw [e1]; omega

/-- The gain is loaded whole. -/
theorem blk1 (c : Dev nD) (t : Fin cfg0.N) (i : S1x1024.Idx) :
    (iblk m c 1 t : Vec Ideal S1x1024 .f32) i = (V m c main_v16 : Vec Ideal S1x1024 .f32) i := by
  obtain ⟨e, -⟩ := idx_whole t
  refine congrArg (V m c main_v16 : Vec Ideal S1x1024 .f32) (funext fun a => Fin.ext ?_)
  show win0_1.index t a * win0_1.size a + 1 * (i a).val = (i a).val
  rw [e a]; omega

/-- The mixing weights are loaded whole. -/
theorem blk7 (c : Dev nD) (t : Fin cfg0.N) (i : S4x128x128.Idx) :
    (iblk m c 7 t : Vec Ideal S4x128x128 .f32) i = (V m c main_arg7 : Vec Ideal S4x128x128 .f32) i := by
  obtain ⟨-, e, -⟩ := idx_whole t
  refine congrArg (V m c main_arg7 : Vec Ideal S4x128x128 .f32) (funext fun a => Fin.ext ?_)
  show win0_7.index t a * win0_7.size a + 1 * (i a).val = (i a).val
  rw [e a]; omega

/-- So is the bias. -/
theorem blk8 (c : Dev nD) (t : Fin cfg0.N) (i : S128x256.Idx) :
    (iblk m c 8 t : Vec Ideal S128x256 .f32) i = (V m c main_v3 : Vec Ideal S128x256 .f32) i := by
  obtain ⟨-, -, e, -⟩ := idx_whole t
  refine congrArg (V m c main_v3 : Vec Ideal S128x256 .f32) (funext fun a => Fin.ext ?_)
  show win0_8.index t a * win0_8.size a + 1 * (i a).val = (i a).val
  rw [e a]; omega

/-- So are the gate weights. -/
theorem blk9 (c : Dev nD) (t : Fin cfg0.N) (i : S4x1024x1024.Idx) :
    (iblk m c 9 t : Vec Ideal S4x1024x1024 .bf16) i = (V m c main_v13 : Vec Ideal S4x1024x1024 .bf16) i := by
  obtain ⟨-, -, -, e, -⟩ := idx_whole t
  refine congrArg (V m c main_v13 : Vec Ideal S4x1024x1024 .bf16) (funext fun a => Fin.ext ?_)
  show win0_9.index t a * win0_9.size a + 1 * (i a).val = (i a).val
  rw [e a]; omega

/-- So are the branches' projections. -/
theorem blk10 (c : Dev nD) (t : Fin cfg0.N) (i : S4x256x1024.Idx) :
    (iblk m c 10 t : Vec Ideal S4x256x1024 .bf16) i = (V m c main_v14 : Vec Ideal S4x256x1024 .bf16) i := by
  obtain ⟨-, -, -, -, e, -⟩ := idx_whole t
  refine congrArg (V m c main_v14 : Vec Ideal S4x256x1024 .bf16) (funext fun a => Fin.ext ?_)
  show win0_10.index t a * win0_10.size a + 1 * (i a).val = (i a).val
  rw [e a]; omega

/-- So are the output weights. -/
theorem blk11 (c : Dev nD) (t : Fin cfg0.N) (i : S1024x1024.Idx) :
    (iblk m c 11 t : Vec Ideal S1024x1024 .bf16) i = (V m c main_v15 : Vec Ideal S1024x1024 .bf16) i := by
  obtain ⟨-, -, -, -, -, e⟩ := idx_whole t
  refine congrArg (V m c main_v15 : Vec Ideal S1024x1024 .bf16) (funext fun a => Fin.ext ?_)
  show win0_11.index t a * win0_11.size a + 1 * (i a).val = (i a).val
  rw [e a]; omega

/-- The body's result at a row r of its blocks is the merged row R of whole arrays, when row r of the row blocks is row R
    of the arrays, the chunk that holds r is the arrays' chunk that holds R, and the other blocks are the staged weights. -/
theorem out_merged (b0 : Vec Ideal S512x1024 .f32) (b1 : Vec Ideal S1x1024 .f32) (b2 b3 b4 : Vec Ideal S512x256 .bf16)
    (b5 : Vec Ideal S512x256 .f32) (b6 : Vec Ideal S512x256 .bf16) (b7 : Vec Ideal S4x128x128 .f32) (b8 : Vec Ideal S128x256 .f32)
    (b9 : Vec Ideal S4x1024x1024 .bf16) (b10 : Vec Ideal S4x256x1024 .bf16) (b11 : Vec Ideal S1024x1024 .bf16)
    (x0 : Vec Ideal S16384x1024 .f32) (x1 : Vec Ideal S1024 .f32) (x2 x3 x4 : Vec Ideal S16384x256 .bf16)
    (x5 : Vec Ideal S16384x256 .f32) (x6 : Vec Ideal S16384x256 .bf16) (x7 : Vec Ideal S4x128x128 .f32)
    (x8 : Vec Ideal S4x128 .f32) (x9 : Vec Ideal S1024x6800 .f32) (x10 : Vec Ideal S4x256x1024 .f32) (x11 : Vec Ideal S1024x1024 .f32)
    (t : Nat) (ht : t < 32)
    (h0 : ∀ (r : Fin 512) k, b0 (ix2 r k) = x0 (ix2 ⟨t * 512 + r.val, by omega⟩ k)) (h1 : ∀ k, b1 (ix2 0 k) = x1 (ix1 k))
    (h2 : ∀ (r : Fin 512) k, b2 (ix2 r k) = x2 (ix2 ⟨t * 512 + r.val, by omega⟩ k))
    (h3 : ∀ (r : Fin 512) k, b3 (ix2 r k) = x3 (ix2 ⟨t * 512 + r.val, by omega⟩ k))
    (h4 : ∀ (r : Fin 512) k, b4 (ix2 r k) = x4 (ix2 ⟨t * 512 + r.val, by omega⟩ k))
    (h5 : ∀ (r : Fin 512) k, b5 (ix2 r k) = x5 (ix2 ⟨t * 512 + r.val, by omega⟩ k))
    (h6 : ∀ (r : Fin 512) k, b6 (ix2 r k) = x6 (ix2 ⟨t * 512 + r.val, by omega⟩ k))
    (h7 : ∀ i, b7 i = x7 i) (h8 : ∀ (t : Fin 128) (l : Fin 256), b8 (ix2 t l) = x8 (ix2 ⟨l.val / 64, by omega⟩ t))
    (h9 : ∀ (n : Fin 4) (k d : Fin 1024), b9 (ix3 n k d) = x9 (ix2 k ⟨2704 + (n.val * 1024 + d.val), by omega⟩))
    (h10 : ∀ i, b10 i = x10 i) (h11 : ∀ i, b11 i = x11 i) (r : Fin 512) (e : Fin 1024) :
    out0_12 b0 b1 b2 b3 b4 b5 b6 b7 b8 b9 b10 b11 (ix2 r e)
      = merged x0 x1 x2 x3 x4 x5 x6 x7 x8 x9 x10 x11 ⟨t * 512 + r.val, by omega⟩ e := by
  have hg : gmlp b5 b6 b7 b8 r = fun l => mix (x5 (ix2 ⟨t * 512 + r.val, by omega⟩ l))
        (fun s => x7 (ix3 ⟨l.val / 64, by omega⟩ ⟨(t * 512 + r.val) % 128, by omega⟩ s))
        (fun s => x6 (ix2 ⟨(t * 512 + r.val) / 128 * 128 + s.val, by omega⟩ l))
        (x8 (ix2 ⟨l.val / 64, by omega⟩ ⟨(t * 512 + r.val) % 128, by omega⟩)) ⟨(t * 512 + r.val) % 128, by omega⟩ := by
    funext l
    have hr : (⟨r.val % 128, by omega⟩ : Fin 128) = ⟨(t * 512 + r.val) % 128, by omega⟩ := Fin.ext (by dsimp only; omega)
    have hs : ∀ s : Fin 128, t * 512 + (128 * (r.val / 128) + s.val) = (t * 512 + r.val) / 128 * 128 + s.val := by omega
    unfold gmlp
    simp only [h5, h6, h7, h8, hr, hs]
  rw [out_apply, hg]
  simp only [h0, h1, h2, h3, h4, h9, h10, h11]
  rfl

/-- Point t writes back block t of the merged rows. -/
theorem flushed_eq (c : Dev nD) (t : Fin cfg0.N) :
    (dats m 0 c).flushed 12 t = (win0_12.blk t).view.read (Elt Ideal) (G m c) := by
  rw [Value.flushed12]
  have hN : cfg0.N = 32 := N_0
  funext i
  have ht : t.val < 32 := hN ▸ t.isLt
  obtain ⟨r, k, rfl⟩ : ∃ (r : Fin 512) (k : Fin 1024), i = ix2 r k :=
    ⟨⟨(i 0).val, (i 0).isLt⟩, ⟨(i 1).val, (i 1).isLt⟩, funext fun a => Fin.ext (by match a with | ⟨0, _⟩ => rfl | ⟨1, _⟩ => rfl)⟩
  refine Eq.trans (out_merged (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) t.val ht
    (fun r k => blk0 m c t r k _) (fun k => (blk1 m c t _).trans (V_v16 m c k)) (fun r k => blk2 m c t r k _)
    (fun r k => blk3 m c t r k _) (fun r k => blk4 m c t r k _) (fun r k => blk5 m c t r k _) (fun r k => blk6 m c t r k _)
    (fun i => (blk7 m c t i).trans (congrFun (V_main_arg7 m c) i)) (fun s l => (blk8 m c t _).trans (V_v3 m c s l))
    (fun n k d => (blk9 m c t _).trans (V_v13 m c n k d)) (fun i => (blk10 m c t i).trans (V_v14 m c i))
    (fun i => (blk11 m c t i).trans (V_v15 m c i)) r k) ?_
  show _ = G m c ((win0_12.blk t).view.emb (ix2 r k))
  rw [emb12 t r k (by omega)]
  rfl

/-- So the result array ends holding the merged rows. -/
theorem final (c : Dev nD) : (dats m 0 c).arrAt 12 cfg0.N = G m c :=
  (dats m 0 c).arrAt_eq_of_cover 12 (G m c) (fun t _ => flushed_eq m c t) cover

/-- The run, read: the result array at the merged rows, the arguments unchanged. -/
theorem run : θ_run defs (onTc (τ := τ) (main (F := Ideal))) ⟨m, fun _ => 0, ρ⟩ fun r => ∀ c : Dev nD,
      r.2.mem ((c : Thread nD τ).loc main_v17) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.MergeIdeal.RefValue

end
-- ==== Proof.MergeRef.lean ====
/-
  The reference's merge at an index: entry (r, e) of its result is the merged row r (`MergeBody.lean` `row`), with the
  gates' weights the last 4096 columns of the input weights.
-/
module

public import proofs.«01_k».proof.Proof.Gen.MergeRefIdeal.Read
public import proofs.«01_k».proof.Proof.MergeBody

@[expose] public section

set_option maxRecDepth 16384

noncomputable section

namespace Cert.MergeRefIdeal.RefValue

open Cert.MergeRefIdeal Cert.MergeRefIdeal.Gen Cert.MergeRefIdeal.Read Idealize.ShloMosaic
open Cert.FfnIdeal.Body (rms)
open Cert.MergeIdeal.Body (term mix row)

/-- The normalised rows. -/
theorem norm_apply (x : (⟨S16384x1024, .f32⟩ : BufTy).Contents (Elt Ideal)) (g : (⟨S1024, .f32⟩ : BufTy).Contents (Elt Ideal))
    (r : Fin 16384) (k : Fin 1024) :
    val_main_v12 (F := Ideal) x g (ix2 r k) = rms (fun k => x (ix2 r k)) (fun k => g (ix1 k)) k := by
  pointwise [val_main_v0, val_main_v1, val_main_v2, val_main_v3, val_main_v4, val_main_v5, val_main_v6, val_main_v7, val_main_v8, val_main_v9, val_main_v10, val_main_v11, val_main_v12, val_main_cst, val_main_cst_0, val_main_cst_1, rms]

/-- The logistic gates: columns 2704 + 1024 n … of the input weights are branch n's. -/
theorem gate_apply (x : (⟨S16384x1024, .f32⟩ : BufTy).Contents (Elt Ideal)) (g : (⟨S1024, .f32⟩ : BufTy).Contents (Elt Ideal))
    (w : (⟨S1024x6800, .f32⟩ : BufTy).Contents (Elt Ideal)) (r : Fin 16384) (n : Fin 4) (d : Fin 1024) :
    val_main_v47 (F := Ideal) x g w (ix3 r n d)
      = Ideal.logistic (∑ k, rms (fun k => x (ix2 r k)) (fun k => g (ix1 k)) k
          * w (ix2 k ⟨2704 + (n.val * 1024 + d.val), by omega⟩)) := by
  simp only [← norm_apply]
  pointwise [val_main_v47, val_main_v46, val_main_v45, val_main_v44, val_main_v43, val_main_v42, val_main_v41, val_main_v14, val_main_v13, val_main_cst_3, val_main_cst_4]
  rfl

/-- The mixing weights with the entries above the diagonal multiplied by zero. -/
theorem tril_apply (w : (⟨S4x128x128, .f32⟩ : BufTy).Contents (Elt Ideal)) (j : Fin 4) (t s : Fin 128) :
    val_main_v21 (F := Ideal) w (ix3 j t s) = if s.val ≤ t.val then w (ix3 j t s) else 0 := by
  pointwise [val_main_v21, val_main_v20, val_main_v19, val_main_v18, val_main_v17, val_main_cst_2, val_main_call0_v5, val_main_call0_v4, val_main_call0_v3, val_main_call0_v2, val_main_call0_v1, val_main_call0_v0, val_main_call0_c, val_main_call0_cst]
  rw [show IntOp.addi (BitVec.ofNat 32 t.val) 0#32 = BitVec.ofNat 32 t.val from BitVec.add_zero _,
    WordCmp.cmpi_sge_ofNat (by omega) (by omega), WordCmp.select_decide]

/-- The mixture plus the bias. -/
theorem sv_apply (v : (⟨S16384x256, .bf16⟩ : BufTy).Contents (Elt Ideal)) (w : (⟨S4x128x128, .f32⟩ : BufTy).Contents (Elt Ideal))
    (b : (⟨S4x128, .f32⟩ : BufTy).Contents (Elt Ideal)) (r : Fin 16384) (l : Fin 256) :
    val_main_v29 (F := Ideal) v w b (ix2 r l)
      = (∑ s : Fin 128, v (ix2 ⟨r.val / 128 * 128 + s.val, by omega⟩ l)
            * val_main_v21 (F := Ideal) w (ix3 ⟨l.val / 64, by omega⟩ ⟨r.val % 128, by omega⟩ s))
          + b (ix2 ⟨l.val / 64, by omega⟩ ⟨r.val % 128, by omega⟩) := by
  unfold val_main_v29 val_main_v28 val_main_v23 val_main_v22
  generalize val_main_v21 (F := Ideal) w = w'
  pointwise [val_main_v16, val_main_v15, val_main_v24, val_main_v25, val_main_v26, val_main_v27]

/-- The four branches, stacked. -/
theorem branch_apply (x2 x3 x4 : (⟨S16384x256, .bf16⟩ : BufTy).Contents (Elt Ideal)) (x5 : (⟨S16384x256, .f32⟩ : BufTy).Contents (Elt Ideal))
    (x6 : (⟨S16384x256, .bf16⟩ : BufTy).Contents (Elt Ideal)) (x7 : (⟨S4x128x128, .f32⟩ : BufTy).Contents (Elt Ideal))
    (x8 : (⟨S4x128, .f32⟩ : BufTy).Contents (Elt Ideal)) (r : Fin 16384) (n : Fin 4) (i : Fin 256) :
    val_main_v38 (F := Ideal) x2 x3 x4 x5 x6 x7 x8 (ix3 r n i)
      = (![fun i => x2 (ix2 r i), fun i => x3 (ix2 r i), fun i => x4 (ix2 r i),
          fun i => val_main_v30 (F := Ideal) x5 x6 x7 x8 (ix2 r i)] : Fin 4 → Fin 256 → EReal) n i := by
  unfold val_main_v38 val_main_v37
  generalize val_main_v30 (F := Ideal) x5 x6 x7 x8 = z
  pointwise [val_main_v34, val_main_v35, val_main_v36, val_main_v31, val_main_v32, val_main_v33]
  match n with
  | 0 => rfl
  | 1 => rfl
  | 2 => rfl
  | 3 => rfl

/-- The projections of the branches. -/
theorem proj_apply (x2 x3 x4 : (⟨S16384x256, .bf16⟩ : BufTy).Contents (Elt Ideal)) (x5 : (⟨S16384x256, .f32⟩ : BufTy).Contents (Elt Ideal))
    (x6 : (⟨S16384x256, .bf16⟩ : BufTy).Contents (Elt Ideal)) (x7 : (⟨S4x128x128, .f32⟩ : BufTy).Contents (Elt Ideal))
    (x8 : (⟨S4x128, .f32⟩ : BufTy).Contents (Elt Ideal)) (x10 : (⟨S4x256x1024, .f32⟩ : BufTy).Contents (Elt Ideal)) (r : Fin 16384) (n : Fin 4) (d : Fin 1024) :
    val_main_v40 (F := Ideal) x2 x3 x4 x5 x6 x7 x8 x10 (ix3 r n d)
      = ∑ i, x10 (ix3 n i d) * val_main_v38 (F := Ideal) x2 x3 x4 x5 x6 x7 x8 (ix3 r n i) := by
  unfold val_main_v40 val_main_v39
  generalize val_main_v38 (F := Ideal) x2 x3 x4 x5 x6 x7 x8 = z
  pointwise

/-- The result from the gated projections. -/
theorem out_apply (x0 x1 x2 x3 x4 x5 x6 x7 x8 x9 x10 x11) (r : Fin 16384) (e : Fin 1024) :
    val_main_v51 (F := Ideal) x0 x1 x2 x3 x4 x5 x6 x7 x8 x9 x10 x11 (ix2 r e)
      = x0 (ix2 r e) + ∑ d : Fin 1024, (∑ n : Fin 4, val_main_v47 (F := Ideal) x0 x1 x9 (ix3 r n d)
          * val_main_v40 (F := Ideal) x2 x3 x4 x5 x6 x7 x8 x10 (ix3 r n d)) * x11 (ix2 d e) := by
  unfold val_main_v51 val_main_v50 val_main_v49 val_main_v48
  generalize val_main_v47 (F := Ideal) x0 x1 x9 = y
  generalize val_main_v40 (F := Ideal) x2 x3 x4 x5 x6 x7 x8 x10 = z
  pointwise [val_main_cst_5]

/-- Entry (r, e) of the reference's result: the merged row r. -/
theorem ref_apply (x0 x1 x2 x3 x4 x5 x6 x7 x8 x9 x10 x11) (r : Fin 16384) (e : Fin 1024) :
    val_main_v51 (F := Ideal) x0 x1 x2 x3 x4 x5 x6 x7 x8 x9 x10 x11 (ix2 r e)
      = row (fun k => x0 (ix2 r k)) (fun k => x1 (ix1 k)) (fun n k d => x9 (ix2 k ⟨2704 + (n.val * 1024 + d.val), by omega⟩))
          ![fun i => x2 (ix2 r i), fun i => x3 (ix2 r i), fun i => x4 (ix2 r i), fun l => mix (x5 (ix2 r l))
              (fun s => x7 (ix3 ⟨l.val / 64, by omega⟩ ⟨r.val % 128, by omega⟩ s))
              (fun s => x6 (ix2 ⟨r.val / 128 * 128 + s.val, by omega⟩ l))
              (x8 (ix2 ⟨l.val / 64, by omega⟩ ⟨r.val % 128, by omega⟩)) ⟨r.val % 128, by omega⟩]
          (fun n i d => x10 (ix3 n i d)) (fun d e => x11 (ix2 d e)) e := by
  have hg : ∀ l : Fin 256, val_main_v30 (F := Ideal) x5 x6 x7 x8 (ix2 r l) = mix (x5 (ix2 r l))
              (fun s => x7 (ix3 ⟨l.val / 64, by omega⟩ ⟨r.val % 128, by omega⟩ s))
              (fun s => x6 (ix2 ⟨r.val / 128 * 128 + s.val, by omega⟩ l))
              (x8 (ix2 ⟨l.val / 64, by omega⟩ ⟨r.val % 128, by omega⟩)) ⟨r.val % 128, by omega⟩ := by
    intro l
    unfold mix
    refine (val_main_v30_apply x5 x6 x7 x8 _).trans (congrArg (x5 (ix2 r l) * ·) ?_)
    rw [sv_apply]
    refine congrArg (· + _) (Finset.sum_congr rfl fun s _ => ?_)
    rw [tril_apply, mul_comm]
  rw [out_apply]
  unfold row term
  refine congrArg (x0 (ix2 r e) + ·) (Finset.sum_congr rfl fun d _ => congrArg (· * x11 (ix2 d e))
    (Finset.sum_congr rfl fun n _ => ?_))
  rw [gate_apply, proj_apply]
  refine congrArg₂ (· * ·) rfl (Finset.sum_congr rfl fun i _ => ?_)
  rw [branch_apply, mul_comm]
  simp only [hg]

end Cert.MergeRefIdeal.RefValue

end
-- ==== Proof.MergeClaims.lean ====
/-
  The claims about the merge kernel and its reference that are not generated: the reference runs and keeps its
  arguments (`frame_ref`), and from equal arguments the kernel and the reference end with equal results (`algebraic`).
-/
module

public import proofs.«01_k».proof.Defs
public import proofs.«01_k».proof.Proof.Gen.MergeRefIdeal.Run
public import proofs.«01_k».proof.Proof.MergeValue
public import proofs.«01_k».proof.Proof.MergeRef
public import Idealize.ShloMosaic.Lib.Quiescent
public import Idealize.ShloMosaic.Adequacy
public import Idealize.ShloMosaic.Init

@[expose] public section

set_option maxRecDepth 16384

noncomputable section

namespace Cert.MergeClaims

open Idealize.ShloMosaic Idealize.ShloMosaic.TcCoe Idealize.SL.Sem

/-- The reference terminates, keeps its arguments and leaves every counter at zero. -/
theorem frame_ref : Cert.quiescent_MergeRefIdeal := fun m ρ _ =>
  (θ_run Cert.MergeRefIdeal.defs _ _).mono
    (fun r h => ⟨fun c => (h c).2, Idealize.ShloMosaic.sem_eq_zero_of_no_sems (by decide) r.2⟩)
    (Cert.MergeRefIdeal.Value.run (F := Ideal) m ρ)

/-- From equal arguments the kernel and the reference end with equal results. -/
theorem algebraic : Cert.algebraic_MergeIdeal_MergeRefIdeal := by
  intro m ρ m' ρ' _ hagree
  refine ⟨fun c => Cert.MergeIdeal.RefValue.G m c, Cert.MergeIdeal.RefValue.run m ρ, ?_⟩
  refine (θ_run Cert.MergeRefIdeal.defs _ _).mono (fun r h c => ⟨(h c).1.trans ?_, (h c).2⟩)
    (Cert.MergeRefIdeal.Value.run (F := Ideal) m' ρ')
  obtain ⟨h0, h1, h2, h3, h4, h5, h6, h7, h8, h9, h10, h11⟩ := hagree c
  refine (Cert.MergeRefIdeal.Read.val_main_v51_eq (m' ((c : Thread Cert.MergeRefIdeal.nD Cert.MergeRefIdeal.τ).loc Cert.MergeRefIdeal.main_arg0)) (m' ((c : Thread Cert.MergeRefIdeal.nD Cert.MergeRefIdeal.τ).loc Cert.MergeRefIdeal.main_arg1))
    (m' ((c : Thread Cert.MergeRefIdeal.nD Cert.MergeRefIdeal.τ).loc Cert.MergeRefIdeal.main_arg2)) (m' ((c : Thread Cert.MergeRefIdeal.nD Cert.MergeRefIdeal.τ).loc Cert.MergeRefIdeal.main_arg3))
    (m' ((c : Thread Cert.MergeRefIdeal.nD Cert.MergeRefIdeal.τ).loc Cert.MergeRefIdeal.main_arg4)) (m' ((c : Thread Cert.MergeRefIdeal.nD Cert.MergeRefIdeal.τ).loc Cert.MergeRefIdeal.main_arg5))
    (m' ((c : Thread Cert.MergeRefIdeal.nD Cert.MergeRefIdeal.τ).loc Cert.MergeRefIdeal.main_arg6)) (m' ((c : Thread Cert.MergeRefIdeal.nD Cert.MergeRefIdeal.τ).loc Cert.MergeRefIdeal.main_arg7))
    (m' ((c : Thread Cert.MergeRefIdeal.nD Cert.MergeRefIdeal.τ).loc Cert.MergeRefIdeal.main_arg8)) (m' ((c : Thread Cert.MergeRefIdeal.nD Cert.MergeRefIdeal.τ).loc Cert.MergeRefIdeal.main_arg9))
    (m' ((c : Thread Cert.MergeRefIdeal.nD Cert.MergeRefIdeal.τ).loc Cert.MergeRefIdeal.main_arg10)) (m' ((c : Thread Cert.MergeRefIdeal.nD Cert.MergeRefIdeal.τ).loc Cert.MergeRefIdeal.main_arg11))).trans ?_
  rw [h0, h1, h2, h3, h4, h5, h6, h7, h8, h9, h10, h11]
  funext i
  obtain ⟨a, b, rfl⟩ : ∃ (a : Fin 16384) (b : Fin 1024), i = ix2 a b :=
    ⟨⟨(i 0).val, (i 0).isLt⟩, ⟨(i 1).val, (i 1).isLt⟩, funext fun k => Fin.ext (by match k with | ⟨0, _⟩ => rfl | ⟨1, _⟩ => rfl)⟩
  exact Cert.MergeRefIdeal.RefValue.ref_apply _ _ _ _ _ _ _ _ _ _ _ _ a b

end Cert.MergeClaims

end
-- ==== Proof.DiffRun.lean ====
/-
  What one grid point of the differential attention kernel leaves in its output block, as a recursion over the key tiles:
  the loop's trips and the last tile's step update three running arrays (the row maxima, the row sums and the weighted
  values) of four stacked groups of rows, and the block stored is read off the last two (`out_eq`).
-/
module

public import proofs.«01_k».proof.Proof.Gen.DiffIdeal.Frame
public import Idealize.ShloMosaic.Lib.Pointwise
public import Idealize.ShloMosaic.Lib.VecWindow
public import Idealize.ShloMosaic.Lib.WholeRead
public import Idealize.ShloMosaic.Lib.LoopRemainder

@[expose] public section

set_option maxRecDepth 16384

noncomputable section

namespace Cert.DiffIdeal.Body

open Cert.DiffIdeal Cert.DiffIdeal.Gen Idealize.ShloMosaic

/-- The running arrays: the row maxima, the row sums, the weighted values. -/
abbrev St := FVec Ideal S1024x1 .f32 × FVec Ideal S1024x1 .f32 × FVec Ideal S1024x128 .f32

/-- One trip of the loop on the running arrays: `kb` and `vb` are the key and value tiles, `qs` the masked queries. -/
def stepV (kb : Vec Ideal S1x128x512 .bf16) (vb : Vec Ideal S1x512x128 .bf16) (qs : Vec Ideal S1024x128 .bf16) (T : St) : St :=
  (k0_pay25 (k0_pay3 kb qs T.1), k0_pay6 kb qs T.1 T.2.1, k0_pay7 kb vb qs T.1 T.2.2)

/-- The last tile's step on the running arrays: the scores of the keys after the query are masked. -/
def stepD (v0 w : BitVec 32) (kb : Vec Ideal S1x128x512 .bf16) (vb : Vec Ideal S1x512x128 .bf16)
    (qs : Vec Ideal S1024x128 .bf16) (T : St) : St :=
  (k0_pay35 (k0_pay29 v0 w kb qs T.1), k0_pay33 (k0_pay32 v0 w kb qs T.1 T.2.1),
   k0_pay34 (k0_pay27 vb) (k0_pay30 v0 w kb qs T.1) (k0_pay31 v0 w kb qs T.1) T.2.2)

/-- The running arrays before the first tile. -/
def st0 : St := (k0_pay22, k0_pay23, k0_pay24)

/-- The running arrays before trip `n` of the loop of grid point `i`. -/
def loopV (i : grid0.Coords) (x1 : Vec Ideal S1x128x8192 .bf16) (x2 : Vec Ideal S1x8192x128 .bf16)
    (qs : Vec Ideal S1024x128 .bf16) : ℕ → St
  | 0 => st0
  | n + 1 => if h : n < (k0_t1_loop i).trips then
      stepV (View.ld x1 (Rect.unit (k0_off1 i ⟨n, h⟩) S1x128x512.size (k0_off1_inb i ⟨n, h⟩)))
        (View.ld x2 (Rect.unit (k0_off2 i ⟨n, h⟩) S1x512x128.size (k0_off2_inb i ⟨n, h⟩))) qs (loopV i x1 x2 qs n)
    else loopV i x1 x2 qs n

variable (c : Dev nD) (i : grid0.Coords)
  (arg3 : Memref sig .tc .vmem S1x256x128 .bf16) (harg3 : arg3.IsWhole)
  (arg4 : Memref sig .tc .vmem S1x128x8192 .bf16) (harg4 : arg4.IsWhole)
  (arg5 : Memref sig .tc .vmem S1x8192x128 .bf16) (harg5 : arg5.IsWhole)
  (arg6 : Memref sig .tc .vmem S4x32 .f32) (harg6 : arg6.IsWhole)
  (arg7 : Memref sig .tc .vmem S128x128 .f32) (harg7 : arg7.IsWhole)
  (arg8 : Memref sig .tc .vmem S1x256x128 .bf16) (harg8 : arg8.IsWhole)
  (arg9 : Memref sig .tc .vmem S1024x128 .bf16) (harg9 : arg9.IsWhole)
  (arg10 : Memref sig .tc .vmem S1024x1 .f32) (harg10 : arg10.IsWhole)
  (arg11 : Memref sig .tc .vmem S1024x1 .f32) (harg11 : arg11.IsWhole)
  (arg12 : Memref sig .tc .vmem S1024x128 .f32) (harg12 : arg12.IsWhole)

/-- What one trip stores over the three running arrays, from what it reads. -/
theorem trip_eq (v0 w a0 a1 : BitVec 32)
    (x1 : Vec Ideal S1x128x8192 .bf16) (x2 : Vec Ideal S1x8192x128 .bf16)
    (X9 : BufTy.Contents (Elt Ideal) arg9.view.ty) (k : Fin (k0_t1_loop i).trips)
    (f10 : BufTy.Contents (Elt Ideal) arg10.view.ty) (f11 : BufTy.Contents (Elt Ideal) arg11.view.ty)
    (f12 : BufTy.Contents (Elt Ideal) arg12.view.ty) :
    tripL_k0_t1 (F := Ideal) Variants.none c none i arg3 harg3 arg4 harg4 arg5 harg5 arg6 harg6 arg7 harg7 arg8 harg8 arg9 harg9 arg10 harg10 arg11 harg11 arg12 harg12 v0 w a0 a1 (harg4.unread x1) (harg5.unread x2) X9 k f10 f11 f12
      = (let T := stepV (View.ld x1 (Rect.unit (k0_off1 i k) S1x128x512.size (k0_off1_inb i k)))
            (View.ld x2 (Rect.unit (k0_off2 i k) S1x512x128.size (k0_off2_inb i k))) (arg9.view.read (Elt Ideal) X9)
            (arg10.view.read (Elt Ideal) f10, arg11.view.read (Elt Ideal) f11, arg12.view.read (Elt Ideal) f12)
         ([⟨Rect.unit (s := S1024x1) ![0, 0] S1024x1.size inb_S1024x1_S1024x1_0_0, T.1⟩],
          [⟨Rect.unit (s := S1024x1) ![0, 0] S1024x1.size inb_S1024x1_S1024x1_0_0, T.2.1⟩],
          [⟨Rect.unit (s := S1024x128) ![0, 0] S1024x128.size inb_S1024x128_S1024x128_0_0, T.2.2⟩])) := by
  rw [← View.readAt_full arg9.view X9 inb_S1024x128_S1024x128_0_0, ← View.readAt_full arg10.view f10 inb_S1024x1_S1024x1_0_0,
    ← View.readAt_full arg11.view f11 inb_S1024x1_S1024x1_0_0, ← View.readAt_full arg12.view f12 inb_S1024x128_S1024x128_0_0]
  have h4 : arg4.view.readAt (Elt Ideal) (Rect.unit (s := S1x128x8192) (k0_off1 i k) S1x128x512.size (k0_off1_inb i k)).toLoadRect (harg4.unread x1)
      = fun x => x1 (LoadRect.idx _ x) := funext fun x => harg4.readAt_unread x1 _ x
  have h5 : arg5.view.readAt (Elt Ideal) (Rect.unit (s := S1x8192x128) (k0_off2 i k) S1x512x128.size (k0_off2_inb i k)).toLoadRect (harg5.unread x2)
      = fun x => x2 (LoadRect.idx _ x) := funext fun x => harg5.readAt_unread x2 _ x
  unfold View.ld
  rw [← h4, ← h5]
  unfold tripL_k0_t1 trip_k0_t1
  rfl

/-- The running arrays after the first `n` trips, read off the pieces that the trips stored. -/
theorem pb_eq (v0 w a0 a1 : BitVec 32)
    (x1 : Vec Ideal S1x128x8192 .bf16) (x2 : Vec Ideal S1x8192x128 .bf16)
    (X9 : BufTy.Contents (Elt Ideal) arg9.view.ty)
    (G10 : BufTy.Contents (Elt Ideal) arg10.view.ty) (G11 : BufTy.Contents (Elt Ideal) arg11.view.ty)
    (G12 : BufTy.Contents (Elt Ideal) arg12.view.ty)
    (h10 : arg10.view.read (Elt Ideal) G10 = st0.1) (h11 : arg11.view.read (Elt Ideal) G11 = st0.2.1)
    (h12 : arg12.view.read (Elt Ideal) G12 = st0.2.2) (n : ℕ) (hn : n ≤ (k0_t1_loop i).trips) :
    (let L := pb_k0_t1 (F := Ideal) Variants.none c none i arg3 harg3 arg4 harg4 arg5 harg5 arg6 harg6 arg7 harg7 arg8 harg8 arg9 harg9 arg10 harg10 arg11 harg11 arg12 harg12 v0 w a0 a1 (harg4.unread x1) (harg5.unread x2) X9 G10 G11 G12 n
     (arg10.view.read (Elt Ideal) (arg10.view.writes (Elt Ideal) G10 L.1),
      arg11.view.read (Elt Ideal) (arg11.view.writes (Elt Ideal) G11 L.2.1),
      arg12.view.read (Elt Ideal) (arg12.view.writes (Elt Ideal) G12 L.2.2)))
      = loopV i x1 x2 (arg9.view.read (Elt Ideal) X9) n := by
  induction n with
  | zero =>
    show (arg10.view.read (Elt Ideal) G10, arg11.view.read (Elt Ideal) G11, arg12.view.read (Elt Ideal) G12) = st0
    rw [h10, h11, h12]
  | succ n ih =>
    have hlt : n < (k0_t1_loop i).trips := hn
    have ih := ih hlt.le
    rw [loopV, dif_pos hlt, ← ih]
    rw [pb_k0_t1_succ (F := Ideal) Variants.none c none i arg3 harg3 arg4 harg4 arg5 harg5 arg6 harg6 arg7 harg7 arg8 harg8 arg9 harg9 arg10 harg10 arg11 harg11 arg12 harg12 v0 w a0 a1 (harg4.unread x1) (harg5.unread x2) X9 G10 G11 G12 ⟨n, hlt⟩]
    rw [trip_eq]
    dsimp only [List.singleton_append, List.cons_append, List.nil_append]
    rw [View.read_writes_full, View.read_writes_full, View.read_writes_full]

/-- The second loop, of the steps that the first one's unrolling leaves over, makes no trip. -/
theorem trips2 : (k0_t2_loop i).trips = 0 := Scf.rem_trips _ _

/-- The fourth group's masked queries. -/
def q4 (x0 : Vec Ideal S1x256x128 .bf16) : FVec Ideal S256x128 .bf16 :=
  k0_pay21 (k0_pay14 x0) kernelRun0_A.sl.v3 k0_pay15 k0_pay19 k0_pay20

/-- The queries of the grid point's four groups of lanes, one group's rows below the other's, each with the other groups'
    lanes zero. -/
def qsV (x0 : Vec Ideal S1x256x128 .bf16) : Vec Ideal S1024x128 .bf16 := fun y =>
  let z : S256x128.Idx := ix2 ⟨(y 0).val % 256, Nat.mod_lt _ (by decide)⟩ (y 1)
  if (y 0).val < 256 then k0_pay16 x0 z else if (y 0).val < 512 then k0_pay17 x0 z
  else if (y 0).val < 768 then k0_pay18 x0 z else q4 x0 z

/-- The four stores of the masked queries, read back. -/
theorem qs_eq (x0 : Vec Ideal S1x256x128 .bf16) (f : BufTy.Contents (Elt Ideal) arg9.view.ty) :
    arg9.view.read (Elt Ideal) (arg9.view.writes (Elt Ideal) f
      [⟨Rect.unit (s := S1024x128) ![768, 0] S256x128.size inb_S1024x128_S256x128_768_0, q4 x0⟩,
       ⟨Rect.unit (s := S1024x128) ![512, 0] S256x128.size inb_S1024x128_S256x128_512_0, k0_pay18 x0⟩,
       ⟨Rect.unit (s := S1024x128) ![256, 0] S256x128.size inb_S1024x128_S256x128_256_0, k0_pay17 x0⟩,
       ⟨Rect.unit (s := S1024x128) ![0, 0] S256x128.size inb_S1024x128_S256x128_0_0, k0_pay16 x0⟩]) = qsV x0 := by
  funext y
  have h1 : (y 0).val < 1024 := (y 0).isLt
  have pt : ∀ o : ℕ, o ≤ (y 0).val → (y 0).val < o + 256 → 256 ∣ o → (y 0).val = o + (y 0).val % 256 := by omega
  unfold qsV
  dsimp only
  by_cases h : (y 0).val < 768
  · rw [View.read_writes_cons_unit_of_not_mem arg9.view f inb_S1024x128_S256x128_768_0 _ _ y rfl 0 (Or.inl h)]
    by_cases h : (y 0).val < 512
    · rw [View.read_writes_cons_unit_of_not_mem arg9.view f inb_S1024x128_S256x128_512_0 _ _ y rfl 0 (Or.inl h)]
      by_cases h : (y 0).val < 256
      · rw [View.read_writes_cons_unit_of_not_mem arg9.view f inb_S1024x128_S256x128_256_0 _ _ y rfl 0 (Or.inl h), if_pos h]
        exact View.read_writes_cons_unit_of_mem arg9.view f inb_S1024x128_S256x128_0_0 _ _ y _ rfl
          (Fin.forall_fin_two.mpr ⟨pt 0 (by omega) (by omega) (by omega), (Nat.zero_add _).symm⟩)
      · rw [if_neg h, if_pos (by omega)]
        exact View.read_writes_cons_unit_of_mem arg9.view f inb_S1024x128_S256x128_256_0 _ _ y _ rfl
          (Fin.forall_fin_two.mpr ⟨pt 256 (by omega) (by omega) (by omega), (Nat.zero_add _).symm⟩)
    · rw [if_neg (by omega), if_neg h, if_pos (by omega)]
      exact View.read_writes_cons_unit_of_mem arg9.view f inb_S1024x128_S256x128_512_0 _ _ y _ rfl
        (Fin.forall_fin_two.mpr ⟨pt 512 (by omega) (by omega) (by omega), (Nat.zero_add _).symm⟩)
  · rw [if_neg (by omega), if_neg (by omega), if_neg h]
    exact View.read_writes_cons_unit_of_mem arg9.view f inb_S1024x128_S256x128_768_0 _ _ y _ rfl
      (Fin.forall_fin_two.mpr ⟨pt 768 (by omega) (by omega) (by omega), (Nat.zero_add _).symm⟩)

/-- The running arrays after the loop of grid point `i` and after the last tile's step. -/
def final (x0 : Vec Ideal S1x256x128 .bf16) (x1 : Vec Ideal S1x128x8192 .bf16) (x2 : Vec Ideal S1x8192x128 .bf16) : St :=
  stepD (kernelRun0_A.sl.v0 i) (kernelRun0_A.sl.v69 i)
    (View.ld x1 (Rect.unit (k0_off5 i) S1x128x512.size (k0_off5_inb i)))
    (View.ld x2 (Rect.unit (k0_off6 i) S1x512x128.size (k0_off6_inb i))) (qsV x0)
    (loopV i x1 x2 (qsV x0) (k0_t1_loop i).trips)

/-- The block that the body stores, from the weighted values and the row sums. -/
theorem out_eq (x0 : Vec Ideal S1x256x128 .bf16) (x1 : Vec Ideal S1x128x8192 .bf16) (x2 : Vec Ideal S1x8192x128 .bf16)
    (x3 : Vec Ideal S4x32 .f32) (x4 : Vec Ideal S128x128 .f32) :
    out0_A_5 c i arg3 harg3 arg4 harg4 arg5 harg5 arg6 harg6 arg7 harg7 arg8 harg8 arg9 harg9 arg10 harg10 arg11 harg11 arg12 harg12 x0 x1 x2 x3 x4
      = k0_pay1 (F := Ideal) (k0_pay36 (final i x0 x1 x2).2.2 (final i x0 x1 x2).2.1) (k0_pay37 kernelRun0_A.sl.v3)
          (k0_pay38 x3) kernelRun0_A.sl.cst_63 x4 := by
  have e3 : arg3.view.readAt (Elt Ideal) (Rect.unit (s := S1x256x128) ![0, 0, 0] S1x256x128.size inb_S1x256x128_S1x256x128_0_0_0).toLoadRect (harg3.unread x0) = x0 := by
    rw [View.readAt_full, harg3.read_unread]
  have e6 : arg6.view.readAt (Elt Ideal) (Rect.unit (s := S4x32) ![0, 0] S4x32.size inb_S4x32_S4x32_0_0).toLoadRect (harg6.unread x3) = x3 := by
    rw [View.readAt_full, harg6.read_unread]
  have e7 : arg7.view.readAt (Elt Ideal) (Rect.unit (s := S128x128) ![0, 0] S128x128.size inb_S128x128_S128x128_0_0).toLoadRect (harg7.unread x4) = x4 := by
    rw [View.readAt_full, harg7.read_unread]
  have h4 : arg4.view.readAt (Elt Ideal) (Rect.unit (s := S1x128x8192) (k0_off5 i) S1x128x512.size (k0_off5_inb i)).toLoadRect (harg4.unread x1)
      = View.ld x1 (Rect.unit (k0_off5 i) S1x128x512.size (k0_off5_inb i)) := funext fun x => harg4.readAt_unread x1 _ x
  have h5 : arg5.view.readAt (Elt Ideal) (Rect.unit (s := S1x8192x128) (k0_off6 i) S1x512x128.size (k0_off6_inb i)).toLoadRect (harg5.unread x2)
      = View.ld x2 (Rect.unit (k0_off6 i) S1x512x128.size (k0_off6_inb i)) := funext fun x => harg5.readAt_unread x2 _ x
  have r9 : ∀ f, arg9.view.readAt (Elt Ideal) (Rect.unit (s := S1024x128) ![0, 0] S1024x128.size inb_S1024x128_S1024x128_0_0).toLoadRect f = arg9.view.read (Elt Ideal) f :=
    fun f => View.readAt_full _ _ _
  have r10 : ∀ f, arg10.view.readAt (Elt Ideal) (Rect.unit (s := S1024x1) ![0, 0] S1024x1.size inb_S1024x1_S1024x1_0_0).toLoadRect f = arg10.view.read (Elt Ideal) f :=
    fun f => View.readAt_full _ _ _
  have r11 : ∀ f, arg11.view.readAt (Elt Ideal) (Rect.unit (s := S1024x1) ![0, 0] S1024x1.size inb_S1024x1_S1024x1_0_0).toLoadRect f = arg11.view.read (Elt Ideal) f :=
    fun f => View.readAt_full _ _ _
  have r12 : ∀ f, arg12.view.readAt (Elt Ideal) (Rect.unit (s := S1024x128) ![0, 0] S1024x128.size inb_S1024x128_S1024x128_0_0).toLoadRect f = arg12.view.read (Elt Ideal) f :=
    fun f => View.readAt_full _ _ _
  have hs : kernelRun0_A.sl.HS0_4 (F := Ideal) c arg3 harg3 x0
      = [⟨Rect.unit (s := S1024x128) ![768, 0] S256x128.size inb_S1024x128_S256x128_768_0, q4 x0⟩,
         ⟨Rect.unit (s := S1024x128) ![512, 0] S256x128.size inb_S1024x128_S256x128_512_0, k0_pay18 x0⟩,
         ⟨Rect.unit (s := S1024x128) ![256, 0] S256x128.size inb_S1024x128_S256x128_256_0, k0_pay17 x0⟩,
         ⟨Rect.unit (s := S1024x128) ![0, 0] S256x128.size inb_S1024x128_S256x128_0_0, k0_pay16 x0⟩] := by
    unfold kernelRun0_A.sl.HS0_4 kernelRun0_A.sl.r
    rw [e3]
    rfl
  have hq := qs_eq arg9 x0 arg9.view.junk
  rw [← hs] at hq
  have hz : Scf.trips (k0_t2_loop i).lb (k0_t2_loop i).ub (k0_t2_loop i).st = 0 := trips2 i
  unfold out0_A_5 kernelRun0_A
  dsimp only
  rw [View.read_writes_full]
  unfold kernelRun0_A.sl.r_6 kernelRun0_A.sl.r_7 kernelRun0_A.sl.v125 kernelRun0_A.sl.v126 kernelRun0_A.sl.HS3_1_1 kernelRun0_A.sl.HS2_1_1
  rw [View.readCov_full, View.readCov_full]
  unfold kernelRun0_A.sl.r_5 kernelRun0_A.sl.r_4 kernelRun0_A.sl.r_3 kernelRun0_A.sl.r_1
    kernelRun0_A.sl.v113 kernelRun0_A.sl.v105 kernelRun0_A.sl.v96 kernelRun0_A.sl.v83
  unfold View.readCov
  rw [hz]
  simp only [pb_k0_t2.eq_1, List.nil_append, r9, r10, r11, r12, e6, e7, hq, h4, h5, View.writes_append]
  have P := pb_eq c i arg3 harg3 arg4 harg4 arg5 harg5 arg6 harg6 arg7 harg7 arg8 harg8 arg9 harg9 arg10 harg10 arg11 harg11 arg12 harg12 (kernelRun0_A.sl.v0 i) (kernelRun0_A.sl.v69 i) 0#32 (kernelRun0_A.sl.v70 i) x1 x2
    (arg9.view.writes (Elt Ideal) arg9.view.junk (kernelRun0_A.sl.HS0_4 c arg3 harg3 x0))
    (arg10.view.writes (Elt Ideal) arg10.view.junk kernelRun0_A.sl.HS1_1)
    (arg11.view.writes (Elt Ideal) arg11.view.junk kernelRun0_A.sl.HS2_1)
    (arg12.view.writes (Elt Ideal) arg12.view.junk kernelRun0_A.sl.HS3_1)
    (View.read_writes_full _ _ _ _ _) (View.read_writes_full _ _ _ _ _) (View.read_writes_full _ _ _ _ _)
    (k0_t1_loop i).trips le_rfl
  rw [hq] at P
  have P1 := congrArg (fun T : St => T.1) P
  have P2 := congrArg (fun T : St => T.2.1) P
  have P3 := congrArg (fun T : St => T.2.2) P
  dsimp only at P1 P2 P3
  unfold final stepD
  dsimp only
  rw [← P1, ← P2, ← P3]

end Cert.DiffIdeal.Body

end
-- ==== Proof.DiffStep.lean ====
/-
  The values that the differential attention kernel's body computes, entry by entry: the scores of a key tile, the row
  maxima, the rescaled sums, the masked queries, the differential weight and the block stored.
-/
module

public import proofs.«01_k».proof.Proof.DiffRun
public import proofs.«01_k».proof.Proof.Online
public import Idealize.ShloMosaic.Lib.WordCmp

@[expose] public section

set_option maxRecDepth 16384

noncomputable section

namespace Cert.DiffIdeal.Body

open Cert.DiffIdeal Cert.DiffIdeal.Gen Idealize.ShloMosaic Online

variable (kb : Vec Ideal S1x128x512 .bf16) (vb : Vec Ideal S1x512x128 .bf16) (qs : Vec Ideal S1024x128 .bf16)
  (m l : Vec Ideal S1024x1 .f32) (acc : Vec Ideal S1024x128 .f32) (v0 w : BitVec 32)

/-- An unmasked score: the query against the key. -/
theorem pay2_apply (r : Fin 1024) (x : Fin 512) :
    k0_pay2 kb qs (ix2 r x) = ∑ j : Fin 128, qs (ix2 r j) * kb (ix3 0 j x) := by
  pointwise [k0_pay2]

theorem pay3_apply (r : Fin 1024) : k0_pay3 kb qs m (ix2 r 0)
    = max (m (ix2 r 0)) (Finset.univ.sup fun x : Fin 512 => k0_pay2 kb qs (ix2 r x)) := by
  rw [← fold_eq]
  pointwise [k0_pay3]

theorem pay4_apply (r : Fin 1024) : k0_pay4 kb qs m (ix2 r 0) = Ideal.exp (m (ix2 r 0) - k0_pay3 kb qs m (ix2 r 0)) := by
  pointwise [k0_pay4]

theorem pay5_apply (r : Fin 1024) (x : Fin 512) : k0_pay5 kb qs m (ix2 r x)
    = Ideal.exp (k0_pay2 kb qs (ix2 r x) - k0_pay3 kb qs m (ix2 r 0)) := by
  pointwise [k0_pay5]

theorem pay6_apply (r : Fin 1024) : k0_pay6 kb qs m l (ix2 r 0)
    = k0_pay4 kb qs m (ix2 r 0) * l (ix2 r 0) + ∑ x : Fin 512, k0_pay5 kb qs m (ix2 r x) := by
  pointwise [k0_pay6]

theorem pay7_apply (r : Fin 1024) (d : Fin 128) : k0_pay7 kb vb qs m acc (ix2 r d)
    = k0_pay4 kb qs m (ix2 r 0) * acc (ix2 r d) + ∑ x : Fin 512, k0_pay5 kb qs m (ix2 r x) * vb (ix3 0 x d) := by
  pointwise [k0_pay7]

theorem pay25_apply (m : FVec Ideal S1024x1 .f32) (r : Fin 1024) : k0_pay25 m (ix2 r 0) = m (ix2 r 0) := by
  pointwise [k0_pay25]

/-- The position of a row's query in its block, as the kernel computes it. -/
theorem row_word : ∀ r : Fin 1024, IntOp.andi (BitVec.ofNat 32 r.val) 255#32 = BitVec.ofNat 32 (r.val % 256) := by decide +kernel

/-- A masked score: the keys after the query count as minus infinity. -/
theorem pay28_apply (q : Fin 32) (hw : Scalar.muli w 512#32 = BitVec.ofNat 32 (512 * (q.val / 2))) (r : Fin 1024) (x : Fin 512) :
    k0_pay28 (BitVec.ofNat 32 (256 * q.val)) w kb qs (ix2 r x)
      = if 512 * (q.val / 2) + x.val ≤ 256 * q.val + r.val % 256 then k0_pay2 kb qs (ix2 r x) else ⊥ := by
  rw [pay2_apply]
  unfold k0_pay28
  rw [hw]
  pointwise
  rw [row_word, WordCmp.addi_ofNat, WordCmp.addi_ofNat, WordCmp.cmpi_sle_ofNat (by omega) (by omega), WordCmp.select_decide]
  rfl

theorem pay29_apply (r : Fin 1024) : k0_pay29 v0 w kb qs m (ix2 r 0)
    = max (m (ix2 r 0)) (Finset.univ.sup fun x : Fin 512 => k0_pay28 v0 w kb qs (ix2 r x)) := by
  rw [← fold_eq]
  pointwise [k0_pay29]

theorem pay30_apply (r : Fin 1024) : k0_pay30 v0 w kb qs m (ix2 r 0) = Ideal.exp (m (ix2 r 0) - k0_pay29 v0 w kb qs m (ix2 r 0)) := by
  pointwise [k0_pay30]

theorem pay31_apply (r : Fin 1024) (x : Fin 512) : k0_pay31 v0 w kb qs m (ix2 r x)
    = Ideal.exp (k0_pay28 v0 w kb qs (ix2 r x) - k0_pay29 v0 w kb qs m (ix2 r 0)) := by
  pointwise [k0_pay31]

theorem pay32_apply (r : Fin 1024) : k0_pay33 (k0_pay32 v0 w kb qs m l) (ix2 r 0)
    = k0_pay30 v0 w kb qs m (ix2 r 0) * l (ix2 r 0) + ∑ x : Fin 512, k0_pay31 v0 w kb qs m (ix2 r x) := by
  pointwise [k0_pay33, k0_pay32]

theorem pay34_apply (a : FVec Ideal S1024x1 .f32) (p : FVec Ideal S1024x512 .f32) (r : Fin 1024) (d : Fin 128) :
    k0_pay34 (k0_pay27 vb) a p acc (ix2 r d) = a (ix2 r 0) * acc (ix2 r d) + ∑ x : Fin 512, p (ix2 r x) * vb (ix3 0 x d) := by
  pointwise [k0_pay34, k0_pay27]

theorem pay35_apply (m : FVec Ideal S1024x1 .f32) (r : Fin 1024) : k0_pay35 m (ix2 r 0) = m (ix2 r 0) := by
  pointwise [k0_pay35]

theorem pay22_apply (r : Fin 1024) : (k0_pay22 : FVec Ideal S1024x1 .f32) (ix2 r 0) = ⊥ := by
  pointwise [k0_pay22]
  rfl

theorem pay23_apply (r : Fin 1024) : (k0_pay23 : FVec Ideal S1024x1 .f32) (ix2 r 0) = 0 := by
  pointwise [k0_pay23]

theorem pay24_apply (r : Fin 1024) (d : Fin 128) : (k0_pay24 : FVec Ideal S1024x128 .f32) (ix2 r d) = 0 := by
  pointwise [k0_pay24]

/-- A row's weighted values over its sum. -/
theorem pay36_apply (r : Fin 1024) (d : Fin 128) : k0_pay36 acc l (ix2 r d) = Ideal.div (acc (ix2 r d)) (max (l (ix2 r 0)) Online.floor) := by
  pointwise [k0_pay36]

/-- The differential weight before its constant is added. -/
theorem pay38_apply (lp : Vec Ideal S4x32 .f32) : k0_pay38 lp (ix2 0 0)
    = Ideal.exp (∑ j : Fin 32, lp (ix2 0 j) * lp (ix2 1 j)) - Ideal.exp (∑ j : Fin 32, lp (ix2 2 j) * lp (ix2 3 j)) := by
  pointwise [k0_pay38]

/-- The two rows' difference in lane j: the first head's lanes are the first 64. -/
def diff (o : FVec Ideal S1024x128 .f32) (lam : EReal) (y : Fin 256) (j : Fin 128) : EReal :=
  if j.val < 64 then o (ix2 ⟨y.val, by omega⟩ j) - lam * o (ix2 ⟨256 + y.val, by omega⟩ j)
  else o (ix2 ⟨512 + y.val, by omega⟩ j) - lam * o (ix2 ⟨768 + y.val, by omega⟩ j)

/-- The block stored: the difference over its root mean square, the squares weighted by the matrix g. -/
theorem pay1_apply (o : FVec Ideal S1024x128 .f32) (lam : FVec Ideal S1x1 .f32) (cst : EReal) (g : Vec Ideal S128x128 .f32)
    (y : Fin 256) (d : Fin 128) : k0_pay1 o (k0_pay37 kernelRun0_A.sl.v3) lam cst g (ix3 0 y d)
      = diff o (lam (ix2 0 0) + cst) y d
          * Ideal.rsqrt (∑ j : Fin 128, diff o (lam (ix2 0 0) + cst) y j * diff o (lam (ix2 0 0) + cst) y j * g (ix2 j d)
              + Ideal.ofBits .f32 0x358637BD#32) * Ideal.ofBits .f32 0x3F4CCCCD#32 := by
  have h : ∀ d : Fin 128, IntOp.cmpi CmpIPredicate.slt (BitVec.ofNat 32 d.val) 64#32 = BitVec.ofBool (decide (d.val < 64)) := by decide +kernel
  unfold kernelRun0_A.sl.v3
  pointwise [k0_pay1, k0_pay37]
  simp only [h, WordCmp.select_decide]
  rfl

/-- The masked queries, one group's rows below the other's. -/
theorem pay16_apply (x0 : Vec Ideal S1x256x128 .bf16) (y : Fin 256) (d : Fin 128) :
    k0_pay16 x0 (ix2 y d) = if d.val / 32 = 0 then x0 (ix3 0 y d) else 0 := by
  pointwise [k0_pay16, k0_pay14, k0_pay15]
  have h : ∀ d : Fin 128, IntOp.andi (IntOp.cmpi CmpIPredicate.sge (BitVec.ofNat 32 d.val) 0#32)
      (IntOp.cmpi CmpIPredicate.slt (BitVec.ofNat 32 d.val) 32#32) = BitVec.ofBool (decide (d.val / 32 = 0)) := by decide +kernel
  rw [h, WordCmp.select_decide]

theorem pay17_apply (x0 : Vec Ideal S1x256x128 .bf16) (y : Fin 256) (d : Fin 128) :
    k0_pay17 x0 (ix2 y d) = if d.val / 32 = 1 then x0 (ix3 0 y d) else 0 := by
  pointwise [k0_pay17, k0_pay14, k0_pay15]
  have h : ∀ d : Fin 128, IntOp.andi (IntOp.cmpi CmpIPredicate.sge (BitVec.ofNat 32 d.val) 32#32)
      (IntOp.cmpi CmpIPredicate.slt (BitVec.ofNat 32 d.val) 64#32) = BitVec.ofBool (decide (d.val / 32 = 1)) := by decide +kernel
  rw [h, WordCmp.select_decide]

theorem pay18_apply (x0 : Vec Ideal S1x256x128 .bf16) (y : Fin 256) (d : Fin 128) :
    k0_pay18 x0 (ix2 y d) = if d.val / 32 = 2 then x0 (ix3 0 y d) else 0 := by
  pointwise [k0_pay18, k0_pay14, k0_pay15]
  have h : ∀ d : Fin 128, IntOp.andi (IntOp.cmpi CmpIPredicate.sge (BitVec.ofNat 32 d.val) 64#32)
      (IntOp.cmpi CmpIPredicate.slt (BitVec.ofNat 32 d.val) 96#32) = BitVec.ofBool (decide (d.val / 32 = 2)) := by decide +kernel
  rw [h, WordCmp.select_decide]

theorem pay21_apply (x0 : Vec Ideal S1x256x128 .bf16) (y : Fin 256) (d : Fin 128) :
    q4 x0 (ix2 y d) = if d.val / 32 = 3 then x0 (ix3 0 y d) else 0 := by
  unfold q4 kernelRun0_A.sl.v3
  pointwise [k0_pay21, k0_pay14, k0_pay15, k0_pay19, k0_pay20]
  have h : ∀ d : Fin 128, IntOp.andi (IntOp.cmpi CmpIPredicate.sge (BitVec.ofNat 32 d.val) 96#32)
      (IntOp.cmpi CmpIPredicate.slt (BitVec.ofNat 32 d.val) 128#32) = BitVec.ofBool (decide (d.val / 32 = 3)) := by decide +kernel
  rw [h, WordCmp.select_decide]

/-- The stacked queries: row group g keeps the lanes of group g. -/
theorem qsV_apply (x0 : Vec Ideal S1x256x128 .bf16) (r : Fin 1024) (d : Fin 128) :
    qsV x0 (ix2 r d) = if d.val / 32 = r.val / 256 then x0 (ix3 0 ⟨r.val % 256, by omega⟩ d) else 0 := by
  unfold qsV
  show (if r.val < 256 then k0_pay16 x0 (ix2 ⟨r.val % 256, _⟩ d) else if r.val < 512 then k0_pay17 x0 (ix2 ⟨r.val % 256, _⟩ d)
    else if r.val < 768 then k0_pay18 x0 (ix2 ⟨r.val % 256, _⟩ d) else q4 x0 (ix2 ⟨r.val % 256, _⟩ d)) = _
  rw [pay16_apply, pay17_apply, pay18_apply, pay21_apply]
  by_cases h1 : r.val < 256
  · rw [if_pos h1, show r.val / 256 = 0 by omega]
  by_cases h2 : r.val < 512
  · rw [if_neg h1, if_pos h2, show r.val / 256 = 1 by omega]
  by_cases h3 : r.val < 768
  · rw [if_neg h1, if_neg h2, if_pos h3, show r.val / 256 = 2 by omega]
  · rw [if_neg h1, if_neg h2, if_neg h3, show r.val / 256 = 3 by omega]

end Cert.DiffIdeal.Body

end
-- ==== Proof.DiffGrid.lean ====
/-
  The integer side of the differential attention kernel's grid point t = (batch, head pair, query block): how many key tiles lie before
  the last one, and where each tile is read (`facts`).
-/
module

public import proofs.«01_k».proof.Proof.DiffRun

@[expose] public section

set_option maxRecDepth 16384

noncomputable section

namespace Cert.DiffIdeal.Body

open Cert.DiffIdeal Cert.DiffIdeal.Gen Idealize.ShloMosaic

/-- The tiles before the last one are half the query block's number. -/
theorem trips1 : ∀ t : Fin grid0.N, (k0_t1_loop (grid0.coords t)).trips = ((grid0.coords t) 2).val / 2 := by decide +kernel

/-- The words that the mask compares are the first query's and the last tile's first key's positions. -/
theorem words : ∀ t : Fin grid0.N, kernelRun0_A.sl.v0 (grid0.coords t) = BitVec.ofNat 32 (256 * ((grid0.coords t) 2).val)
    ∧ Scalar.muli (kernelRun0_A.sl.v69 (grid0.coords t)) 512#32 = BitVec.ofNat 32 (512 * (((grid0.coords t) 2).val / 2)) := by decide +kernel

/-- Where the tiles of the loop's trip k are read. -/
theorem offs : ∀ t : Fin grid0.N, ∀ k : Fin (k0_t1_loop (grid0.coords t)).trips,
    k0_off1 (grid0.coords t) k = ![0, 0, 512 * k.val] ∧ k0_off2 (grid0.coords t) k = ![0, 512 * k.val, 0] := by decide +kernel

/-- Where the last tile is read. -/
theorem offsD : ∀ t : Fin grid0.N, k0_off5 (grid0.coords t) = ![0, 0, 512 * (((grid0.coords t) 2).val / 2)]
    ∧ k0_off6 (grid0.coords t) = ![0, 512 * (((grid0.coords t) 2).val / 2), 0] := by decide +kernel

end Cert.DiffIdeal.Body

end
-- ==== Proof.DiffMath.lean ====
/-
  The difference of two softmaxes that weight the same values: with finite values and a finite factor, weighting the
  values by the difference of the weights is taking the difference of the weighted sums (`diff_row`). And sums over one
  group of lanes (`group_sum`).
-/
module

public import proofs.«01_k».proof.Proof.Online
public import Mathlib.Algebra.BigOperators.Fin
public import Mathlib.Logic.Equiv.Fin.Basic

@[expose] public section

noncomputable section

namespace Cert.Online

open Idealize.ShloMosaic

/-- A nonnegative value below infinity is a real number. -/
theorem real_of_nonneg {x : EReal} (h0 : 0 ≤ x) (ht : x ≠ ⊤) : ∃ r : ℝ, x = (r : EReal) := by
  induction x with
  | bot => exact absurd h0 (by simp)
  | top => exact absurd rfl ht
  | coe r => exact ⟨r, rfl⟩

/-- A sum of real numbers. -/
theorem sum_coe {ι : Type} (S : Finset ι) (f : ι → ℝ) : ∑ k ∈ S, ((f k : ℝ) : EReal) = ((∑ k ∈ S, f k : ℝ) : EReal) := by
  classical
  induction S using Finset.induction_on with
  | empty => simp
  | insert x S hx ih => rw [Finset.sum_insert hx, Finset.sum_insert hx, ih, EReal.coe_add]

/-- The weight of score `k` in a row's softmax, the row's maximum guarded. -/
def weight (K : ℕ) (s : Fin K → EReal) (k : Fin K) : EReal :=
  Ideal.div (Ideal.exp (s k - guard (Finset.univ.sup s))) (max (∑ k, Ideal.exp (s k - guard (Finset.univ.sup s))) floor)

variable {K : ℕ}

/-- A row's softmax is its weights' sum of the values. -/
theorem row_weight (s v : Fin K → EReal) : row K s v = ∑ k, weight K s k * v k := (guard_row s v).symm

/-- A weight is a real number, whatever the scores are. -/
theorem weight_real (s : Fin K → EReal) (k : Fin K) : ∃ r : ℝ, weight K s k = (r : EReal) := by
  have e : weight K s k = row K s fun x => if x = k then 1 else 0 := by
    rw [row_weight]
    simp
  rw [e]
  unfold row
  simp only [mul_ite, mul_one, mul_zero, Finset.sum_ite_eq', Finset.mem_univ, if_true]
  have hd : 0 < max (∑ k, Ideal.exp (s k - Finset.univ.sup s)) floor := lt_max_of_lt_right floor_pos
  have hle : s k ≤ Finset.univ.sup s := Finset.le_sup (Finset.mem_univ k)
  have he : Ideal.exp (s k - Finset.univ.sup s) ≠ ⊤ := by
    by_cases h : s k = ⊤
    · rw [show Finset.univ.sup s = ⊤ from top_le_iff.mp (h ▸ hle), exp_sub_top]; exact EReal.zero_ne_top
    · exact exp_ne_top (sub_ne_top h hle)
  obtain ⟨a, ha⟩ := real_of_nonneg (exp_nonneg _) he
  obtain ⟨b, hb⟩ := real_of_nonneg (EReal.inv_nonneg_of_nonneg hd.le) (inv_ne_top hd)
  exact ⟨a * b, by rw [div_eq hd, ha, hb, EReal.coe_mul]⟩

/-- Two rows' softmaxes of the same finite values, one less a finite multiple of the other. -/
theorem diff_row (s t v : Fin K → EReal) (lam : EReal) (hl : ∃ r : ℝ, lam = (r : EReal)) (hv : ∀ k, ∃ r : ℝ, v k = (r : EReal)) :
    ∑ k, v k * (weight K s k - lam * weight K t k) = row K s v - lam * row K t v := by
  obtain ⟨l, rfl⟩ := hl
  choose w hw using hv
  choose a ha using weight_real s
  choose b hb using weight_real t
  rw [row_weight, row_weight]
  simp only [hw, ha, hb, ← EReal.coe_mul, ← EReal.coe_sub, sum_coe]
  congr 1
  rw [Finset.mul_sum, ← Finset.sum_sub_distrib]
  exact Finset.sum_congr rfl fun k _ => by ring

/-- A sum over lanes of which only group `g`'s, of `w` lanes, count. -/
theorem group_sum {N n w : ℕ} (hN : N = n * w) (hw : 0 < w) (f : Fin N → EReal) (g : Fin n) :
    (∑ j : Fin N, if j.val / w = g.val then f j else 0)
      = ∑ j : Fin w, f ⟨g.val * w + j.val, by
          have h1 := g.isLt; have h2 := j.isLt; have h3 : (g.val + 1) * w ≤ n * w := Nat.mul_le_mul_right w h1
          rw [Nat.succ_mul] at h3; omega⟩ := by
  subst hN
  rw [← Equiv.sum_comp finProdFinEquiv, Fintype.sum_prod_type]
  have hd : ∀ (a : Fin n) (b : Fin w), (finProdFinEquiv (a, b)).val / w = a.val := fun a b => by
    show (b.val + w * a.val) / w = a.val
    rw [Nat.add_mul_div_left _ _ hw, Nat.div_eq_of_lt b.isLt, Nat.zero_add]
  rw [Finset.sum_eq_single g]
  · refine Finset.sum_congr rfl fun j _ => ?_
    rw [if_pos (hd g j)]
    refine congrArg f (Fin.ext ?_)
    show j.val + w * g.val = g.val * w + j.val
    rw [Nat.mul_comm, Nat.add_comm]
  · intro a _ ha
    refine Finset.sum_eq_zero fun j _ => if_neg ?_
    rw [hd]
    exact fun e => ha (Fin.ext e)
  · exact fun h => absurd (Finset.mem_univ g) h

/-- The pattern of 64. -/
theorem n64_eq : Ideal.ofBits .f32 0x42800000#32 = ((64 : ℝ) : EReal) := by
  simp only [Ideal.ofBits, Ideal.ieee]
  rw [show BitVec.extractLsb' 31 1 1115684864#32 = 0#1 from by decide]
  norm_num [Nat.shiftRight_eq_div_pow]

/-- A sum over 64, each term scaled instead. -/
theorem mean_eq {ι : Type} (S : Finset ι) (f : ι → EReal) :
    ∑ x ∈ S, f x * Ideal.div 1 (Ideal.ofBits .f32 0x42800000#32) = Ideal.div (∑ x ∈ S, f x) (Ideal.ofBits .f32 0x42800000#32) := by
  have h : (0 : EReal) < Ideal.ofBits .f32 0x42800000#32 := by rw [n64_eq]; exact EReal.coe_pos.mpr (by norm_num)
  rw [div_eq h, div_eq h, one_mul, mul_comm (∑ x ∈ S, f x), mul_sum _ _ (EReal.inv_nonneg_of_nonneg h.le) (inv_ne_top h)]
  exact Finset.sum_congr rfl fun x _ => mul_comm _ _

/-- The exponential of a real number is real. -/
theorem exp_real {x : EReal} (h : ∃ r : ℝ, x = (r : EReal)) : ∃ r : ℝ, Ideal.exp x = (r : EReal) := by
  obtain ⟨r, rfl⟩ := h
  exact ⟨Real.exp r, rfl⟩

/-- The differential weight of finite vectors, the constant being finite, is finite. -/
theorem lam_real {n : ℕ} (a b c d : Fin n → EReal) (e : EReal) (ha : ∀ j, ∃ r : ℝ, a j = (r : EReal)) (hb : ∀ j, ∃ r : ℝ, b j = (r : EReal))
    (hc : ∀ j, ∃ r : ℝ, c j = (r : EReal)) (hd : ∀ j, ∃ r : ℝ, d j = (r : EReal)) (he : ∃ r : ℝ, e = (r : EReal)) :
    ∃ r : ℝ, Ideal.exp (∑ j, a j * b j) - Ideal.exp (∑ j, c j * d j) + e = (r : EReal) := by
  choose a' ha using ha
  choose b' hb using hb
  choose c' hc using hc
  choose d' hd using hd
  obtain ⟨e', rfl⟩ := he
  simp only [ha, hb, hc, hd, ← EReal.coe_mul, sum_coe]
  exact ⟨Real.exp (∑ k, a' k * b' k) - Real.exp (∑ k, c' k * d' k) + e', by rw [EReal.coe_add, EReal.coe_sub]; rfl⟩

/-- The pattern of the layer's constant is a real number. -/
theorem lam_init_real : ∃ r : ℝ, Ideal.ofBits .f32 0x3E4CCCCD#32 = (r : EReal) := by
  simp only [Ideal.ofBits, Ideal.ieee]
  rw [show BitVec.extractLsb' 31 1 1045220557#32 = 0#1 from by decide]
  norm_num [Nat.shiftRight_eq_div_pow]

end Cert.Online

end
-- ==== Proof.DiffLoop.lean ====
/-
  What the differential attention kernel's grid point stores, entry by entry: the difference of two softmaxes of whole rows
  of masked scores, each weighting the values, over its root mean square (`out_apply`). The tiles before the last one hold
  no masked key; the tiles after it hold only masked keys.
-/
module

public import proofs.«01_k».proof.Proof.DiffStep
public import proofs.«01_k».proof.Proof.DiffGrid
public import proofs.«01_k».proof.Proof.DiffMath
public import Idealize.ShloMosaic.Lib.Pipeline.ValueKit.Tiles

@[expose] public section

set_option maxRecDepth 16384

noncomputable section

namespace Cert.DiffIdeal.Body

open Cert.DiffIdeal Cert.DiffIdeal.Gen Idealize.ShloMosaic Online

/-- The three running arrays of row `r` hold the first `n` scores' maximum, sum and weighted sums. -/
def Holds (T : St) (r : Fin 1024) (S : ℕ → EReal) (V : Fin 128 → ℕ → EReal) (n : ℕ) : Prop :=
  T.1 (ix2 r 0) = rmax S n ∧ T.2.1 (ix2 r 0) = rsum S n ∧ ∀ d, T.2.2 (ix2 r d) = racc S (V d) n

theorem holds_zero (r : Fin 1024) (S : ℕ → EReal) (V : Fin 128 → ℕ → EReal) : Holds st0 r S V 0 :=
  ⟨pay22_apply r, pay23_apply r, fun d => pay24_apply r d⟩

section step

variable (kb : Vec Ideal S1x128x512 .bf16) (vb : Vec Ideal S1x512x128 .bf16)
  (qs : Vec Ideal S1024x128 .bf16) (T : St)
  (r : Fin 1024) (S : ℕ → EReal) (V : Fin 128 → ℕ → EReal) (n : ℕ)
  (hv : ∀ (x : Fin 512) (d : Fin 128), vb (ix3 0 x d) = V d (n + x.val)) (h : Holds T r S V n)

include hv h

/-- A trip of the loop takes in 512 more scores. -/
theorem holds_stepV (hs : ∀ x : Fin 512, k0_pay2 kb qs (ix2 r x) = S (n + x.val)) :
    Holds (stepV kb vb qs T) r S V (n + 512) := by
  obtain ⟨h1, h2, h3⟩ := h
  have e : k0_pay3 kb qs T.1 (ix2 r 0) = rmax S (n + 512) := by
    rw [pay3_apply, h1, ← max_step]
    simp only [hs]
  refine ⟨(pay25_apply _ r).trans e, ?_, fun d => ?_⟩
  · refine (pay6_apply _ _ _ _ r).trans ?_
    simp only [pay5_apply, pay4_apply, e, h1, h2, hs]
    exact sum_step n 512
  · refine (pay7_apply _ _ _ _ _ r d).trans ?_
    simp only [pay5_apply, pay4_apply, e, h1, h3, hs, hv]
    exact acc_step n 512

/-- So does the last tile's step. -/
theorem holds_stepD (v0 w : BitVec 32) (hs : ∀ x : Fin 512, k0_pay28 v0 w kb qs (ix2 r x) = S (n + x.val)) :
    Holds (stepD v0 w kb vb qs T) r S V (n + 512) := by
  obtain ⟨h1, h2, h3⟩ := h
  have e : k0_pay29 v0 w kb qs T.1 (ix2 r 0) = rmax S (n + 512) := by
    rw [pay29_apply, h1, ← max_step]
    simp only [hs]
  refine ⟨(pay35_apply _ r).trans e, ?_, fun d => ?_⟩
  · refine (pay32_apply _ _ _ _ _ _ r).trans ?_
    simp only [pay31_apply, pay30_apply, e, h1, h2, hs]
    exact sum_step n 512
  · refine (pay34_apply _ _ _ _ r d).trans ?_
    simp only [pay31_apply, pay30_apply, e, h1, h3, hs, hv]
    exact acc_step n 512

end step

section point

variable (t : Fin grid0.N) (x0 : Vec Ideal S1x256x128 .bf16) (x1 : Vec Ideal S1x128x8192 .bf16) (x2 : Vec Ideal S1x8192x128 .bf16)

/-- The unmasked score of row `r` against key `k`, the four groups' rows one below the other. -/
def raw (r : Fin 1024) (k : Fin 8192) : EReal := ∑ j : Fin 128, qsV x0 (ix2 r j) * x1 (ix3 0 j k)

/-- The masked score of row `r` of query block `q`. -/
def score (q : Fin 32) (r : Fin 1024) (k : Fin 8192) : EReal :=
  if k.val ≤ 256 * q.val + r.val % 256 then raw x0 x1 r k else ⊥

/-- A row of scores, continued by minus infinity. -/
def ext (b : EReal) (s : Fin 8192 → EReal) (k : ℕ) : EReal := if h : k < 8192 then s ⟨k, h⟩ else b

theorem ext_of_lt (b : EReal) (s : Fin 8192 → EReal) {k : ℕ} (h : k < 8192) : ext b s k = s ⟨k, h⟩ := dif_pos h

/-- The scores of a tile that is read at the keys from `n` on. -/
theorem tile_raw (n : ℕ) (hn : n + 512 ≤ 8192) (o1 : Fin 3 → ℕ) (b1) (h1 : o1 = ![0, 0, n]) (r : Fin 1024) (x : Fin 512) :
    k0_pay2 (View.ld x1 (Rect.unit (s := S1x128x8192) o1 S1x128x512.size b1)) (qsV x0) (ix2 r x)
      = raw x0 x1 r ⟨n + x.val, by omega⟩ := by
  subst h1
  rw [pay2_apply]
  unfold raw
  have e1 : ∀ j : Fin 128, View.ld x1 (Rect.unit (s := S1x128x8192) ![0, 0, n] S1x128x512.size b1) (ix3 0 j x) = x1 (ix3 0 j ⟨n + x.val, by omega⟩) :=
    fun j => View.ld_unit_apply_of x1 _ _ b1 _ _ fun a => by
      match a with
      | ⟨0, _⟩ => rfl
      | ⟨1, _⟩ => exact (Nat.zero_add _).symm
      | ⟨2, _⟩ => rfl
  simp only [e1]

/-- The values of a tile that is read at the keys from `n` on. -/
theorem tile_val (n : ℕ) (hn : n + 512 ≤ 8192) (o2 : Fin 3 → ℕ) (b2) (h2 : o2 = ![0, n, 0]) (x : Fin 512) (d : Fin 128) :
    View.ld x2 (Rect.unit (s := S1x8192x128) o2 S1x512x128.size b2) (ix3 0 x d) = ext 0 (fun k => x2 (ix3 0 k d)) (n + x.val) := by
  subst h2
  rw [ext_of_lt _ _ (show n + x.val < 8192 by omega)]
  exact View.ld_unit_apply_of x2 _ _ b2 _ _ fun a => by
      match a with
      | ⟨0, _⟩ => rfl
      | ⟨1, _⟩ => rfl
      | ⟨2, _⟩ => exact (Nat.zero_add _).symm

/-- The head pair of a grid point. -/
abbrev hpt : Fin 2 := (grid0.coords t) 1
/-- The query block of a grid point. -/
abbrev qt : Fin 32 := (grid0.coords t) 2

variable (r : Fin 1024)

/-- The loop's trips take in the keys before the last tile. -/
theorem holds_loop (n : ℕ) (hn : n ≤ (qt t).val / 2) :
    Holds (loopV (grid0.coords t) x1 x2 (qsV x0) n) r
      (ext ⊥ (score x0 x1 (qt t) r)) (fun d => ext 0 fun k => x2 (ix3 0 k d)) (512 * n) := by
  induction n with
  | zero => exact holds_zero _ _ _
  | succ n ih =>
    have hq : (qt t).val < 32 := (qt t).isLt
    have hlt : n < (k0_t1_loop (grid0.coords t)).trips := by rw [trips1 t]; exact hn
    obtain ⟨o1, o2⟩ := offs t ⟨n, hlt⟩
    rw [loopV, dif_pos hlt]
    refine holds_stepV _ _ _ _ r _ _ (512 * n)
      (tile_val x2 (512 * n) (by omega) _ _ o2) (ih (by omega)) fun x => ?_
    rw [tile_raw x0 x1 (512 * n) (by omega) _ _ o1, ext_of_lt _ _ (show 512 * n + x.val < 8192 by omega)]
    exact (if_pos (show 512 * n + x.val ≤ 256 * (qt t).val + r.val % 256 by omega)).symm

/-- After the last tile every key up to the query is taken in. -/
theorem holds_final :
    Holds (final (grid0.coords t) x0 x1 x2) r
      (ext ⊥ (score x0 x1 (qt t) r)) (fun d => ext 0 fun k => x2 (ix3 0 k d)) (512 * ((qt t).val / 2) + 512) := by
  have hq : (qt t).val < 32 := (qt t).isLt
  obtain ⟨w0, w1⟩ := words t
  obtain ⟨o1, o2⟩ := offsD t
  unfold final
  rw [w0, trips1 t]
  refine holds_stepD _ _ _ _ r _ _ (512 * ((qt t).val / 2))
    (tile_val x2 (512 * ((qt t).val / 2)) (by omega) _ _ o2) (holds_loop t x0 x1 x2 r _ le_rfl) _ _ fun x => ?_
  rw [pay28_apply _ _ _ (qt t) w1, tile_raw x0 x1 (512 * ((qt t).val / 2)) (by omega) _ _ o1,
    ext_of_lt _ _ (show 512 * ((qt t).val / 2) + x.val < 8192 by omega)]
  rfl

/-- The weighted values over the row sums are the softmax of the row. -/
theorem final_row (d : Fin 128) :
    k0_pay36 (F := Ideal) (final (grid0.coords t) x0 x1 x2).2.2 (final (grid0.coords t) x0 x1 x2).2.1 (ix2 r d)
      = row 8192 (score x0 x1 (qt t) r) (fun k => x2 (ix3 0 k d)) := by
  have hq : (qt t).val < 32 := (qt t).isLt
  obtain ⟨-, h2, h3⟩ := holds_final t x0 x1 x2 r
  rw [pay36_apply, h2, h3]
  exact row_eq _ _ _ _ (fun k => ext_of_lt _ _ k.isLt) (fun k => ext_of_lt _ _ k.isLt) (by omega)
    fun k hk => if_neg (show ¬ k.val ≤ 256 * (qt t).val + r.val % 256 by omega)

end point

/-- The row of head `d / 64` and component `c` among the stacked rows. -/
def drow (c : Fin 2) (y : Fin 256) (d : Fin 128) : Fin 1024 := ⟨512 * (d.val / 64) + 256 * c.val + y.val, by omega⟩

/-- The difference of the two components' softmaxes in lane d. -/
def odiff (x0 : Vec Ideal S1x256x128 .bf16) (x1 : Vec Ideal S1x128x8192 .bf16) (x2 : Vec Ideal S1x8192x128 .bf16) (lam : EReal)
    (q : Fin 32) (y : Fin 256) (d : Fin 128) : EReal :=
  row 8192 (score x0 x1 q (drow 0 y d)) (fun k => x2 (ix3 0 k d))
    - lam * row 8192 (score x0 x1 q (drow 1 y d)) (fun k => x2 (ix3 0 k d))

/-- The differential weight. -/
def lamOf (x3 : Vec Ideal S4x32 .f32) : EReal :=
  Ideal.exp (∑ j : Fin 32, x3 (ix2 0 j) * x3 (ix2 1 j)) - Ideal.exp (∑ j : Fin 32, x3 (ix2 2 j) * x3 (ix2 3 j))
    + Ideal.ofBits .f32 0x3E4CCCCD#32

/-- The difference that the kernel takes is this one. -/
theorem diff_eq (t : Fin grid0.N) (x0 : Vec Ideal S1x256x128 .bf16) (x1 : Vec Ideal S1x128x8192 .bf16) (x2 : Vec Ideal S1x8192x128 .bf16)
    (lam : EReal) (y : Fin 256) (d : Fin 128) :
    diff (k0_pay36 (F := Ideal) (final (grid0.coords t) x0 x1 x2).2.2 (final (grid0.coords t) x0 x1 x2).2.1) lam y d = odiff x0 x1 x2 lam (qt t) y d := by
  unfold diff odiff
  have e : ∀ c : Fin 2, ∀ z : Fin 1024, z.val = 512 * (d.val / 64) + 256 * c.val + y.val →
      row 8192 (score x0 x1 (qt t) z) (fun k => x2 (ix3 0 k d)) = row 8192 (score x0 x1 (qt t) (drow c y d)) (fun k => x2 (ix3 0 k d)) :=
    fun c z hz => congrArg (fun z => row 8192 (score x0 x1 (qt t) z) (fun k => x2 (ix3 0 k d))) (Fin.ext hz)
  simp only [final_row]
  split_ifs with h
  · rw [e 0 ⟨y.val, by omega⟩ (by show y.val = 512 * (d.val / 64) + 256 * 0 + y.val; omega),
      e 1 ⟨256 + y.val, by omega⟩ (by show 256 + y.val = 512 * (d.val / 64) + 256 * 1 + y.val; omega)]
  · rw [e 0 ⟨512 + y.val, by omega⟩ (by show 512 + y.val = 512 * (d.val / 64) + 256 * 0 + y.val; omega),
      e 1 ⟨768 + y.val, by omega⟩ (by show 768 + y.val = 512 * (d.val / 64) + 256 * 1 + y.val; omega)]

/-- The block that a grid point stores, entry by entry. -/
theorem out_apply (c : Dev nD) (t : Fin grid0.N)
  (arg3 : Memref sig .tc .vmem S1x256x128 .bf16) (harg3 : arg3.IsWhole) (arg4 : Memref sig .tc .vmem S1x128x8192 .bf16) (harg4 : arg4.IsWhole)
  (arg5 : Memref sig .tc .vmem S1x8192x128 .bf16) (harg5 : arg5.IsWhole) (arg6 : Memref sig .tc .vmem S4x32 .f32) (harg6 : arg6.IsWhole)
  (arg7 : Memref sig .tc .vmem S128x128 .f32) (harg7 : arg7.IsWhole) (arg8 : Memref sig .tc .vmem S1x256x128 .bf16) (harg8 : arg8.IsWhole)
  (arg9 : Memref sig .tc .vmem S1024x128 .bf16) (harg9 : arg9.IsWhole) (arg10 : Memref sig .tc .vmem S1024x1 .f32) (harg10 : arg10.IsWhole)
  (arg11 : Memref sig .tc .vmem S1024x1 .f32) (harg11 : arg11.IsWhole) (arg12 : Memref sig .tc .vmem S1024x128 .f32) (harg12 : arg12.IsWhole)
    (x0 : Vec Ideal S1x256x128 .bf16) (x1 : Vec Ideal S1x128x8192 .bf16) (x2 : Vec Ideal S1x8192x128 .bf16)
    (x3 : Vec Ideal S4x32 .f32) (x4 : Vec Ideal S128x128 .f32) (y : Fin 256) (d : Fin 128) :
    out0_A_5 c (grid0.coords t) arg3 harg3 arg4 harg4 arg5 harg5 arg6 harg6 arg7 harg7 arg8 harg8 arg9 harg9 arg10 harg10 arg11 harg11 arg12 harg12 x0 x1 x2 x3 x4 (ix3 0 y d)
      = odiff x0 x1 x2 (lamOf x3) (qt t) y d
          * Ideal.rsqrt (∑ j : Fin 128, odiff x0 x1 x2 (lamOf x3) (qt t) y j * odiff x0 x1 x2 (lamOf x3) (qt t) y j * x4 (ix2 j d)
              + Ideal.ofBits .f32 0x358637BD#32) * Ideal.ofBits .f32 0x3F4CCCCD#32 := by
  rw [out_eq, pay1_apply, pay38_apply]
  simp only [diff_eq]
  rfl

end Cert.DiffIdeal.Body

end
-- ==== Proof.DiffRef.lean ====
/-
  The reference's differential attention at an index: entry (b, p, w) of its result is the difference of two softmaxes of
  query p's masked scores, weighting lane w of the values, over its root mean square (`ref_apply`).
-/
module

public import proofs.«01_k».proof.Proof.Gen.DiffRefIdeal.Read
public import proofs.«01_k».proof.Proof.DiffMath
public import Idealize.ShloMosaic.Lib.Pointwise
public import Idealize.ShloMosaic.Lib.WordCmp

@[expose] public section

set_option maxRecDepth 16384

noncomputable section

namespace Cert.DiffRefIdeal.RefValue

open Cert.DiffRefIdeal Cert.DiffRefIdeal.Gen Cert.DiffRefIdeal.Read Idealize.ShloMosaic Online

variable (q : (⟨S16384x256, .bf16⟩ : BufTy).Contents (Elt Ideal)) (kT : (⟨S2x256x8192, .bf16⟩ : BufTy).Contents (Elt Ideal))
  (v : (⟨S16384x256, .bf16⟩ : BufTy).Contents (Elt Ideal)) (lp : (⟨S4x32, .f32⟩ : BufTy).Contents (Elt Ideal))

/-- The masked score of query `p` against key `k` in component `c` of head `h`. -/
def score (b c : Fin 2) (h : Fin 4) (p k : Fin 8192) : EReal :=
  if k.val ≤ p.val then ∑ j : Fin 32, q (ix2 ⟨b.val * 8192 + p.val, by omega⟩ ⟨h.val * 64 + c.val * 32 + j.val, by omega⟩)
    * kT (ix3 b ⟨h.val * 64 + c.val * 32 + j.val, by omega⟩ k) else ⊥

/-- The differential weight. -/
def lamOf : EReal :=
  Ideal.exp (∑ j : Fin 32, lp (ix2 0 j) * lp (ix2 1 j)) - Ideal.exp (∑ j : Fin 32, lp (ix2 2 j) * lp (ix2 3 j))
    + Ideal.ofBits .f32 0x3E4CCCCD#32

/-- Lane w of query p's difference. -/
def odiff (b : Fin 2) (p : Fin 8192) (w : Fin 256) : EReal :=
  row 8192 (score q kT b 0 ⟨w.val / 64, by omega⟩ p) (fun k => v (ix2 ⟨b.val * 8192 + k.val, by omega⟩ w))
    - lamOf lp * row 8192 (score q kT b 1 ⟨w.val / 64, by omega⟩ p) (fun k => v (ix2 ⟨b.val * 8192 + k.val, by omega⟩ w))

/-- Entry (b, p, w) of the result: the difference over the root of its head's mean square. -/
def attn (b : Fin 2) (p : Fin 8192) (w : Fin 256) : EReal :=
  odiff q kT v lp b p w
    * Ideal.rsqrt (Ideal.div (∑ j : Fin 64, odiff q kT v lp b p ⟨w.val / 64 * 64 + j.val, by omega⟩ * odiff q kT v lp b p ⟨w.val / 64 * 64 + j.val, by omega⟩)
        (Ideal.ofBits .f32 0x42800000#32) + Ideal.ofBits .f32 0x358637BD#32) * Ideal.ofBits .f32 0x3F4CCCCD#32

theorem v1_apply (b : Fin 2) (p : Fin 8192) (h : Fin 4) (c : Fin 2) (j : Fin 32) : val_main_v1 (F := Ideal) q (ix5 b p h c j)
    = q (ix2 ⟨b.val * 8192 + p.val, by omega⟩ ⟨h.val * 64 + c.val * 32 + j.val, by omega⟩) := by
  rw [val_main_v1_apply, val_main_v0_apply]
  refine congrArg q (funext fun a => Fin.ext ?_)
  match a with
  | ⟨0, _⟩ => show ((((b.val * 8192 + p.val) * 4 + h.val) * 2 + c.val) * 32 + j.val) / 256 = b.val * 8192 + p.val; omega
  | ⟨1, _⟩ => show ((((b.val * 8192 + p.val) * 4 + h.val) * 2 + c.val) * 32 + j.val) % 256 = h.val * 64 + c.val * 32 + j.val; omega

theorem v3_apply (b : Fin 2) (h : Fin 4) (c : Fin 2) (j : Fin 32) (k : Fin 8192) : val_main_v3 (F := Ideal) kT (ix5 b h c j k)
    = kT (ix3 b ⟨h.val * 64 + c.val * 32 + j.val, by omega⟩ k) := by
  rw [val_main_v3_apply, val_main_v2_apply]
  refine congrArg kT (funext fun a => Fin.ext ?_)
  match a with
  | ⟨0, _⟩ => show ((((b.val * 4 + h.val) * 2 + c.val) * 32 + j.val) * 8192 + k.val) / 2097152 = b.val; omega
  | ⟨1, _⟩ => show ((((b.val * 4 + h.val) * 2 + c.val) * 32 + j.val) * 8192 + k.val) / 8192 % 256 = h.val * 64 + c.val * 32 + j.val; omega
  | ⟨2, _⟩ => show ((((b.val * 4 + h.val) * 2 + c.val) * 32 + j.val) * 8192 + k.val) % 8192 = k.val; omega

theorem v22_apply (b c : Fin 2) (h : Fin 4) (p k : Fin 8192) : val_main_v22 (F := Ideal) q kT (ix5 b c h p k)
    = ∑ j : Fin 32, q (ix2 ⟨b.val * 8192 + p.val, by omega⟩ ⟨h.val * 64 + c.val * 32 + j.val, by omega⟩)
        * kT (ix3 b ⟨h.val * 64 + c.val * 32 + j.val, by omega⟩ k) := by
  rw [val_main_v22_apply]
  refine Finset.sum_congr rfl fun j _ => ?_
  rw [show lidx_main_v22 (ix5 b c h p k) j = ix5 b p h c j from funext fun a => by fin_cases a <;> rfl,
    show ridx_main_v22 (ix5 b c h p k) j = ix5 b h c j k from funext fun a => by fin_cases a <;> rfl, v1_apply, v3_apply]

theorem v28_apply (p k : Fin 8192) : val_main_v28 (F := Ideal) (ix2 p k) = IntOp.cmpi CmpIPredicate.sle (BitVec.ofNat 32 k.val) (BitVec.ofNat 32 p.val) := by
  pointwise [val_main_v23, val_main_v24, val_main_v25, val_main_v26, val_main_v27, val_main_v28]

/-- A masked score of the reference. -/
theorem v29_apply (b c : Fin 2) (h : Fin 4) (p k : Fin 8192) : val_main_v29 (F := Ideal) q kT (ix5 b c h p k) = score q kT b c h p k := by
  rw [val_main_v29_apply, val_main_call0_v1_apply, val_main_call0_v2_apply]
  rw [show idx_main_call0_v1 (ix5 b c h p k) = ix2 p k from funext fun a => by fin_cases a <;> rfl]
  rw [v28_apply, v22_apply, WordCmp.cmpi_sle_ofNat (by omega) (by omega), WordCmp.select_decide]
  unfold score
  exact congrArg (fun z => ite _ _ z) (show Ideal.ofBits .f32 0xFF800000#32 = ⊥ from ninf_eq)

/-- A row's maximum. -/
theorem v30_apply (b c : Fin 2) (h : Fin 4) (p : Fin 8192) : val_main_v30 (F := Ideal) q kT (ix4 b c h p)
    = Finset.univ.sup fun k => score q kT b c h p k := by
  rw [← fold_eq]
  simp only [← v29_apply]
  pointwise [val_main_v30, val_main_cst_3]

/-- The guarded maximum. -/
theorem v35_apply (b c : Fin 2) (h : Fin 4) (p : Fin 8192) (z : Fin 1) : val_main_v35 (F := Ideal) q kT (ix5 b c h p z)
    = guard (Finset.univ.sup fun k => score q kT b c h p k) := by
  rw [val_main_v35_apply, val_main_v34_apply, val_main_v32_apply, val_main_v31_apply, val_main_v33_apply]
  rw [show idx_main_v31 (ix5 b c h p z) = ix4 b c h p from funext fun a => by fin_cases a <;> rfl, v30_apply]
  generalize (Finset.univ.sup fun k => score q kT b c h p k) = m
  rw [val_main_cst_4_apply, Ideal.hostAbsf_def, Ideal.absf_def, Ideal.cmpf_def]
  show Scalar.select (Ideal.cmp .olt (max m (-m)) (Ideal.ofBits .f32 0x7F800000#32)) m (Ideal.ofBits .f32 0x00000000#32) = _
  rw [pinf_eq, Ideal.ofBits_zero]
  exact WordCmp.select_decide (p := max m (-m) < ⊤) m 0

theorem v38_apply (b c : Fin 2) (h : Fin 4) (p k : Fin 8192) : val_main_v38 (F := Ideal) q kT (ix5 b c h p k)
    = Ideal.exp (score q kT b c h p k - guard (Finset.univ.sup fun k => score q kT b c h p k)) := by
  rw [val_main_v38_apply, val_main_v37_apply, val_main_v36_apply,
    show idx_main_v36 (ix5 b c h p k) = ix5 b c h p 0 from funext fun a => by fin_cases a <;> rfl, v29_apply, v35_apply]
  rfl

theorem v39_apply (b c : Fin 2) (h : Fin 4) (p : Fin 8192) : val_main_v39 (F := Ideal) q kT (ix4 b c h p)
    = ∑ k, val_main_v38 (F := Ideal) q kT (ix5 b c h p k) := by
  rw [val_main_v39_apply, val_main_cst_6_apply]
  refine (congrArg (· + _) (Ideal.ofBits_zero .f32)).trans ((zero_add _).trans (Finset.sum_congr rfl fun k _ => ?_))
  exact congrArg (val_main_v38 (F := Ideal) q kT) (funext fun a => by fin_cases a <;> rfl)

/-- A weight of the softmax. -/
theorem v44_apply (b c : Fin 2) (h : Fin 4) (p k : Fin 8192) : val_main_v44 (F := Ideal) q kT (ix5 b c h p k)
    = weight 8192 (score q kT b c h p) k := by
  rw [val_main_v44_apply, val_main_v43_apply, val_main_v42_apply, val_main_v40_apply, val_main_v41_apply,
    show idx_main_v40 (idx_main_v43 (ix5 b c h p k)) = ix4 b c h p from funext fun a => by fin_cases a <;> rfl, val_main_cst_7_apply,
    v39_apply]
  simp only [v38_apply]
  exact Ideal.hostDivf_def _ _

/-- The first component's weights. -/
theorem v46_apply (b : Fin 2) (h : Fin 4) (p k : Fin 8192) : val_main_v46 (F := Ideal) q kT (ix4 b h p k)
    = weight 8192 (score q kT b 0 h p) k := by
  rw [val_main_v46_apply, val_main_v45_apply, ← v44_apply]
  refine congrArg (val_main_v44 (F := Ideal) q kT) (funext fun a => Fin.ext ?_)
  match a with
  | ⟨0, _⟩ => show (((b.val * 4 + h.val) * 8192 + p.val) * 8192 + k.val) / 268435456 = b.val; omega
  | ⟨1, _⟩ => rfl
  | ⟨2, _⟩ => show (((b.val * 4 + h.val) * 8192 + p.val) * 8192 + k.val) / 67108864 % 4 = h.val; omega
  | ⟨3, _⟩ => show (((b.val * 4 + h.val) * 8192 + p.val) * 8192 + k.val) / 8192 % 8192 = p.val; omega
  | ⟨4, _⟩ => show (((b.val * 4 + h.val) * 8192 + p.val) * 8192 + k.val) % 8192 = k.val; omega

/-- The second component's. -/
theorem v48_apply (b : Fin 2) (h : Fin 4) (p k : Fin 8192) : val_main_v48 (F := Ideal) q kT (ix4 b h p k)
    = weight 8192 (score q kT b 1 h p) k := by
  rw [val_main_v48_apply, val_main_v47_apply, ← v44_apply]
  refine congrArg (val_main_v44 (F := Ideal) q kT) (funext fun a => Fin.ext ?_)
  match a with
  | ⟨0, _⟩ => show (((b.val * 4 + h.val) * 8192 + p.val) * 8192 + k.val) / 268435456 = b.val; omega
  | ⟨1, _⟩ => rfl
  | ⟨2, _⟩ => show (((b.val * 4 + h.val) * 8192 + p.val) * 8192 + k.val) / 67108864 % 4 = h.val; omega
  | ⟨3, _⟩ => show (((b.val * 4 + h.val) * 8192 + p.val) * 8192 + k.val) / 8192 % 8192 = p.val; omega
  | ⟨4, _⟩ => show (((b.val * 4 + h.val) * 8192 + p.val) * 8192 + k.val) % 8192 = k.val; omega

theorem v21_apply (i : S_.Idx) : val_main_v21 (F := Ideal) lp i = lamOf lp := by
  unfold lamOf
  pointwise [val_main_v6, val_main_v7, val_main_v8, val_main_v9, val_main_v10, val_main_v11, val_main_v12, val_main_v13, val_main_v14,
    val_main_v15, val_main_v16, val_main_v17, val_main_v18, val_main_v19, val_main_v20, val_main_v21, val_main_cst, val_main_cst_0, val_main_cst_1]

theorem v51_apply (b : Fin 2) (h : Fin 4) (p k : Fin 8192) : val_main_v51 (F := Ideal) q kT lp (ix4 b h p k)
    = weight 8192 (score q kT b 0 h p) k - lamOf lp * weight 8192 (score q kT b 1 h p) k := by
  rw [val_main_v51_apply, val_main_v50_apply, val_main_v49_apply, v21_apply, v46_apply, v48_apply]
  rfl

theorem v5_apply (b : Fin 2) (p : Fin 8192) (h : Fin 4) (j : Fin 64) : val_main_v5 (F := Ideal) v (ix4 b p h j)
    = v (ix2 ⟨b.val * 8192 + p.val, by omega⟩ ⟨h.val * 64 + j.val, by omega⟩) := by
  pointwise [val_main_v5, val_main_v4]

/-- Finite values and a finite differential weight. -/
def Finite : Prop := (∀ i, ∃ r : ℝ, v i = (r : EReal)) ∧ ∀ i, ∃ r : ℝ, lp i = (r : EReal)

variable {v lp}

theorem lamOf_real (hf : Finite v lp) : ∃ r : ℝ, lamOf lp = (r : EReal) :=
  lam_real _ _ _ _ _ (fun j => hf.2 _) (fun j => hf.2 _) (fun j => hf.2 _) (fun j => hf.2 _) lam_init_real

theorem v53_apply (hf : Finite v lp) (b : Fin 2) (p : Fin 8192) (h : Fin 4) (j : Fin 64) : val_main_v53 (F := Ideal) q kT v lp (ix4 b p h j)
    = odiff q kT v lp b p ⟨h.val * 64 + j.val, by omega⟩ := by
  rw [val_main_v53_apply, val_main_v52_apply]
  have e : (⟨(h.val * 64 + j.val) / 64, by omega⟩ : Fin 4) = h := Fin.ext (by show (h.val * 64 + j.val) / 64 = h.val; omega)
  unfold odiff
  dsimp only
  rw [e, ← diff_row _ _ _ _ (lamOf_real hf) (fun k => hf.1 _)]
  refine Finset.sum_congr rfl fun k _ => ?_
  rw [show lidx_main_v52 (idx_main_v53 (ix4 b p h j)) k = ix4 b k h j from funext fun a => by fin_cases a <;> rfl,
    show ridx_main_v52 (idx_main_v53 (ix4 b p h j)) k = ix4 b h p k from funext fun a => by fin_cases a <;> rfl, v5_apply, v51_apply]

theorem v65_apply (b : Fin 2) (p : Fin 8192) (h : Fin 4) (j : Fin 64) : val_main_v65 (F := Ideal) q kT v lp (ix4 b p h j)
    = val_main_v53 (F := Ideal) q kT v lp (ix4 b p h j)
      * Ideal.rsqrt (Ideal.div (∑ j : Fin 64, val_main_v53 (F := Ideal) q kT v lp (ix4 b p h j) * val_main_v53 (F := Ideal) q kT v lp (ix4 b p h j))
        (Ideal.ofBits .f32 0x42800000#32) + Ideal.ofBits .f32 0x358637BD#32) * Ideal.ofBits .f32 0x3F4CCCCD#32 := by
  unfold val_main_v65 val_main_v63 val_main_v62 val_main_v61 val_main_v60 val_main_v58 val_main_v56 val_main_v55 val_main_v54
  generalize val_main_v53 (F := Ideal) q kT v lp = y
  pointwise [val_main_v57, val_main_v59, val_main_v64, val_main_cst_8, val_main_cst_9, val_main_cst_10, val_main_cst_11]

theorem v67_apply (b : Fin 2) (p : Fin 8192) (w : Fin 256) : val_main_v67 (F := Ideal) q kT v lp (ix3 b p w)
    = val_main_v65 (F := Ideal) q kT v lp (ix4 b p ⟨w.val / 64, by omega⟩ ⟨w.val % 64, by omega⟩) := by
  unfold val_main_v67 val_main_v66
  generalize val_main_v65 (F := Ideal) q kT v lp = y
  pointwise

/-- The reference's result, entry by entry. -/
theorem ref_apply (hf : Finite v lp) (b : Fin 2) (p : Fin 8192) (w : Fin 256) :
    val_main_v67 (F := Ideal) q kT v lp (ix3 b p w) = attn q kT v lp b p w := by
  rw [v67_apply, v65_apply]
  simp only [v53_apply q kT hf]
  have e : (⟨w.val / 64 * 64 + w.val % 64, by omega⟩ : Fin 256) = w := Fin.ext (Nat.div_add_mod' w.val 64)
  rw [e]
  rfl

end Cert.DiffRefIdeal.RefValue

end
-- ==== Proof.DiffStage.lean ====
/-
  The arrays that the differential attention kernel's caller prepares: the matrix that it weights its squares with, whose
  entry (i, j) is a 64th where lanes i and j belong to one head, else zero (`V_v10`), and the queries and values with the
  batch entries apart (`V_v11`, `V_v12`).
-/
module

public import proofs.«01_k».proof.Proof.Gen.DiffIdeal.Value
public import proofs.«01_k».proof.Proof.DiffMath
public import Idealize.ShloMosaic.Lib.Pointwise
public import Idealize.ShloMosaic.Lib.WordCmp

@[expose] public section

set_option maxRecDepth 16384

noncomputable section

namespace Cert.DiffIdeal.RefValue

open Cert.DiffIdeal Cert.DiffIdeal.Gen Idealize.ShloMosaic Idealize.ShloMosaic.TcCoe Idealize.SL.Sem

variable (m : (ℓ : Loc nD τ sig) → Buf (Elt Ideal) ℓ) (ρ : Dev nD → PrngReg)

/-- The numbers of the lanes' heads, as the kernel's caller computes them: the quotient rounded down. -/
def heads : IVec S256 32 :=
  let a : IVec S256 32 := iotaInDim S256 32 0
  let b : IVec S_ 32 := constantI S_ 32 64#32
  let q : IVec S256 32 := Host.divsi a (broadcastInDim S256 ![] bcast_S_S256 b)
  select (andi (cmpi .ne (signi a) (broadcastInDim S256 ![] bcast_S_S256 (signi b)))
      (cmpi .ne (Host.remsi a (broadcastInDim S256 ![] bcast_S_S256 b)) (broadcastInDim S256 ![] bcast_S_S256 (constantI S_ 32 0#32))))
    (subi q (broadcastInDim S256 ![] bcast_S_S256 (constantI S_ 32 1#32))) q

/-- The matrix of the means of a head's lanes. -/
def means (h : IVec S256 32) : FVec Ideal S128x128 .f32 :=
  extractStridedSlice S128x128 ![0, 0]
    (Host.divf (uitofp .f32 (cmpi .eq (broadcastInDim S256x256 ![0, 1] bcast_S256x1_S256x256_0_1 (broadcastInDim S256x1 ![0] bcast_S256_S256x1_0 h))
        (broadcastInDim S256x256 ![0, 1] bcast_S1x256_S256x256_0_1 (broadcastInDim S1x256 ![1] bcast_S256_S1x256_1 h))))
      (broadcastInDim S256x256 ![] bcast_S_S256x256 (constant S_ .f32 0x42800000#32))) slices_S256x256_S128x128_0_0

theorem V_means (c : Dev nD) : (V m c main_v10 : Vec Ideal S128x128 .f32) = means heads := by
  dsimp only [V, hostOps0, hostOps0_1, hostOps0_2, List.flatten_cons, List.flatten_nil, List.append_nil, List.cons_append, List.nil_append]
  after_results_simp
  rfl

/-- The sign of a word. -/
def sg (x : BitVec 32) : BitVec 32 := if x = 0 then 0 else if x.msb then -1 else 1

/-- The quotient of two words, rounded down. -/
def floorDiv (x y : BitVec 32) : BitVec 32 :=
  Scalar.select (IntOp.andi (IntOp.cmpi .ne (sg x) (sg y)) (IntOp.cmpi .ne (IntOp.remsi .host x y) 0#32))
    (IntOp.subi (IntOp.divsi .host x y) 1#32) (IntOp.divsi .host x y)

theorem floorDiv_lane : ∀ i : Fin 256, floorDiv (BitVec.ofNat 32 i.val) 64#32 = BitVec.ofNat 32 (i.val / 64) := by
  decide +kernel

theorem heads_apply (i : Fin 256) : heads (ix1 i) = BitVec.ofNat 32 (i.val / 64) := by
  rw [← floorDiv_lane]
  rfl

theorem means_apply (h : IVec S256 32) (i j : Fin 128) : means h (ix2 i j)
    = Ideal.div (FloatOps.uitofp (F := Ideal) .f32 (IntOp.cmpi .eq (h (ix1 ⟨i.val, by omega⟩)) (h (ix1 ⟨j.val, by omega⟩)))) (Ideal.ofBits .f32 0x42800000#32) := by
  pointwise [means]

theorem V_v10 (c : Dev nD) (i j : Fin 128) :
    (V m c main_v10 : Vec Ideal S128x128 .f32) (ix2 i j) = if i.val / 64 = j.val / 64 then Ideal.div 1 (Ideal.ofBits .f32 0x42800000#32) else 0 := by
  rw [V_means, means_apply, heads_apply, heads_apply]
  have e : IntOp.cmpi .eq (BitVec.ofNat 32 (i.val / 64)) (BitVec.ofNat 32 (j.val / 64)) = BitVec.ofBool (decide (i.val / 64 = j.val / 64)) :=
    WordCmp.cmpi_eq_ofNat (by omega) (by omega)
  rw [show (⟨i.val, by omega⟩ : Fin 256).val = i.val from rfl, show (⟨j.val, by omega⟩ : Fin 256).val = j.val from rfl, e]
  show Ideal.div ((((BitVec.ofBool (decide (i.val / 64 = j.val / 64))).toNat : ℝ) : EReal)) _ = _
  split_ifs with h
  · rw [decide_eq_true h]
    exact congrArg (Ideal.div · _) (by rw [show (BitVec.ofBool true).toNat = 1 from rfl]; norm_num)
  · rw [decide_eq_false h]
    refine Eq.trans (b := Ideal.div 0 (Ideal.ofBits .f32 0x42800000#32)) (congrArg (Ideal.div · _) (by norm_num)) ?_
    rw [Online.div_eq (by rw [Online.n64_eq]; exact EReal.coe_pos.mpr (by norm_num)), zero_mul]

/-- The batch entries' rows one below the other, at an index. -/
theorem rows_apply (x : FVec Ideal S16384x256 .bf16) (b : Fin 2) (p : Fin 8192) (w : Fin 256) :
    shapeCast S2x8192x256 x shapeCasts_S16384x256_S2x8192x256 (ix3 b p w) = x (ix2 ⟨b.val * 8192 + p.val, by omega⟩ w) := by
  pointwise

/-- The queries, as the kernel finds them. -/
theorem V_v11 (c : Dev nD) (b : Fin 2) (p : Fin 8192) (w : Fin 256) :
    (V m c main_v11 : Vec Ideal S2x8192x256 .bf16) (ix3 b p w) = m ((c : Thread nD τ).loc main_arg0) (ix2 ⟨b.val * 8192 + p.val, by omega⟩ w) := by
  have e : @Eq (FVec Ideal S2x8192x256 .bf16) (V m c main_v11)
      <| shapeCast S2x8192x256 (m ((c : Thread nD τ).loc main_arg0) : Vec Ideal S16384x256 .bf16) shapeCasts_S16384x256_S2x8192x256 := by
    dsimp only [V, hostOps0, hostOps0_1, hostOps0_2, List.flatten_cons, List.flatten_nil, List.append_nil, List.cons_append, List.nil_append]
    after_results_simp; rfl
  rw [e]; exact rows_apply _ b p w

/-- The values. -/
theorem V_v12 (c : Dev nD) (b : Fin 2) (p : Fin 8192) (w : Fin 256) :
    (V m c main_v12 : Vec Ideal S2x8192x256 .bf16) (ix3 b p w) = m ((c : Thread nD τ).loc main_arg2) (ix2 ⟨b.val * 8192 + p.val, by omega⟩ w) := by
  have e : @Eq (FVec Ideal S2x8192x256 .bf16) (V m c main_v12)
      <| shapeCast S2x8192x256 (m ((c : Thread nD τ).loc main_arg2) : Vec Ideal S16384x256 .bf16) shapeCasts_S16384x256_S2x8192x256 := by
    dsimp only [V, hostOps0, hostOps0_1, hostOps0_2, List.flatten_cons, List.flatten_nil, List.append_nil, List.cons_append, List.nil_append]
    after_results_simp; rfl
  rw [e]; exact rows_apply _ b p w

end Cert.DiffIdeal.RefValue

end
-- ==== Proof.DiffValue.lean ====
/-
  The differential attention kernel's result array: entry (b, p, w) is the difference of query p's two softmaxes in lane
  w over the root of its head's mean square (`run`). The 128 blocks, one per batch entry, head pair and 256 queries, tile
  the array.
-/
module

public import proofs.«01_k».proof.Proof.Gen.DiffIdeal.Value
public import proofs.«01_k».proof.Proof.DiffLoop
public import proofs.«01_k».proof.Proof.DiffRef
public import proofs.«01_k».proof.Proof.DiffStage

@[expose] public section

set_option maxRecDepth 16384

noncomputable section

namespace Cert.DiffIdeal.RefValue

open Cert.DiffIdeal Cert.DiffIdeal.Gen Cert.DiffIdeal.Body Idealize.ShloMosaic Idealize.ShloMosaic.TcCoe Idealize.SL.Sem

local notation "dscore" => Cert.DiffRefIdeal.RefValue.score
local notation "ddiff" => Cert.DiffRefIdeal.RefValue.odiff

section block

variable (x0 : Vec Ideal S1x256x128 .bf16) (x1 : Vec Ideal S1x128x8192 .bf16) (x2 : Vec Ideal S1x8192x128 .bf16)
  (x4 : Vec Ideal S128x128 .f32)
  (q : Vec Ideal S16384x256 .bf16) (kT : Vec Ideal S2x256x8192 .bf16) (v : Vec Ideal S16384x256 .bf16) (lp : Vec Ideal S4x32 .f32)
  (b hp : Fin 2) (n : Fin 32)
  (h0 : ∀ (y : Fin 256) (d : Fin 128), x0 (ix3 0 y d) = q (ix2 ⟨b.val * 8192 + (256 * n.val + y.val), by omega⟩ ⟨128 * hp.val + d.val, by omega⟩))
  (h1 : ∀ (d : Fin 128) (k : Fin 8192), x1 (ix3 0 d k) = kT (ix3 b ⟨128 * hp.val + d.val, by omega⟩ k))

include h0 h1

/-- The scores that a grid point finds in its blocks are the layer's: a row of the stack has zeros outside its component's
    lanes. -/
theorem score_eq (r : Fin 1024) (k : Fin 8192) :
    score x0 x1 n r k
      = dscore q kT b ⟨r.val / 256 % 2, by omega⟩ ⟨2 * hp.val + r.val / 512, by omega⟩ ⟨256 * n.val + r.val % 256, by omega⟩ k := by
  unfold score Cert.DiffRefIdeal.RefValue.score
  split_ifs with hk
  · unfold raw
    simp only [qsV_apply, ite_mul, zero_mul]
    refine (Online.group_sum (N := 128) (n := 4) (w := 32) rfl (by omega) (fun j => x0 (ix3 0 ⟨r.val % 256, by omega⟩ j) * x1 (ix3 0 j k))
      ⟨r.val / 256, by omega⟩).trans (Finset.sum_congr rfl fun j _ => ?_)
    rw [h0, h1]
    have e : 128 * hp.val + (r.val / 256 * 32 + j.val) = (2 * hp.val + r.val / 512) * 64 + r.val / 256 % 2 * 32 + j.val := by omega
    exact congrArg₂ (· * ·) (congrArg q (congrArg (ix2 _) (Fin.ext e))) (congrArg kT (congrArg (ix3 b · k) (Fin.ext e)))
  · rfl

variable (h2 : ∀ (k : Fin 8192) (d : Fin 128), x2 (ix3 0 k d) = v (ix2 ⟨b.val * 8192 + k.val, by omega⟩ ⟨128 * hp.val + d.val, by omega⟩))

include h2

/-- So is the difference. -/
theorem odiff_eq (y : Fin 256) (d : Fin 128) :
    odiff x0 x1 x2 (lamOf lp) n y d = ddiff q kT v lp b ⟨256 * n.val + y.val, by omega⟩ ⟨128 * hp.val + d.val, by omega⟩ := by
  have e : ∀ c : Fin 2, Online.row 8192 (score x0 x1 n (drow c y d)) (fun k => x2 (ix3 0 k d))
      = Online.row 8192 (dscore q kT b c ⟨(128 * hp.val + d.val) / 64, by omega⟩ ⟨256 * n.val + y.val, by omega⟩)
          (fun k => v (ix2 ⟨b.val * 8192 + k.val, by omega⟩ ⟨128 * hp.val + d.val, by omega⟩)) := fun c => by
    have hc : (drow c y d).val = 512 * (d.val / 64) + 256 * c.val + y.val := rfl
    refine congrArg₂ (Online.row 8192) (funext fun k => ?_) (funext fun k => h2 k d)
    rw [score_eq x0 x1 q kT b hp n h0 h1]
    congr 1
    · apply Fin.ext; dsimp only; rw [hc]; omega
    · apply Fin.ext; dsimp only; rw [hc]; omega
    · apply Fin.ext; dsimp only; rw [hc]; omega
  unfold odiff Cert.DiffRefIdeal.RefValue.odiff
  rw [e 0, e 1]
  rfl

variable (h4 : ∀ i j : Fin 128, x4 (ix2 i j) = if i.val / 64 = j.val / 64 then Ideal.div 1 (Ideal.ofBits .f32 0x42800000#32) else 0)

include h4

/-- The matrix takes the mean of the squares over the lane's head. -/
theorem attn_eq (y : Fin 256) (d : Fin 128) :
    odiff x0 x1 x2 (lamOf lp) n y d
        * Ideal.rsqrt (∑ j : Fin 128, odiff x0 x1 x2 (lamOf lp) n y j * odiff x0 x1 x2 (lamOf lp) n y j * x4 (ix2 j d)
            + Ideal.ofBits .f32 0x358637BD#32) * Ideal.ofBits .f32 0x3F4CCCCD#32
      = Cert.DiffRefIdeal.RefValue.attn q kT v lp b ⟨256 * n.val + y.val, by omega⟩ ⟨128 * hp.val + d.val, by omega⟩ := by
  unfold Cert.DiffRefIdeal.RefValue.attn
  simp only [odiff_eq x0 x1 x2 q kT v lp b hp n h0 h1 h2, h4, mul_ite, mul_zero]
  refine congrArg (· * Ideal.ofBits .f32 0x3F4CCCCD#32) (congrArg (ddiff q kT v lp b _ _ * ·)
    (congrArg (fun s => Ideal.rsqrt (s + Ideal.ofBits .f32 0x358637BD#32)) ?_))
  refine (Online.group_sum (N := 128) (n := 2) (w := 64) rfl (by omega)
    (fun j => ddiff q kT v lp b ⟨256 * n.val + y.val, by omega⟩ ⟨128 * hp.val + j.val, by omega⟩
      * ddiff q kT v lp b ⟨256 * n.val + y.val, by omega⟩ ⟨128 * hp.val + j.val, by omega⟩ * Ideal.div 1 (Ideal.ofBits .f32 0x42800000#32))
    ⟨d.val / 64, by omega⟩).trans ?_
  rw [Online.mean_eq]
  refine congrArg (Ideal.div · _) (Finset.sum_congr rfl fun j _ => ?_)
  have e : (⟨128 * hp.val + (d.val / 64 * 64 + j.val), by omega⟩ : Fin 256) = ⟨(128 * hp.val + d.val) / 64 * 64 + j.val, by omega⟩ :=
    Fin.ext (by show 128 * hp.val + (d.val / 64 * 64 + j.val) = (128 * hp.val + d.val) / 64 * 64 + j.val; omega)
  rw [← e]

end block

variable (m : (ℓ : Loc nD τ sig) → Buf (Elt Ideal) ℓ) (ρ : Dev nD → PrngReg)

/-- The layer's differential attention of device c's argument arrays. -/
def G (c : Dev nD) : Buf (Elt Ideal) ((c : Thread nD τ).loc main_v13) := fun i : S2x8192x256.Idx =>
  Cert.DiffRefIdeal.RefValue.attn (m ((c : Thread nD τ).loc main_arg0)) (m ((c : Thread nD τ).loc main_arg1)) (m ((c : Thread nD τ).loc main_arg2))
    (m ((c : Thread nD τ).loc main_arg3)) (i 0) (i 1) (i 2)

/-- The batch entry of a grid point. -/
abbrev bt (t : Fin grid0.N) : Fin 2 := (grid0.coords t) 0

/-- Where the blocks of the queries, of the keys and of the values lie. -/
theorem idx_facts : ∀ t : Fin grid0.N,
    (win0_0.index t 0 * win0_0.size 0 = (bt t).val ∧ win0_0.index t 1 * win0_0.size 1 = 256 * (qt t).val ∧ win0_0.index t 2 * win0_0.size 2 = 128 * (hpt t).val)
    ∧ (win0_1.index t 0 * win0_1.size 0 = (bt t).val ∧ win0_1.index t 1 * win0_1.size 1 = 128 * (hpt t).val ∧ win0_1.index t 2 * win0_1.size 2 = 0)
    ∧ (win0_2.index t 0 * win0_2.size 0 = (bt t).val ∧ win0_2.index t 1 * win0_2.size 1 = 0 ∧ win0_2.index t 2 * win0_2.size 2 = 128 * (hpt t).val) := by
  decide +kernel

/-- Where the blocks of the weights, of the matrix and of the result lie, and how large the latter are. -/
theorem idx_facts' : ∀ t : Fin grid0.N,
    (win0_3.index t 0 * win0_3.size 0 = 0 ∧ win0_3.index t 1 * win0_3.size 1 = 0)
    ∧ (win0_4.index t 0 * win0_4.size 0 = 0 ∧ win0_4.index t 1 * win0_4.size 1 = 0)
    ∧ (win0_5.index t 0 * win0_5.size 0 = (bt t).val ∧ win0_5.index t 1 * win0_5.size 1 = 256 * (qt t).val ∧ win0_5.index t 2 * win0_5.size 2 = 128 * (hpt t).val)
    ∧ (win0_5.xsize (grid0.coords t) 0 = 1 ∧ win0_5.xsize (grid0.coords t) 1 = 256 ∧ win0_5.xsize (grid0.coords t) 2 = 128) := by
  decide +kernel

/-- Every batch entry, head pair and query block has a grid point. -/
theorem point : ∀ (b hp : Fin 2) (n : Fin 32), ∃ t : Fin grid0.N, bt t = b ∧ hpt t = hp ∧ qt t = n := by decide +kernel

/-- An index of the result array is in point t's block when its batch entry, its query and its lane are. -/
theorem mem_blk (t : Fin cfg0.N) (i : S2x8192x256.Idx) (h0 : (i 0).val = (bt t).val)
    (h1 : 256 * (qt t).val ≤ (i 1).val ∧ (i 1).val < 256 * (qt t).val + 256)
    (h2 : 128 * (hpt t).val ≤ (i 2).val ∧ (i 2).val < 128 * (hpt t).val + 128) :
    i ∈ ((cfg0.win 5).blk t).view.set := by
  show i ∈ ((View.whole main_v13).slice (win0_5.rect t)).set
  rw [View.set_slice_whole, Rect.mem_set_unit]
  obtain ⟨-, -, ⟨e0, e1, e2⟩, s0, s1, s2⟩ := idx_facts' t
  intro a
  match a with
  | ⟨0, _⟩ => show win0_5.index t 0 * win0_5.size 0 ≤ (i 0 : Nat) ∧ (i 0 : Nat) < win0_5.index t 0 * win0_5.size 0 + win0_5.xsize (grid0.coords t) 0
              rw [e0, s0]; omega
  | ⟨1, _⟩ => show win0_5.index t 1 * win0_5.size 1 ≤ (i 1 : Nat) ∧ (i 1 : Nat) < win0_5.index t 1 * win0_5.size 1 + win0_5.xsize (grid0.coords t) 1
              rw [e1, s1]; exact h1
  | ⟨2, _⟩ => show win0_5.index t 2 * win0_5.size 2 ≤ (i 2 : Nat) ∧ (i 2 : Nat) < win0_5.index t 2 * win0_5.size 2 + win0_5.xsize (grid0.coords t) 2
              rw [e2, s2]; exact h2

/-- The blocks tile the result array. -/
theorem cover (i : S2x8192x256.Idx) :
    ∃ t : Fin cfg0.N, (cfg0.win 5).flush t = true ∧ i ∈ ((cfg0.win 5).blk t).view.set := by
  have h1 : (i 1 : Nat) < 8192 := (i 1).isLt
  have h2 : (i 2 : Nat) < 256 := (i 2).isLt
  obtain ⟨t, e0, e1, e2⟩ := point (i 0) ⟨(i 2 : Nat) / 128, by omega⟩ ⟨(i 1 : Nat) / 256, by omega⟩
  refine ⟨t, flush0_5 _, mem_blk t i (by rw [e0]) ?_ ?_⟩
  · rw [e2]; dsimp only; omega
  · rw [e1]; dsimp only; omega

/-- The array position of entry (y, d) of block t. -/
theorem emb5 (t : Fin cfg0.N) (y : Fin 256) (d : Fin 128) :
    ((win0_5.blk t).view.emb (ix3 0 y d) : S2x8192x256.Idx)
      = ix3 (bt t) ⟨256 * (qt t).val + y.val, by have := (qt t).isLt; omega⟩ ⟨128 * (hpt t).val + d.val, by have := (hpt t).isLt; omega⟩ := by
  obtain ⟨-, -, ⟨e0, e1, e2⟩, -⟩ := idx_facts' t
  funext a
  apply Fin.ext
  match a with
  | ⟨0, _⟩ => show win0_5.index t 0 * win0_5.size 0 + 1 * 0 = (bt t).val; rw [e0]; rfl
  | ⟨1, _⟩ => show win0_5.index t 1 * win0_5.size 1 + 1 * y.val = 256 * (qt t).val + y.val; rw [e1, Nat.one_mul]
  | ⟨2, _⟩ => show win0_5.index t 2 * win0_5.size 2 + 1 * d.val = 128 * (hpt t).val + d.val; rw [e2, Nat.one_mul]

/-- Point t's block of the queries. -/
theorem blk0 (c : Dev nD) (t : Fin cfg0.N) (y : Fin 256) (d : Fin 128) :
    (iblk m c 0 t : Vec Ideal S1x256x128 .bf16) (ix3 0 y d) = m ((c : Thread nD τ).loc main_arg0)
      (ix2 ⟨(bt t).val * 8192 + (256 * (qt t).val + y.val), by have := (qt t).isLt; have := (bt t).isLt; omega⟩
        ⟨128 * (hpt t).val + d.val, by have := (hpt t).isLt; omega⟩) := by
  obtain ⟨⟨e0, e1, e2⟩, -⟩ := idx_facts t
  rw [← V_v11 m c (bt t) ⟨256 * (qt t).val + y.val, by have := (qt t).isLt; omega⟩]
  refine congrArg (V m c main_v11 : Vec Ideal S2x8192x256 .bf16) (funext fun a => Fin.ext ?_)
  match a with
  | ⟨0, _⟩ => show win0_0.index t 0 * win0_0.size 0 + 1 * 0 = (bt t).val; rw [e0]; rfl
  | ⟨1, _⟩ => show win0_0.index t 1 * win0_0.size 1 + 1 * y.val = 256 * (qt t).val + y.val; rw [e1, Nat.one_mul]
  | ⟨2, _⟩ => show win0_0.index t 2 * win0_0.size 2 + 1 * d.val = 128 * (hpt t).val + d.val; rw [e2, Nat.one_mul]

/-- Point t's block of the keys: a head pair's lanes, every key. -/
theorem blk1 (c : Dev nD) (t : Fin cfg0.N) (d : Fin 128) (k : Fin 8192) :
    (iblk m c 1 t : Vec Ideal S1x128x8192 .bf16) (ix3 0 d k) = m ((c : Thread nD τ).loc main_arg1)
      (ix3 (bt t) ⟨128 * (hpt t).val + d.val, by have := (hpt t).isLt; omega⟩ k) := by
  obtain ⟨-, ⟨e0, e1, e2⟩, -⟩ := idx_facts t
  rw [← V_main_arg1 m c]
  refine congrArg (V m c main_arg1 : Vec Ideal S2x256x8192 .bf16) (funext fun a => Fin.ext ?_)
  match a with
  | ⟨0, _⟩ => show win0_1.index t 0 * win0_1.size 0 + 1 * 0 = (bt t).val; rw [e0]; rfl
  | ⟨1, _⟩ => show win0_1.index t 1 * win0_1.size 1 + 1 * d.val = 128 * (hpt t).val + d.val; rw [e1, Nat.one_mul]
  | ⟨2, _⟩ => show win0_1.index t 2 * win0_1.size 2 + 1 * k.val = k.val; rw [e2]; omega

/-- Point t's block of the values. -/
theorem blk2 (c : Dev nD) (t : Fin cfg0.N) (k : Fin 8192) (d : Fin 128) :
    (iblk m c 2 t : Vec Ideal S1x8192x128 .bf16) (ix3 0 k d) = m ((c : Thread nD τ).loc main_arg2)
      (ix2 ⟨(bt t).val * 8192 + k.val, by have := (bt t).isLt; omega⟩ ⟨128 * (hpt t).val + d.val, by have := (hpt t).isLt; omega⟩) := by
  obtain ⟨-, -, ⟨e0, e1, e2⟩⟩ := idx_facts t
  rw [← V_v12 m c (bt t) k]
  refine congrArg (V m c main_v12 : Vec Ideal S2x8192x256 .bf16) (funext fun a => Fin.ext ?_)
  match a with
  | ⟨0, _⟩ => show win0_2.index t 0 * win0_2.size 0 + 1 * 0 = (bt t).val; rw [e0]; rfl
  | ⟨1, _⟩ => show win0_2.index t 1 * win0_2.size 1 + 1 * k.val = k.val; rw [e1]; omega
  | ⟨2, _⟩ => show win0_2.index t 2 * win0_2.size 2 + 1 * d.val = 128 * (hpt t).val + d.val; rw [e2, Nat.one_mul]

/-- Point t's block of the weights: all of them. -/
theorem blk3 (c : Dev nD) (t : Fin cfg0.N) : (iblk m c 3 t : Vec Ideal S4x32 .f32) = m ((c : Thread nD τ).loc main_arg3) := by
  obtain ⟨⟨e0, e1⟩, -⟩ := idx_facts' t
  rw [← V_main_arg3 m c]
  funext i
  refine congrArg (V m c main_arg3 : Vec Ideal S4x32 .f32) (funext fun a => Fin.ext ?_)
  match a with
  | ⟨0, _⟩ => show win0_3.index t 0 * win0_3.size 0 + 1 * (i 0).val = (i 0).val; rw [e0]; omega
  | ⟨1, _⟩ => show win0_3.index t 1 * win0_3.size 1 + 1 * (i 1).val = (i 1).val; rw [e1]; omega

/-- Point t's block of the matrix: all of it. -/
theorem blk4 (c : Dev nD) (t : Fin cfg0.N) (i j : Fin 128) : (iblk m c 4 t : Vec Ideal S128x128 .f32) (ix2 i j)
    = if i.val / 64 = j.val / 64 then Ideal.div 1 (Ideal.ofBits .f32 0x42800000#32) else 0 := by
  obtain ⟨-, ⟨e0, e1⟩, -⟩ := idx_facts' t
  rw [← V_v10 m c i j]
  refine congrArg (V m c main_v10 : Vec Ideal S128x128 .f32) (funext fun a => Fin.ext ?_)
  match a with
  | ⟨0, _⟩ => show win0_4.index t 0 * win0_4.size 0 + 1 * i.val = i.val; rw [e0]; omega
  | ⟨1, _⟩ => show win0_4.index t 1 * win0_4.size 1 + 1 * j.val = j.val; rw [e1]; omega

/-- Point t writes back block t of the layer's attention. -/
theorem flushed_eq (c : Dev nD) (t : Fin cfg0.N) :
    (dats m 0 c).flushed 5 t = (win0_5.blk t).view.read (Elt Ideal) (G m c) := by
  rw [Value.flushed5_A]
  funext i
  obtain ⟨y, d, rfl⟩ : ∃ (y : Fin 256) (d : Fin 128), i = ix3 0 y d :=
    ⟨⟨(i 1).val, (i 1).isLt⟩, ⟨(i 2).val, (i 2).isLt⟩, funext fun a => Fin.ext (by
      match a with
      | ⟨0, _⟩ => exact Nat.lt_one_iff.1 (i 0).isLt
      | ⟨1, _⟩ => rfl
      | ⟨2, _⟩ => rfl)⟩
  have hs := attn_eq (iblk m c 0 t) (iblk m c 1 t) (iblk m c 2 t) (iblk m c 4 t) _ _ _ (iblk m c 3 t) (bt t) (hpt t) (qt t)
    (blk0 m c t) (blk1 m c t) (blk2 m c t) (blk4 m c t) y d
  have e := out_apply c t (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) scM0_2 (Memref.isWhole_whole _) scM0_3 (Memref.isWhole_whole _)
    (iblk m c 0 t) (iblk m c 1 t) (iblk m c 2 t) (iblk m c 3 t) (iblk m c 4 t) y d
  refine Eq.trans e (hs.trans ?_)
  show _ = G m c ((win0_5.blk t).view.emb (ix3 0 y d))
  rw [emb5 t y d, blk3 m c t]
  rfl

/-- So the result array ends holding the layer's attention. -/
theorem final (c : Dev nD) : (dats m 0 c).arrAt 5 cfg0.N = G m c :=
  (dats m 0 c).arrAt_eq_of_cover 5 (G m c) (fun t _ => flushed_eq m c t) cover

/-- The run, read: the result array at the layer's attention, the arguments unchanged. -/
theorem run : θ_run defs (onTc (τ := τ) (main (F := Ideal))) ⟨m, fun _ => 0, ρ⟩ fun r => ∀ c : Dev nD,
      r.2.mem ((c : Thread nD τ).loc main_v13) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.DiffIdeal.RefValue

end
-- ==== Proof.DiffPre.lean ====
/-
  The precondition of the differential attention's value claim: its operations' side conditions (`facts`), and what it says
  of the arguments, that the values and the vectors of the differential weight are finite (`finite_of_pre`).
-/
module

public import proofs.«01_k».proof.Pre_finite_diff
public import proofs.«01_k».proof.Proof.DiffRef
public import Idealize.ShloMosaic.Lib.ReduceAll

@[expose] public section

set_option maxRecDepth 16384

noncomputable section

namespace Cert.DiffPre

open Cert.Pre_finite_diff Idealize.ShloMosaic

/-- The side conditions of the precondition's operations. -/
theorem facts : Cert.Pre_finite_diff.Facts where
  bitsLt_bf16_f32 := by decide
  bcast_S_S16384x256 := by decide
  reducesTo_S16384x256_S_d0_1 := by decide
  h_S_ := by decide
  bcast_S_S4x32 := by decide
  reducesTo_S4x32_S_d0_1 := by decide

/-- A magnitude below infinity belongs to a finite value. -/
theorem real_of_lt (x : EReal) (h : Ideal.cmp .olt (max x (-x)) (Ideal.ofBits .f32 0x7F800000#32) = 1#1) : ∃ r : ℝ, x = (r : EReal) := by
  have hlt : max x (-x) < ⊤ := by
    rw [Online.pinf_eq] at h
    by_contra hn
    unfold Ideal.cmp at h
    simp only [hn, decide_false] at h
    exact absurd h (by decide)
  induction x with
  | bot => exact absurd hlt (by simp)
  | top => exact absurd hlt (by simp)
  | coe r => exact ⟨r, rfl⟩

instance : Subsingleton S_.Idx := ⟨fun _ _ => funext fun a => a.elim0⟩

/-- One of the precondition's two tests: every entry of an array is finite. -/
theorem all_real {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant S_ .f32 0x7F800000#32))) (constantI S_ 1 1#1) hr h0 j = 1#1)
    (i : s.Idx) : ∃ r : ℝ, x i = (r : EReal) :=
  real_of_lt _ (Host.reduce_andi_all _ _ hr h0 j e i)

/-- What the precondition says. -/
theorem finite_of_pre [Cert.Pre_finite_diff.Facts] (q : FVec Ideal S16384x256 .bf16) (kT : FVec Ideal S2x256x8192 .bf16) (v : FVec Ideal S16384x256 .bf16)
    (lp : FVec Ideal S4x32 .f32) (h : fn (F := Ideal) q kT v lp = fun _ => 1#1) :
    Cert.DiffRefIdeal.RefValue.Finite v lp := by
  have h := congrFun h (fun a => a.elim0)
  unfold fn at h
  obtain ⟨h1, h2⟩ := IntOp.andi_eq_one.1 h
  exact ⟨all_real _ _ _ _ _ h1, all_real _ _ _ _ _ h2⟩

end Cert.DiffPre

end
-- ==== Proof.DiffClaims.lean ====
/-
  The claims about the differential attention that are not generated: its idealization keeps what the kernel says, the
  reference runs and keeps its arguments (`frame_ref`), and from equal arguments with finite values and finite vectors of
  the differential weight the kernel and the reference end with equal results (`algebraic`).
-/
module

public import proofs.«01_k».proof.Defs
public import proofs.«01_k».proof.Proof.Gen.DiffRefIdeal.Run
public import proofs.«01_k».proof.Proof.DiffValue
public import proofs.«01_k».proof.Proof.DiffPre
public import Idealize.ShloMosaic.Lib.Quiescent
public import Idealize.ShloMosaic.Adequacy
public import Idealize.ShloMosaic.Init

@[expose] public section

set_option maxRecDepth 16384

noncomputable section

namespace Cert.DiffClaims

open Idealize.ShloMosaic Idealize.ShloMosaic.TcCoe Idealize.SL.Sem

/-- The constant that stands for the mask is named and reads as −∞. -/
theorem preserves : Cert.preserves_Diff_DiffIdeal :=
  IdealRules.named_const.statement Cert.DiffIdeal.κ "mask" .f32 0xF149F2CA#32 ⊥ rfl

/-- The reference terminates, keeps its arguments and leaves every counter at zero. -/
theorem frame_ref : Cert.quiescent_DiffRefIdeal := fun m ρ _ =>
  (θ_run Cert.DiffRefIdeal.defs _ _).mono
    (fun r h => ⟨fun c => (h c).2, Idealize.ShloMosaic.sem_eq_zero_of_no_sems (by decide) r.2⟩)
    (Cert.DiffRefIdeal.Value.run (F := Ideal) m ρ)

/-- From equal arguments, with the values and the vectors of the weight finite, the kernel and the reference end with
    equal results. -/
theorem algebraic [Cert.Pre_finite_diff.Facts] : Cert.algebraic_DiffIdeal_DiffRefIdeal_pre_finite_diff := by
  intro m ρ m' ρ' hpre hagree
  refine ⟨fun c => Cert.DiffIdeal.RefValue.G m c, Cert.DiffIdeal.RefValue.run m ρ, ?_⟩
  refine (θ_run Cert.DiffRefIdeal.defs _ _).mono (fun r h c => ⟨(h c).1.trans ?_, (h c).2⟩)
    (Cert.DiffRefIdeal.Value.run (F := Ideal) m' ρ')
  obtain ⟨h0, h1, h2, h3⟩ := hagree c
  rw [Cert.DiffRefIdeal.Read.val_main_v67_eq, h0, h1, h2, h3]
  funext i
  obtain ⟨b, p, w, rfl⟩ : ∃ (b : Fin 2) (p : Fin 8192) (w : Fin 256), i = ix3 b p w :=
    ⟨⟨(i 0).val, (i 0).isLt⟩, ⟨(i 1).val, (i 1).isLt⟩, ⟨(i 2).val, (i 2).isLt⟩, funext fun k => Fin.ext (by
      match k with
      | ⟨0, _⟩ => rfl
      | ⟨1, _⟩ => rfl
      | ⟨2, _⟩ => rfl)⟩
  exact Cert.DiffRefIdeal.RefValue.ref_apply _ _ (Cert.DiffPre.finite_of_pre _ _ _ _ (hpre c)) b p w

end Cert.DiffClaims

end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FoxIdeal.Value
public import proofs.«01_k».proof.Proof.Gen.FfnIdeal.Value
public import proofs.«01_k».proof.Proof.Gen.FoxRefIdeal.Run
public import proofs.«01_k».proof.Proof.Gen.FoxRefIdeal.Read
public import proofs.«01_k».proof.Proof.Gen.FfnRefIdeal.Run
public import proofs.«01_k».proof.Proof.Gen.FfnRefIdeal.Read
public import proofs.«01_k».proof.Proof.FoxClaims
public import proofs.«01_k».proof.Proof.FfnClaims
public import proofs.«01_k».proof.Proof.MergeClaims
public import proofs.«01_k».proof.Proof.DiffClaims
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Diff
public import proofs.«01_k».proof.Proof.Gen.Diff.Skeleton
public import proofs.«01_k».proof.Proof.Gen.Diff.Loops
public import proofs.«01_k».proof.Proof.Gen.Diff.Launch
public import proofs.«01_k».proof.Proof.Gen.Diff.Points
public import proofs.«01_k».proof.Proof.Gen.Diff.Frame
public import proofs.«01_k».proof.Proof.Gen.DiffIdeal
public import proofs.«01_k».proof.Proof.Gen.DiffIdeal.Skeleton
public import proofs.«01_k».proof.Proof.Gen.DiffIdeal.Loops
public import proofs.«01_k».proof.Proof.Gen.DiffIdeal.Launch
public import proofs.«01_k».proof.Proof.Gen.DiffIdeal.Points
public import proofs.«01_k».proof.Proof.Gen.DiffIdeal.Frame
public import proofs.«01_k».proof.Proof.Gen.DiffRefIdeal
public import proofs.«01_k».proof.Proof.Gen.DiffIdeal.Value
public import proofs.«01_k».proof.Proof.Gen.DiffRefIdeal.Run
public import proofs.«01_k».proof.Proof.Gen.DiffRefIdeal.Read
public import Idealize.ShloMosaic.Adequacy
public import Idealize.ShloMosaic.Init

@[expose] public section

noncomputable section

namespace Cert.Proof

open Idealize.ShloMosaic Idealize.SL.Sem Cert.Fox

/-- Every claim of the certificate, in the order in which it lists them. -/
theorem claim : Cert.Claim := ⟨Cert.Fox.Gen.facts, Cert.FoxIdeal.Gen.facts, Cert.FoxRefIdeal.Gen.facts, Cert.Ffn.Gen.facts, Cert.FfnIdeal.Gen.facts, Cert.FfnRefIdeal.Gen.facts,
  Cert.Merge.Gen.facts, Cert.MergeIdeal.Gen.facts, Cert.MergeRefIdeal.Gen.facts, Cert.Diff.Gen.facts, Cert.DiffIdeal.Gen.facts, Cert.DiffRefIdeal.Gen.facts,
  Cert.DiffPre.facts,
  fun m ρ _ => Cert.Fox.Gen.frame m ρ,
  fun m ρ _ => Cert.FoxIdeal.Gen.frame m ρ,
  Cert.FoxClaims.frame_ref,
  fun m ρ _ => Cert.Ffn.Gen.frame m ρ,
  fun m ρ _ => Cert.FfnIdeal.Gen.frame m ρ,
  Cert.FfnClaims.frame_ref,
  fun m ρ _ => Cert.Merge.Gen.frame m ρ,
  fun m ρ _ => Cert.MergeIdeal.Gen.frame m ρ,
  Cert.MergeClaims.frame_ref,
  fun m ρ _ => Cert.Diff.Gen.frame m ρ,
  fun m ρ _ => Cert.DiffIdeal.Gen.frame m ρ,
  fun m ρ _ => Cert.DiffIdeal.Gen.frame m ρ,
  Cert.DiffClaims.frame_ref,
  fun m ρ _ => Cert.DiffClaims.frame_ref m ρ trivial,
  Cert.FoxClaims.preserves,
  Cert.FoxClaims.algebraic,
  trivial,
  Cert.FfnClaims.algebraic,
  trivial,
  Cert.MergeClaims.algebraic,
  Cert.DiffClaims.preserves,
  @Cert.DiffClaims.algebraic Cert.DiffPre.facts⟩

end Cert.Proof

end
